-- ==== Defs.lean ====
def Pre_FfnDownBwd (m : (ℓ : Loc Cert.FfnDownBwd.nD Cert.FfnDownBwd.τ Cert.FfnDownBwd.sig) → Buf (Elt Bits) ℓ) : Prop :=
  True

def Pre_FfnDownBwdIdeal (m : (ℓ : Loc Cert.FfnDownBwdIdeal.nD Cert.FfnDownBwdIdeal.τ Cert.FfnDownBwdIdeal.sig) → Buf (Elt Ideal) ℓ) : Prop :=
  True

def Pre_FfnDownBwdIdeal_down_finite [hPre_down_finite : Cert.Pre_down_finite.Facts] (m : (ℓ : Loc Cert.FfnDownBwdIdeal.nD Cert.FfnDownBwdIdeal.τ Cert.FfnDownBwdIdeal.sig) → Buf (Elt Ideal) ℓ) : Prop :=
  ∀ c : Dev Cert.FfnDownBwdIdeal.nD,
    (Cert.Pre_down_finite.fn (F := Ideal) (m ((c.tc : Thread Cert.FfnDownBwdIdeal.nD Cert.FfnDownBwdIdeal.τ).loc Cert.FfnDownBwdIdeal.main_arg0)) (m ((c.tc : Thread Cert.FfnDownBwdIdeal.nD Cert.FfnDownBwdIdeal.τ).loc Cert.FfnDownBwdIdeal.main_arg1)) (m ((c.tc : Thread Cert.FfnDownBwdIdeal.nD Cert.FfnDownBwdIdeal.τ).loc Cert.FfnDownBwdIdeal.main_arg2)) (m ((c.tc : Thread Cert.FfnDownBwdIdeal.nD Cert.FfnDownBwdIdeal.τ).loc Cert.FfnDownBwdIdeal.main_arg3)) (m ((c.tc : Thread Cert.FfnDownBwdIdeal.nD Cert.FfnDownBwdIdeal.τ).loc Cert.FfnDownBwdIdeal.main_arg4))) = (fun _ => 1#1)

def Pre_FfnDownGradIdeal (m : (ℓ : Loc Cert.FfnDownGradIdeal.nD Cert.FfnDownGradIdeal.τ Cert.FfnDownGradIdeal.sig) → Buf (Elt Ideal) ℓ) : Prop :=
  True

def Pre_FfnDownGradIdeal_down_finite [hPre_down_finite : Cert.Pre_down_finite.Facts] (m : (ℓ : Loc Cert.FfnDownGradIdeal.nD Cert.FfnDownGradIdeal.τ Cert.FfnDownGradIdeal.sig) → Buf (Elt Ideal) ℓ) : Prop :=
  ∀ c : Dev Cert.FfnDownGradIdeal.nD,
    (Cert.Pre_down_finite.fn (F := Ideal) (m ((c.tc : Thread Cert.FfnDownGradIdeal.nD Cert.FfnDownGradIdeal.τ).loc Cert.FfnDownGradIdeal.main_arg0)) (m ((c.tc : Thread Cert.FfnDownGradIdeal.nD Cert.FfnDownGradIdeal.τ).loc Cert.FfnDownGradIdeal.main_arg1)) (m ((c.tc : Thread Cert.FfnDownGradIdeal.nD Cert.FfnDownGradIdeal.τ).loc Cert.FfnDownGradIdeal.main_arg2)) (m ((c.tc : Thread Cert.FfnDownGradIdeal.nD Cert.FfnDownGradIdeal.τ).loc Cert.FfnDownGradIdeal.main_arg3)) (m ((c.tc : Thread Cert.FfnDownGradIdeal.nD Cert.FfnDownGradIdeal.τ).loc Cert.FfnDownGradIdeal.main_arg4))) = (fun _ => 1#1)

def Pre_FfnUpBwdX (m : (ℓ : Loc Cert.FfnUpBwdX.nD Cert.FfnUpBwdX.τ Cert.FfnUpBwdX.sig) → Buf (Elt Bits) ℓ) : Prop :=
  True

def Pre_FfnUpBwdXIdeal (m : (ℓ : Loc Cert.FfnUpBwdXIdeal.nD Cert.FfnUpBwdXIdeal.τ Cert.FfnUpBwdXIdeal.sig) → Buf (Elt Ideal) ℓ) : Prop :=
  True

def Pre_FfnUpGradXIdeal (m : (ℓ : Loc Cert.FfnUpGradXIdeal.nD Cert.FfnUpGradXIdeal.τ Cert.FfnUpGradXIdeal.sig) → Buf (Elt Ideal) ℓ) : Prop :=
  True

def Pre_FfnUpBwdW (m : (ℓ : Loc Cert.FfnUpBwdW.nD Cert.FfnUpBwdW.τ Cert.FfnUpBwdW.sig) → Buf (Elt Bits) ℓ) : Prop :=
  True

def Pre_FfnUpBwdWIdeal (m : (ℓ : Loc Cert.FfnUpBwdWIdeal.nD Cert.FfnUpBwdWIdeal.τ Cert.FfnUpBwdWIdeal.sig) → Buf (Elt Ideal) ℓ) : Prop :=
  True

def Pre_FfnUpGradWIdeal (m : (ℓ : Loc Cert.FfnUpGradWIdeal.nD Cert.FfnUpGradWIdeal.τ Cert.FfnUpGradWIdeal.sig) → Buf (Elt Ideal) ℓ) : Prop :=
  True

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjGradIdeal (m : (ℓ : Loc Cert.InProjGradIdeal.nD Cert.InProjGradIdeal.τ Cert.InProjGradIdeal.sig) → Buf (Elt Ideal) ℓ) : Prop :=
  True

def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_flash_finite [hPre_flash_finite : Cert.Pre_flash_finite.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_flash_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))) = (fun _ => 1#1)

def Pre_AttentionGradIdeal (m : (ℓ : Loc Cert.AttentionGradIdeal.nD Cert.AttentionGradIdeal.τ Cert.AttentionGradIdeal.sig) → Buf (Elt Ideal) ℓ) : Prop :=
  True

def Pre_AttentionGradIdeal_flash_finite [hPre_flash_finite : Cert.Pre_flash_finite.Facts] (m : (ℓ : Loc Cert.AttentionGradIdeal.nD Cert.AttentionGradIdeal.τ Cert.AttentionGradIdeal.sig) → Buf (Elt Ideal) ℓ) : Prop :=
  ∀ c : Dev Cert.AttentionGradIdeal.nD,
    (Cert.Pre_flash_finite.fn (F := Ideal) (m ((c.tc : Thread Cert.AttentionGradIdeal.nD Cert.AttentionGradIdeal.τ).loc Cert.AttentionGradIdeal.main_arg0)) (m ((c.tc : Thread Cert.AttentionGradIdeal.nD Cert.AttentionGradIdeal.τ).loc Cert.AttentionGradIdeal.main_arg1)) (m ((c.tc : Thread Cert.AttentionGradIdeal.nD Cert.AttentionGradIdeal.τ).loc Cert.AttentionGradIdeal.main_arg2)) (m ((c.tc : Thread Cert.AttentionGradIdeal.nD Cert.AttentionGradIdeal.τ).loc Cert.AttentionGradIdeal.main_arg3))) = (fun _ => 1#1)

def quiescent_FfnDownBwd [hFfnDownBwd : Cert.FfnDownBwd.Facts] : Prop :=
  ∀ (m : (ℓ : Loc Cert.FfnDownBwd.nD Cert.FfnDownBwd.τ Cert.FfnDownBwd.sig) → Buf (Elt Bits) ℓ) (g : Dev Cert.FfnDownBwd.nD → PrngReg), Pre_FfnDownBwd m →
    θ_run (Cert.FfnDownBwd.defs (F := Bits)) (onTc (τ := Cert.FfnDownBwd.τ) (Cert.FfnDownBwd.main (F := Bits))) ⟨m, fun _ => 0, g⟩ (fun r => (∀ c : Dev Cert.FfnDownBwd.nD,
      r.2.mem ((c.tc : Thread Cert.FfnDownBwd.nD Cert.FfnDownBwd.τ).loc Cert.FfnDownBwd.main_arg0) = m ((c.tc : Thread Cert.FfnDownBwd.nD Cert.FfnDownBwd.τ).loc Cert.FfnDownBwd.main_arg0)
      ∧ r.2.mem ((c.tc : Thread Cert.FfnDownBwd.nD Cert.FfnDownBwd.τ).loc Cert.FfnDownBwd.main_arg1) = m ((c.tc : Thread Cert.FfnDownBwd.nD Cert.FfnDownBwd.τ).loc Cert.FfnDownBwd.main_arg1)
      ∧ r.2.mem ((c.tc : Thread Cert.FfnDownBwd.nD Cert.FfnDownBwd.τ).loc Cert.FfnDownBwd.main_arg2) = m ((c.tc : Thread Cert.FfnDownBwd.nD Cert.FfnDownBwd.τ).loc Cert.FfnDownBwd.main_arg2)
      ∧ r.2.mem ((c.tc : Thread Cert.FfnDownBwd.nD Cert.FfnDownBwd.τ).loc Cert.FfnDownBwd.main_arg3) = m ((c.tc : Thread Cert.FfnDownBwd.nD Cert.FfnDownBwd.τ).loc Cert.FfnDownBwd.main_arg3)
      ∧ r.2.mem ((c.tc : Thread Cert.FfnDownBwd.nD Cert.FfnDownBwd.τ).loc Cert.FfnDownBwd.main_arg4) = m ((c.tc : Thread Cert.FfnDownBwd.nD Cert.FfnDownBwd.τ).loc Cert.FfnDownBwd.main_arg4))
      ∧ r.2.sem = fun _ => 0)

def quiescent_FfnDownBwdIdeal [hFfnDownBwdIdeal : Cert.FfnDownBwdIdeal.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2)
      ∧ r.2.mem ((c.tc : Thread Cert.FfnDownBwdIdeal.nD Cert.FfnDownBwdIdeal.τ).loc Cert.FfnDownBwdIdeal.main_arg3) = m ((c.tc : Thread Cert.FfnDownBwdIdeal.nD Cert.FfnDownBwdIdeal.τ).loc Cert.FfnDownBwdIdeal.main_arg3)
      ∧ r.2.mem ((c.tc : Thread Cert.FfnDownBwdIdeal.nD Cert.FfnDownBwdIdeal.τ).loc Cert.FfnDownBwdIdeal.main_arg4) = m ((c.tc : Thread Cert.FfnDownBwdIdeal.nD Cert.FfnDownBwdIdeal.τ).loc Cert.FfnDownBwdIdeal.main_arg4))
      ∧ r.2.sem = fun _ => 0)

def quiescent_FfnDownBwdIdeal_pre_down_finite [hFfnDownBwdIdeal : Cert.FfnDownBwdIdeal.Facts] [hPre_down_finite : Cert.Pre_down_finite.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal_down_finite m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2)
      ∧ r.2.mem ((c.tc : Thread Cert.FfnDownBwdIdeal.nD Cert.FfnDownBwdIdeal.τ).loc Cert.FfnDownBwdIdeal.main_arg3) = m ((c.tc : Thread Cert.FfnDownBwdIdeal.nD Cert.FfnDownBwdIdeal.τ).loc Cert.FfnDownBwdIdeal.main_arg3)
      ∧ r.2.mem ((c.tc : Thread Cert.FfnDownBwdIdeal.nD Cert.FfnDownBwdIdeal.τ).loc Cert.FfnDownBwdIdeal.main_arg4) = m ((c.tc : Thread Cert.FfnDownBwdIdeal.nD Cert.FfnDownBwdIdeal.τ).loc Cert.FfnDownBwdIdeal.main_arg4))
      ∧ r.2.sem = fun _ => 0)

def quiescent_FfnDownGradIdeal [hFfnDownGradIdeal : Cert.FfnDownGradIdeal.Facts] : Prop :=
  ∀ (m : (ℓ : Loc Cert.FfnDownGradIdeal.nD Cert.FfnDownGradIdeal.τ Cert.FfnDownGradIdeal.sig) → Buf (Elt Ideal) ℓ) (g : Dev Cert.FfnDownGradIdeal.nD → PrngReg), Pre_FfnDownGradIdeal m →
    θ_run (Cert.FfnDownGradIdeal.defs (F := Ideal)) (onTc (τ := Cert.FfnDownGradIdeal.τ) (Cert.FfnDownGradIdeal.main (F := Ideal))) ⟨m, fun _ => 0, g⟩ (fun r => (∀ c : Dev Cert.FfnDownGradIdeal.nD,
      r.2.mem ((c.tc : Thread Cert.FfnDownGradIdeal.nD Cert.FfnDownGradIdeal.τ).loc Cert.FfnDownGradIdeal.main_arg0) = m ((c.tc : Thread Cert.FfnDownGradIdeal.nD Cert.FfnDownGradIdeal.τ).loc Cert.FfnDownGradIdeal.main_arg0)
      ∧ r.2.mem ((c.tc : Thread Cert.FfnDownGradIdeal.nD Cert.FfnDownGradIdeal.τ).loc Cert.FfnDownGradIdeal.main_arg1) = m ((c.tc : Thread Cert.FfnDownGradIdeal.nD Cert.FfnDownGradIdeal.τ).loc Cert.FfnDownGradIdeal.main_arg1)
      ∧ r.2.mem ((c.tc : Thread Cert.FfnDownGradIdeal.nD Cert.FfnDownGradIdeal.τ).loc Cert.FfnDownGradIdeal.main_arg2) = m ((c.tc : Thread Cert.FfnDownGradIdeal.nD Cert.FfnDownGradIdeal.τ).loc Cert.FfnDownGradIdeal.main_arg2)
      ∧ r.2.mem ((c.tc : Thread Cert.FfnDownGradIdeal.nD Cert.FfnDownGradIdeal.τ).loc Cert.FfnDownGradIdeal.main_arg3) = m ((c.tc : Thread Cert.FfnDownGradIdeal.nD Cert.FfnDownGradIdeal.τ).loc Cert.FfnDownGradIdeal.main_arg3)
      ∧ r.2.mem ((c.tc : Thread Cert.FfnDownGradIdeal.nD Cert.FfnDownGradIdeal.τ).loc Cert.FfnDownGradIdeal.main_arg4) = m ((c.tc : Thread Cert.FfnDownGradIdeal.nD Cert.FfnDownGradIdeal.τ).loc Cert.FfnDownGradIdeal.main_arg4))
      ∧ r.2.sem = fun _ => 0)

def quiescent_FfnDownGradIdeal_pre_down_finite [hFfnDownGradIdeal : Cert.FfnDownGradIdeal.Facts] [hPre_down_finite : Cert.Pre_down_finite.Facts] : Prop :=
  ∀ (m : (ℓ : Loc Cert.FfnDownGradIdeal.nD Cert.FfnDownGradIdeal.τ Cert.FfnDownGradIdeal.sig) → Buf (Elt Ideal) ℓ) (g : Dev Cert.FfnDownGradIdeal.nD → PrngReg), Pre_FfnDownGradIdeal_down_finite m →
    θ_run (Cert.FfnDownGradIdeal.defs (F := Ideal)) (onTc (τ := Cert.FfnDownGradIdeal.τ) (Cert.FfnDownGradIdeal.main (F := Ideal))) ⟨m, fun _ => 0, g⟩ (fun r => (∀ c : Dev Cert.FfnDownGradIdeal.nD,
      r.2.mem ((c.tc : Thread Cert.FfnDownGradIdeal.nD Cert.FfnDownGradIdeal.τ).loc Cert.FfnDownGradIdeal.main_arg0) = m ((c.tc : Thread Cert.FfnDownGradIdeal.nD Cert.FfnDownGradIdeal.τ).loc Cert.FfnDownGradIdeal.main_arg0)
      ∧ r.2.mem ((c.tc : Thread Cert.FfnDownGradIdeal.nD Cert.FfnDownGradIdeal.τ).loc Cert.FfnDownGradIdeal.main_arg1) = m ((c.tc : Thread Cert.FfnDownGradIdeal.nD Cert.FfnDownGradIdeal.τ).loc Cert.FfnDownGradIdeal.main_arg1)
      ∧ r.2.mem ((c.tc : Thread Cert.FfnDownGradIdeal.nD Cert.FfnDownGradIdeal.τ).loc Cert.FfnDownGradIdeal.main_arg2) = m ((c.tc : Thread Cert.FfnDownGradIdeal.nD Cert.FfnDownGradIdeal.τ).loc Cert.FfnDownGradIdeal.main_arg2)
      ∧ r.2.mem ((c.tc : Thread Cert.FfnDownGradIdeal.nD Cert.FfnDownGradIdeal.τ).loc Cert.FfnDownGradIdeal.main_arg3) = m ((c.tc : Thread Cert.FfnDownGradIdeal.nD Cert.FfnDownGradIdeal.τ).loc Cert.FfnDownGradIdeal.main_arg3)
      ∧ r.2.mem ((c.tc : Thread Cert.FfnDownGradIdeal.nD Cert.FfnDownGradIdeal.τ).loc Cert.FfnDownGradIdeal.main_arg4) = m ((c.tc : Thread Cert.FfnDownGradIdeal.nD Cert.FfnDownGradIdeal.τ).loc Cert.FfnDownGradIdeal.main_arg4))
      ∧ r.2.sem = fun _ => 0)

def quiescent_FfnUpBwdX [hFfnUpBwdX : Cert.FfnUpBwdX.Facts] : Prop :=
  ∀ (m : (ℓ : Loc Cert.FfnUpBwdX.nD Cert.FfnUpBwdX.τ Cert.FfnUpBwdX.sig) → Buf (Elt Bits) ℓ) (g : Dev Cert.FfnUpBwdX.nD → PrngReg), Pre_FfnUpBwdX m →
    θ_run (Cert.FfnUpBwdX.defs (F := Bits)) (onTc (τ := Cert.FfnUpBwdX.τ) (Cert.FfnUpBwdX.main (F := Bits))) ⟨m, fun _ => 0, g⟩ (fun r => (∀ c : Dev Cert.FfnUpBwdX.nD,
      r.2.mem ((c.tc : Thread Cert.FfnUpBwdX.nD Cert.FfnUpBwdX.τ).loc Cert.FfnUpBwdX.main_arg0) = m ((c.tc : Thread Cert.FfnUpBwdX.nD Cert.FfnUpBwdX.τ).loc Cert.FfnUpBwdX.main_arg0)
      ∧ r.2.mem ((c.tc : Thread Cert.FfnUpBwdX.nD Cert.FfnUpBwdX.τ).loc Cert.FfnUpBwdX.main_arg1) = m ((c.tc : Thread Cert.FfnUpBwdX.nD Cert.FfnUpBwdX.τ).loc Cert.FfnUpBwdX.main_arg1)
      ∧ r.2.mem ((c.tc : Thread Cert.FfnUpBwdX.nD Cert.FfnUpBwdX.τ).loc Cert.FfnUpBwdX.main_arg2) = m ((c.tc : Thread Cert.FfnUpBwdX.nD Cert.FfnUpBwdX.τ).loc Cert.FfnUpBwdX.main_arg2)
      ∧ r.2.mem ((c.tc : Thread Cert.FfnUpBwdX.nD Cert.FfnUpBwdX.τ).loc Cert.FfnUpBwdX.main_arg3) = m ((c.tc : Thread Cert.FfnUpBwdX.nD Cert.FfnUpBwdX.τ).loc Cert.FfnUpBwdX.main_arg3)
      ∧ r.2.mem ((c.tc : Thread Cert.FfnUpBwdX.nD Cert.FfnUpBwdX.τ).loc Cert.FfnUpBwdX.main_arg4) = m ((c.tc : Thread Cert.FfnUpBwdX.nD Cert.FfnUpBwdX.τ).loc Cert.FfnUpBwdX.main_arg4)
      ∧ r.2.mem ((c.tc : Thread Cert.FfnUpBwdX.nD Cert.FfnUpBwdX.τ).loc Cert.FfnUpBwdX.main_arg5) = m ((c.tc : Thread Cert.FfnUpBwdX.nD Cert.FfnUpBwdX.τ).loc Cert.FfnUpBwdX.main_arg5))
      ∧ r.2.sem = fun _ => 0)

def quiescent_FfnUpBwdXIdeal [hFfnUpBwdXIdeal : Cert.FfnUpBwdXIdeal.Facts] : Prop :=
  ∀ (m : (ℓ : Loc Cert.FfnUpBwdXIdeal.nD Cert.FfnUpBwdXIdeal.τ Cert.FfnUpBwdXIdeal.sig) → Buf (Elt Ideal) ℓ) (g : Dev Cert.FfnUpBwdXIdeal.nD → PrngReg), Pre_FfnUpBwdXIdeal m →
    θ_run (Cert.FfnUpBwdXIdeal.defs (F := Ideal)) (onTc (τ := Cert.FfnUpBwdXIdeal.τ) (Cert.FfnUpBwdXIdeal.main (F := Ideal))) ⟨m, fun _ => 0, g⟩ (fun r => (∀ c : Dev Cert.FfnUpBwdXIdeal.nD,
      r.2.mem ((c.tc : Thread Cert.FfnUpBwdXIdeal.nD Cert.FfnUpBwdXIdeal.τ).loc Cert.FfnUpBwdXIdeal.main_arg0) = m ((c.tc : Thread Cert.FfnUpBwdXIdeal.nD Cert.FfnUpBwdXIdeal.τ).loc Cert.FfnUpBwdXIdeal.main_arg0)
      ∧ r.2.mem ((c.tc : Thread Cert.FfnUpBwdXIdeal.nD Cert.FfnUpBwdXIdeal.τ).loc Cert.FfnUpBwdXIdeal.main_arg1) = m ((c.tc : Thread Cert.FfnUpBwdXIdeal.nD Cert.FfnUpBwdXIdeal.τ).loc Cert.FfnUpBwdXIdeal.main_arg1)
      ∧ r.2.mem ((c.tc : Thread Cert.FfnUpBwdXIdeal.nD Cert.FfnUpBwdXIdeal.τ).loc Cert.FfnUpBwdXIdeal.main_arg2) = m ((c.tc : Thread Cert.FfnUpBwdXIdeal.nD Cert.FfnUpBwdXIdeal.τ).loc Cert.FfnUpBwdXIdeal.main_arg2)
      ∧ r.2.mem ((c.tc : Thread Cert.FfnUpBwdXIdeal.nD Cert.FfnUpBwdXIdeal.τ).loc Cert.FfnUpBwdXIdeal.main_arg3) = m ((c.tc : Thread Cert.FfnUpBwdXIdeal.nD Cert.FfnUpBwdXIdeal.τ).loc Cert.FfnUpBwdXIdeal.main_arg3)
      ∧ r.2.mem ((c.tc : Thread Cert.FfnUpBwdXIdeal.nD Cert.FfnUpBwdXIdeal.τ).loc Cert.FfnUpBwdXIdeal.main_arg4) = m ((c.tc : Thread Cert.FfnUpBwdXIdeal.nD Cert.FfnUpBwdXIdeal.τ).loc Cert.FfnUpBwdXIdeal.main_arg4)
      ∧ r.2.mem ((c.tc : Thread Cert.FfnUpBwdXIdeal.nD Cert.FfnUpBwdXIdeal.τ).loc Cert.FfnUpBwdXIdeal.main_arg5) = m ((c.tc : Thread Cert.FfnUpBwdXIdeal.nD Cert.FfnUpBwdXIdeal.τ).loc Cert.FfnUpBwdXIdeal.main_arg5))
      ∧ r.2.sem = fun _ => 0)

def quiescent_FfnUpGradXIdeal [hFfnUpGradXIdeal : Cert.FfnUpGradXIdeal.Facts] : Prop :=
  ∀ (m : (ℓ : Loc Cert.FfnUpGradXIdeal.nD Cert.FfnUpGradXIdeal.τ Cert.FfnUpGradXIdeal.sig) → Buf (Elt Ideal) ℓ) (g : Dev Cert.FfnUpGradXIdeal.nD → PrngReg), Pre_FfnUpGradXIdeal m →
    θ_run (Cert.FfnUpGradXIdeal.defs (F := Ideal)) (onTc (τ := Cert.FfnUpGradXIdeal.τ) (Cert.FfnUpGradXIdeal.main (F := Ideal))) ⟨m, fun _ => 0, g⟩ (fun r => (∀ c : Dev Cert.FfnUpGradXIdeal.nD,
      r.2.mem ((c.tc : Thread Cert.FfnUpGradXIdeal.nD Cert.FfnUpGradXIdeal.τ).loc Cert.FfnUpGradXIdeal.main_arg0) = m ((c.tc : Thread Cert.FfnUpGradXIdeal.nD Cert.FfnUpGradXIdeal.τ).loc Cert.FfnUpGradXIdeal.main_arg0)
      ∧ r.2.mem ((c.tc : Thread Cert.FfnUpGradXIdeal.nD Cert.FfnUpGradXIdeal.τ).loc Cert.FfnUpGradXIdeal.main_arg1) = m ((c.tc : Thread Cert.FfnUpGradXIdeal.nD Cert.FfnUpGradXIdeal.τ).loc Cert.FfnUpGradXIdeal.main_arg1)
      ∧ r.2.mem ((c.tc : Thread Cert.FfnUpGradXIdeal.nD Cert.FfnUpGradXIdeal.τ).loc Cert.FfnUpGradXIdeal.main_arg2) = m ((c.tc : Thread Cert.FfnUpGradXIdeal.nD Cert.FfnUpGradXIdeal.τ).loc Cert.FfnUpGradXIdeal.main_arg2)
      ∧ r.2.mem ((c.tc : Thread Cert.FfnUpGradXIdeal.nD Cert.FfnUpGradXIdeal.τ).loc Cert.FfnUpGradXIdeal.main_arg3) = m ((c.tc : Thread Cert.FfnUpGradXIdeal.nD Cert.FfnUpGradXIdeal.τ).loc Cert.FfnUpGradXIdeal.main_arg3)
      ∧ r.2.mem ((c.tc : Thread Cert.FfnUpGradXIdeal.nD Cert.FfnUpGradXIdeal.τ).loc Cert.FfnUpGradXIdeal.main_arg4) = m ((c.tc : Thread Cert.FfnUpGradXIdeal.nD Cert.FfnUpGradXIdeal.τ).loc Cert.FfnUpGradXIdeal.main_arg4)
      ∧ r.2.mem ((c.tc : Thread Cert.FfnUpGradXIdeal.nD Cert.FfnUpGradXIdeal.τ).loc Cert.FfnUpGradXIdeal.main_arg5) = m ((c.tc : Thread Cert.FfnUpGradXIdeal.nD Cert.FfnUpGradXIdeal.τ).loc Cert.FfnUpGradXIdeal.main_arg5))
      ∧ r.2.sem = fun _ => 0)

def quiescent_FfnUpBwdW [hFfnUpBwdW : Cert.FfnUpBwdW.Facts] : Prop :=
  ∀ (m : (ℓ : Loc Cert.FfnUpBwdW.nD Cert.FfnUpBwdW.τ Cert.FfnUpBwdW.sig) → Buf (Elt Bits) ℓ) (g : Dev Cert.FfnUpBwdW.nD → PrngReg), Pre_FfnUpBwdW m →
    θ_run (Cert.FfnUpBwdW.defs (F := Bits)) (onTc (τ := Cert.FfnUpBwdW.τ) (Cert.FfnUpBwdW.main (F := Bits))) ⟨m, fun _ => 0, g⟩ (fun r => (∀ c : Dev Cert.FfnUpBwdW.nD,
      r.2.mem ((c.tc : Thread Cert.FfnUpBwdW.nD Cert.FfnUpBwdW.τ).loc Cert.FfnUpBwdW.main_arg0) = m ((c.tc : Thread Cert.FfnUpBwdW.nD Cert.FfnUpBwdW.τ).loc Cert.FfnUpBwdW.main_arg0)
      ∧ r.2.mem ((c.tc : Thread Cert.FfnUpBwdW.nD Cert.FfnUpBwdW.τ).loc Cert.FfnUpBwdW.main_arg1) = m ((c.tc : Thread Cert.FfnUpBwdW.nD Cert.FfnUpBwdW.τ).loc Cert.FfnUpBwdW.main_arg1)
      ∧ r.2.mem ((c.tc : Thread Cert.FfnUpBwdW.nD Cert.FfnUpBwdW.τ).loc Cert.FfnUpBwdW.main_arg2) = m ((c.tc : Thread Cert.FfnUpBwdW.nD Cert.FfnUpBwdW.τ).loc Cert.FfnUpBwdW.main_arg2))
      ∧ r.2.sem = fun _ => 0)

def quiescent_FfnUpBwdWIdeal [hFfnUpBwdWIdeal : Cert.FfnUpBwdWIdeal.Facts] : Prop :=
  ∀ (m : (ℓ : Loc Cert.FfnUpBwdWIdeal.nD Cert.FfnUpBwdWIdeal.τ Cert.FfnUpBwdWIdeal.sig) → Buf (Elt Ideal) ℓ) (g : Dev Cert.FfnUpBwdWIdeal.nD → PrngReg), Pre_FfnUpBwdWIdeal m →
    θ_run (Cert.FfnUpBwdWIdeal.defs (F := Ideal)) (onTc (τ := Cert.FfnUpBwdWIdeal.τ) (Cert.FfnUpBwdWIdeal.main (F := Ideal))) ⟨m, fun _ => 0, g⟩ (fun r => (∀ c : Dev Cert.FfnUpBwdWIdeal.nD,
      r.2.mem ((c.tc : Thread Cert.FfnUpBwdWIdeal.nD Cert.FfnUpBwdWIdeal.τ).loc Cert.FfnUpBwdWIdeal.main_arg0) = m ((c.tc : Thread Cert.FfnUpBwdWIdeal.nD Cert.FfnUpBwdWIdeal.τ).loc Cert.FfnUpBwdWIdeal.main_arg0)
      ∧ r.2.mem ((c.tc : Thread Cert.FfnUpBwdWIdeal.nD Cert.FfnUpBwdWIdeal.τ).loc Cert.FfnUpBwdWIdeal.main_arg1) = m ((c.tc : Thread Cert.FfnUpBwdWIdeal.nD Cert.FfnUpBwdWIdeal.τ).loc Cert.FfnUpBwdWIdeal.main_arg1)
      ∧ r.2.mem ((c.tc : Thread Cert.FfnUpBwdWIdeal.nD Cert.FfnUpBwdWIdeal.τ).loc Cert.FfnUpBwdWIdeal.main_arg2) = m ((c.tc : Thread Cert.FfnUpBwdWIdeal.nD Cert.FfnUpBwdWIdeal.τ).loc Cert.FfnUpBwdWIdeal.main_arg2))
      ∧ r.2.sem = fun _ => 0)

def quiescent_FfnUpGradWIdeal [hFfnUpGradWIdeal : Cert.FfnUpGradWIdeal.Facts] : Prop :=
  ∀ (m : (ℓ : Loc Cert.FfnUpGradWIdeal.nD Cert.FfnUpGradWIdeal.τ Cert.FfnUpGradWIdeal.sig) → Buf (Elt Ideal) ℓ) (g : Dev Cert.FfnUpGradWIdeal.nD → PrngReg), Pre_FfnUpGradWIdeal m →
    θ_run (Cert.FfnUpGradWIdeal.defs (F := Ideal)) (onTc (τ := Cert.FfnUpGradWIdeal.τ) (Cert.FfnUpGradWIdeal.main (F := Ideal))) ⟨m, fun _ => 0, g⟩ (fun r => (∀ c : Dev Cert.FfnUpGradWIdeal.nD,
      r.2.mem ((c.tc : Thread Cert.FfnUpGradWIdeal.nD Cert.FfnUpGradWIdeal.τ).loc Cert.FfnUpGradWIdeal.main_arg0) = m ((c.tc : Thread Cert.FfnUpGradWIdeal.nD Cert.FfnUpGradWIdeal.τ).loc Cert.FfnUpGradWIdeal.main_arg0)
      ∧ r.2.mem ((c.tc : Thread Cert.FfnUpGradWIdeal.nD Cert.FfnUpGradWIdeal.τ).loc Cert.FfnUpGradWIdeal.main_arg1) = m ((c.tc : Thread Cert.FfnUpGradWIdeal.nD Cert.FfnUpGradWIdeal.τ).loc Cert.FfnUpGradWIdeal.main_arg1)
      ∧ r.2.mem ((c.tc : Thread Cert.FfnUpGradWIdeal.nD Cert.FfnUpGradWIdeal.τ).loc Cert.FfnUpGradWIdeal.main_arg2) = m ((c.tc : Thread Cert.FfnUpGradWIdeal.nD Cert.FfnUpGradWIdeal.τ).loc Cert.FfnUpGradWIdeal.main_arg2))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ r.2.sem = fun _ => 0)

def quiescent_InProjGradIdeal [hInProjGradIdeal : Cert.InProjGradIdeal.Facts] : Prop :=
  ∀ (m : (ℓ : Loc Cert.InProjGradIdeal.nD Cert.InProjGradIdeal.τ Cert.InProjGradIdeal.sig) → Buf (Elt Ideal) ℓ) (g : Dev Cert.InProjGradIdeal.nD → PrngReg), Pre_InProjGradIdeal m →
    θ_run (Cert.InProjGradIdeal.defs (F := Ideal)) (onTc (τ := Cert.InProjGradIdeal.τ) (Cert.InProjGradIdeal.main (F := Ideal))) ⟨m, fun _ => 0, g⟩ (fun r => (∀ c : Dev Cert.InProjGradIdeal.nD,
      r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
      ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1)
      ∧ r.2.mem ((c.tc : Thread Cert.InProjGradIdeal.nD Cert.InProjGradIdeal.τ).loc Cert.InProjGradIdeal.main_arg2) = m ((c.tc : Thread Cert.InProjGradIdeal.nD Cert.InProjGradIdeal.τ).loc Cert.InProjGradIdeal.main_arg2)
      ∧ r.2.mem ((c.tc : Thread Cert.InProjGradIdeal.nD Cert.InProjGradIdeal.τ).loc Cert.InProjGradIdeal.main_arg3) = m ((c.tc : Thread Cert.InProjGradIdeal.nD Cert.InProjGradIdeal.τ).loc Cert.InProjGradIdeal.main_arg3)
      ∧ r.2.mem ((c.tc : Thread Cert.InProjGradIdeal.nD Cert.InProjGradIdeal.τ).loc Cert.InProjGradIdeal.main_arg4) = m ((c.tc : Thread Cert.InProjGradIdeal.nD Cert.InProjGradIdeal.τ).loc Cert.InProjGradIdeal.main_arg4)
      ∧ r.2.mem ((c.tc : Thread Cert.InProjGradIdeal.nD Cert.InProjGradIdeal.τ).loc Cert.InProjGradIdeal.main_arg5) = m ((c.tc : Thread Cert.InProjGradIdeal.nD Cert.InProjGradIdeal.τ).loc Cert.InProjGradIdeal.main_arg5)
      ∧ r.2.mem ((c.tc : Thread Cert.InProjGradIdeal.nD Cert.InProjGradIdeal.τ).loc Cert.InProjGradIdeal.main_arg6) = m ((c.tc : Thread Cert.InProjGradIdeal.nD Cert.InProjGradIdeal.τ).loc Cert.InProjGradIdeal.main_arg6)
      ∧ r.2.mem ((c.tc : Thread Cert.InProjGradIdeal.nD Cert.InProjGradIdeal.τ).loc Cert.InProjGradIdeal.main_arg7) = m ((c.tc : Thread Cert.InProjGradIdeal.nD Cert.InProjGradIdeal.τ).loc Cert.InProjGradIdeal.main_arg7))
      ∧ r.2.sem = fun _ => 0)

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdIdeal_pre_flash_finite [hFlashBwdIdeal : Cert.FlashBwdIdeal.Facts] [hPre_flash_finite : Cert.Pre_flash_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_flash_finite m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_AttentionGradIdeal [hAttentionGradIdeal : Cert.AttentionGradIdeal.Facts] : Prop :=
  ∀ (m : (ℓ : Loc Cert.AttentionGradIdeal.nD Cert.AttentionGradIdeal.τ Cert.AttentionGradIdeal.sig) → Buf (Elt Ideal) ℓ) (g : Dev Cert.AttentionGradIdeal.nD → PrngReg), Pre_AttentionGradIdeal m →
    θ_run (Cert.AttentionGradIdeal.defs (F := Ideal)) (onTc (τ := Cert.AttentionGradIdeal.τ) (Cert.AttentionGradIdeal.main (F := Ideal))) ⟨m, fun _ => 0, g⟩ (fun r => (∀ c : Dev Cert.AttentionGradIdeal.nD,
      r.2.mem ((c.tc : Thread Cert.AttentionGradIdeal.nD Cert.AttentionGradIdeal.τ).loc Cert.AttentionGradIdeal.main_arg0) = m ((c.tc : Thread Cert.AttentionGradIdeal.nD Cert.AttentionGradIdeal.τ).loc Cert.AttentionGradIdeal.main_arg0)
      ∧ r.2.mem ((c.tc : Thread Cert.AttentionGradIdeal.nD Cert.AttentionGradIdeal.τ).loc Cert.AttentionGradIdeal.main_arg1) = m ((c.tc : Thread Cert.AttentionGradIdeal.nD Cert.AttentionGradIdeal.τ).loc Cert.AttentionGradIdeal.main_arg1)
      ∧ r.2.mem ((c.tc : Thread Cert.AttentionGradIdeal.nD Cert.AttentionGradIdeal.τ).loc Cert.AttentionGradIdeal.main_arg2) = m ((c.tc : Thread Cert.AttentionGradIdeal.nD Cert.AttentionGradIdeal.τ).loc Cert.AttentionGradIdeal.main_arg2)
      ∧ r.2.mem ((c.tc : Thread Cert.AttentionGradIdeal.nD Cert.AttentionGradIdeal.τ).loc Cert.AttentionGradIdeal.main_arg3) = m ((c.tc : Thread Cert.AttentionGradIdeal.nD Cert.AttentionGradIdeal.τ).loc Cert.AttentionGradIdeal.main_arg3))
      ∧ r.2.sem = fun _ => 0)

def quiescent_AttentionGradIdeal_pre_flash_finite [hAttentionGradIdeal : Cert.AttentionGradIdeal.Facts] [hPre_flash_finite : Cert.Pre_flash_finite.Facts] : Prop :=
  ∀ (m : (ℓ : Loc Cert.AttentionGradIdeal.nD Cert.AttentionGradIdeal.τ Cert.AttentionGradIdeal.sig) → Buf (Elt Ideal) ℓ) (g : Dev Cert.AttentionGradIdeal.nD → PrngReg), Pre_AttentionGradIdeal_flash_finite m →
    θ_run (Cert.AttentionGradIdeal.defs (F := Ideal)) (onTc (τ := Cert.AttentionGradIdeal.τ) (Cert.AttentionGradIdeal.main (F := Ideal))) ⟨m, fun _ => 0, g⟩ (fun r => (∀ c : Dev Cert.AttentionGradIdeal.nD,
      r.2.mem ((c.tc : Thread Cert.AttentionGradIdeal.nD Cert.AttentionGradIdeal.τ).loc Cert.AttentionGradIdeal.main_arg0) = m ((c.tc : Thread Cert.AttentionGradIdeal.nD Cert.AttentionGradIdeal.τ).loc Cert.AttentionGradIdeal.main_arg0)
      ∧ r.2.mem ((c.tc : Thread Cert.AttentionGradIdeal.nD Cert.AttentionGradIdeal.τ).loc Cert.AttentionGradIdeal.main_arg1) = m ((c.tc : Thread Cert.AttentionGradIdeal.nD Cert.AttentionGradIdeal.τ).loc Cert.AttentionGradIdeal.main_arg1)
      ∧ r.2.mem ((c.tc : Thread Cert.AttentionGradIdeal.nD Cert.AttentionGradIdeal.τ).loc Cert.AttentionGradIdeal.main_arg2) = m ((c.tc : Thread Cert.AttentionGradIdeal.nD Cert.AttentionGradIdeal.τ).loc Cert.AttentionGradIdeal.main_arg2)
      ∧ r.2.mem ((c.tc : Thread Cert.AttentionGradIdeal.nD Cert.AttentionGradIdeal.τ).loc Cert.AttentionGradIdeal.main_arg3) = m ((c.tc : Thread Cert.AttentionGradIdeal.nD Cert.AttentionGradIdeal.τ).loc Cert.AttentionGradIdeal.main_arg3))
      ∧ r.2.sem = fun _ => 0)

def preserves_FfnDownBwd_FfnDownBwdIdeal : Prop :=
  True

def algebraic_FfnDownBwdIdeal_FfnDownGradIdeal_pre_down_finite [hFfnDownBwdIdeal : Cert.FfnDownBwdIdeal.Facts] [hFfnDownGradIdeal : Cert.FfnDownGradIdeal.Facts] [hPre_down_finite : Cert.Pre_down_finite.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg)
    (m' : (ℓ : Loc Cert.FfnDownGradIdeal.nD Cert.FfnDownGradIdeal.τ Cert.FfnDownGradIdeal.sig) → Buf (Elt Ideal) ℓ) (g' : Dev Cert.FfnDownGradIdeal.nD → PrngReg), Pre_FfnDownBwdIdeal_down_finite m →
    (∀ c : Dev Cert.FfnDownBwdIdeal.nD,
      m' ((c.tc : Thread Cert.FfnDownGradIdeal.nD Cert.FfnDownGradIdeal.τ).loc Cert.FfnDownGradIdeal.main_arg0) = m ((c.tc : Thread Cert.FfnDownBwdIdeal.nD Cert.FfnDownBwdIdeal.τ).loc Cert.FfnDownBwdIdeal.main_arg0)
      ∧ m' ((c.tc : Thread Cert.FfnDownGradIdeal.nD Cert.FfnDownGradIdeal.τ).loc Cert.FfnDownGradIdeal.main_arg1) = m ((c.tc : Thread Cert.FfnDownBwdIdeal.nD Cert.FfnDownBwdIdeal.τ).loc Cert.FfnDownBwdIdeal.main_arg1)
      ∧ m' ((c.tc : Thread Cert.FfnDownGradIdeal.nD Cert.FfnDownGradIdeal.τ).loc Cert.FfnDownGradIdeal.main_arg2) = m ((c.tc : Thread Cert.FfnDownBwdIdeal.nD Cert.FfnDownBwdIdeal.τ).loc Cert.FfnDownBwdIdeal.main_arg2)
      ∧ m' ((c.tc : Thread Cert.FfnDownGradIdeal.nD Cert.FfnDownGradIdeal.τ).loc Cert.FfnDownGradIdeal.main_arg3) = m ((c.tc : Thread Cert.FfnDownBwdIdeal.nD Cert.FfnDownBwdIdeal.τ).loc Cert.FfnDownBwdIdeal.main_arg3)
      ∧ m' ((c.tc : Thread Cert.FfnDownGradIdeal.nD Cert.FfnDownGradIdeal.τ).loc Cert.FfnDownGradIdeal.main_arg4) = m ((c.tc : Thread Cert.FfnDownBwdIdeal.nD Cert.FfnDownBwdIdeal.τ).loc Cert.FfnDownBwdIdeal.main_arg4)) →
    ∃ (v0 : (c : Dev Cert.FfnDownBwdIdeal.nD) → Buf (Elt Ideal) ((c.tc : Thread Cert.FfnDownBwdIdeal.nD Cert.FfnDownBwdIdeal.τ).loc Cert.FfnDownBwdIdeal.main_v6_0)) (v1 : (c : Dev Cert.FfnDownBwdIdeal.nD) → Buf (Elt Ideal) ((c.tc : Thread Cert.FfnDownBwdIdeal.nD Cert.FfnDownBwdIdeal.τ).loc Cert.FfnDownBwdIdeal.main_v6_1)) (v2 : (c : Dev Cert.FfnDownBwdIdeal.nD) → Buf (Elt Ideal) ((c.tc : Thread Cert.FfnDownBwdIdeal.nD Cert.FfnDownBwdIdeal.τ).loc Cert.FfnDownBwdIdeal.main_v6_2)) (v3 : (c : Dev Cert.FfnDownBwdIdeal.nD) → Buf (Elt Ideal) ((c.tc : Thread Cert.FfnDownBwdIdeal.nD Cert.FfnDownBwdIdeal.τ).loc Cert.FfnDownBwdIdeal.main_v6_3)),
      θ_run (Cert.FfnDownBwdIdeal.defs (F := Ideal)) (onTc (τ := Cert.FfnDownBwdIdeal.τ) (Cert.FfnDownBwdIdeal.main (F := Ideal))) ⟨m, fun _ => 0, g⟩ (fun r => ∀ c : Dev Cert.FfnDownBwdIdeal.nD,
          r.2.mem ((c.tc : Thread Cert.FfnDownBwdIdeal.nD Cert.FfnDownBwdIdeal.τ).loc Cert.FfnDownBwdIdeal.main_v6_0) = v0 c
          ∧ r.2.mem ((c.tc : Thread Cert.FfnDownBwdIdeal.nD Cert.FfnDownBwdIdeal.τ).loc Cert.FfnDownBwdIdeal.main_v6_1) = v1 c
          ∧ r.2.mem ((c.tc : Thread Cert.FfnDownBwdIdeal.nD Cert.FfnDownBwdIdeal.τ).loc Cert.FfnDownBwdIdeal.main_v6_2) = v2 c
          ∧ r.2.mem ((c.tc : Thread Cert.FfnDownBwdIdeal.nD Cert.FfnDownBwdIdeal.τ).loc Cert.FfnDownBwdIdeal.main_v6_3) = v3 c
          ∧ r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
          ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
          ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2)
          ∧ r.2.mem ((c.tc : Thread Cert.FfnDownBwdIdeal.nD Cert.FfnDownBwdIdeal.τ).loc Cert.FfnDownBwdIdeal.main_arg3) = m ((c.tc : Thread Cert.FfnDownBwdIdeal.nD Cert.FfnDownBwdIdeal.τ).loc Cert.FfnDownBwdIdeal.main_arg3)
          ∧ r.2.mem ((c.tc : Thread Cert.FfnDownBwdIdeal.nD Cert.FfnDownBwdIdeal.τ).loc Cert.FfnDownBwdIdeal.main_arg4) = m ((c.tc : Thread Cert.FfnDownBwdIdeal.nD Cert.FfnDownBwdIdeal.τ).loc Cert.FfnDownBwdIdeal.main_arg4))
      ∧ θ_run (Cert.FfnDownGradIdeal.defs (F := Ideal)) (onTc (τ := Cert.FfnDownGradIdeal.τ) (Cert.FfnDownGradIdeal.main (F := Ideal))) ⟨m', fun _ => 0, g'⟩ (fun r => ∀ c : Dev Cert.FfnDownGradIdeal.nD,
          r.2.mem ((c.tc : Thread Cert.FfnDownGradIdeal.nD Cert.FfnDownGradIdeal.τ).loc Cert.FfnDownGradIdeal.main_v80) = v0 c
          ∧ r.2.mem ((c.tc : Thread Cert.FfnDownGradIdeal.nD Cert.FfnDownGradIdeal.τ).loc Cert.FfnDownGradIdeal.main_v34) = v1 c
          ∧ r.2.mem ((c.tc : Thread Cert.FfnDownGradIdeal.nD Cert.FfnDownGradIdeal.τ).loc Cert.FfnDownGradIdeal.main_v82) = v2 c
          ∧ r.2.mem ((c.tc : Thread Cert.FfnDownGradIdeal.nD Cert.FfnDownGradIdeal.τ).loc Cert.FfnDownGradIdeal.main_v83) = v3 c
          ∧ r.2.mem ((c.tc : Thread Cert.FfnDownGradIdeal.nD Cert.FfnDownGradIdeal.τ).loc Cert.FfnDownGradIdeal.main_arg0) = m' ((c.tc : Thread Cert.FfnDownGradIdeal.nD Cert.FfnDownGradIdeal.τ).loc Cert.FfnDownGradIdeal.main_arg0)
          ∧ r.2.mem ((c.tc : Thread Cert.FfnDownGradIdeal.nD Cert.FfnDownGradIdeal.τ).loc Cert.FfnDownGradIdeal.main_arg1) = m' ((c.tc : Thread Cert.FfnDownGradIdeal.nD Cert.FfnDownGradIdeal.τ).loc Cert.FfnDownGradIdeal.main_arg1)
          ∧ r.2.mem ((c.tc : Thread Cert.FfnDownGradIdeal.nD Cert.FfnDownGradIdeal.τ).loc Cert.FfnDownGradIdeal.main_arg2) = m' ((c.tc : Thread Cert.FfnDownGradIdeal.nD Cert.FfnDownGradIdeal.τ).loc Cert.FfnDownGradIdeal.main_arg2)
          ∧ r.2.mem ((c.tc : Thread Cert.FfnDownGradIdeal.nD Cert.FfnDownGradIdeal.τ).loc Cert.FfnDownGradIdeal.main_arg3) = m' ((c.tc : Thread Cert.FfnDownGradIdeal.nD Cert.FfnDownGradIdeal.τ).loc Cert.FfnDownGradIdeal.main_arg3)
          ∧ r.2.mem ((c.tc : Thread Cert.FfnDownGradIdeal.nD Cert.FfnDownGradIdeal.τ).loc Cert.FfnDownGradIdeal.main_arg4) = m' ((c.tc : Thread Cert.FfnDownGradIdeal.nD Cert.FfnDownGradIdeal.τ).loc Cert.FfnDownGradIdeal.main_arg4))

def preserves_FfnUpBwdX_FfnUpBwdXIdeal : Prop :=
  True

def algebraic_FfnUpBwdXIdeal_FfnUpGradXIdeal [hFfnUpBwdXIdeal : Cert.FfnUpBwdXIdeal.Facts] [hFfnUpGradXIdeal : Cert.FfnUpGradXIdeal.Facts] : Prop :=
  ∀ (m : (ℓ : Loc Cert.FfnUpBwdXIdeal.nD Cert.FfnUpBwdXIdeal.τ Cert.FfnUpBwdXIdeal.sig) → Buf (Elt Ideal) ℓ) (g : Dev Cert.FfnUpBwdXIdeal.nD → PrngReg)
    (m' : (ℓ : Loc Cert.FfnUpGradXIdeal.nD Cert.FfnUpGradXIdeal.τ Cert.FfnUpGradXIdeal.sig) → Buf (Elt Ideal) ℓ) (g' : Dev Cert.FfnUpGradXIdeal.nD → PrngReg), Pre_FfnUpBwdXIdeal m →
    (∀ c : Dev Cert.FfnUpBwdXIdeal.nD,
      m' ((c.tc : Thread Cert.FfnUpGradXIdeal.nD Cert.FfnUpGradXIdeal.τ).loc Cert.FfnUpGradXIdeal.main_arg0) = m ((c.tc : Thread Cert.FfnUpBwdXIdeal.nD Cert.FfnUpBwdXIdeal.τ).loc Cert.FfnUpBwdXIdeal.main_arg0)
      ∧ m' ((c.tc : Thread Cert.FfnUpGradXIdeal.nD Cert.FfnUpGradXIdeal.τ).loc Cert.FfnUpGradXIdeal.main_arg1) = m ((c.tc : Thread Cert.FfnUpBwdXIdeal.nD Cert.FfnUpBwdXIdeal.τ).loc Cert.FfnUpBwdXIdeal.main_arg1)
      ∧ m' ((c.tc : Thread Cert.FfnUpGradXIdeal.nD Cert.FfnUpGradXIdeal.τ).loc Cert.FfnUpGradXIdeal.main_arg2) = m ((c.tc : Thread Cert.FfnUpBwdXIdeal.nD Cert.FfnUpBwdXIdeal.τ).loc Cert.FfnUpBwdXIdeal.main_arg2)
      ∧ m' ((c.tc : Thread Cert.FfnUpGradXIdeal.nD Cert.FfnUpGradXIdeal.τ).loc Cert.FfnUpGradXIdeal.main_arg3) = m ((c.tc : Thread Cert.FfnUpBwdXIdeal.nD Cert.FfnUpBwdXIdeal.τ).loc Cert.FfnUpBwdXIdeal.main_arg3)
      ∧ m' ((c.tc : Thread Cert.FfnUpGradXIdeal.nD Cert.FfnUpGradXIdeal.τ).loc Cert.FfnUpGradXIdeal.main_arg4) = m ((c.tc : Thread Cert.FfnUpBwdXIdeal.nD Cert.FfnUpBwdXIdeal.τ).loc Cert.FfnUpBwdXIdeal.main_arg4)
      ∧ m' ((c.tc : Thread Cert.FfnUpGradXIdeal.nD Cert.FfnUpGradXIdeal.τ).loc Cert.FfnUpGradXIdeal.main_arg5) = m ((c.tc : Thread Cert.FfnUpBwdXIdeal.nD Cert.FfnUpBwdXIdeal.τ).loc Cert.FfnUpBwdXIdeal.main_arg5)) →
    ∃ (v0 : (c : Dev Cert.FfnUpBwdXIdeal.nD) → Buf (Elt Ideal) ((c.tc : Thread Cert.FfnUpBwdXIdeal.nD Cert.FfnUpBwdXIdeal.τ).loc Cert.FfnUpBwdXIdeal.main_v8_0)) (v1 : (c : Dev Cert.FfnUpBwdXIdeal.nD) → Buf (Elt Ideal) ((c.tc : Thread Cert.FfnUpBwdXIdeal.nD Cert.FfnUpBwdXIdeal.τ).loc Cert.FfnUpBwdXIdeal.main_v8_1)) (v2 : (c : Dev Cert.FfnUpBwdXIdeal.nD) → Buf (Elt Ideal) ((c.tc : Thread Cert.FfnUpBwdXIdeal.nD Cert.FfnUpBwdXIdeal.τ).loc Cert.FfnUpBwdXIdeal.main_v8_2)),
      θ_run (Cert.FfnUpBwdXIdeal.defs (F := Ideal)) (onTc (τ := Cert.FfnUpBwdXIdeal.τ) (Cert.FfnUpBwdXIdeal.main (F := Ideal))) ⟨m, fun _ => 0, g⟩ (fun r => ∀ c : Dev Cert.FfnUpBwdXIdeal.nD,
          r.2.mem ((c.tc : Thread Cert.FfnUpBwdXIdeal.nD Cert.FfnUpBwdXIdeal.τ).loc Cert.FfnUpBwdXIdeal.main_v8_0) = v0 c
          ∧ r.2.mem ((c.tc : Thread Cert.FfnUpBwdXIdeal.nD Cert.FfnUpBwdXIdeal.τ).loc Cert.FfnUpBwdXIdeal.main_v8_1) = v1 c
          ∧ r.2.mem ((c.tc : Thread Cert.FfnUpBwdXIdeal.nD Cert.FfnUpBwdXIdeal.τ).loc Cert.FfnUpBwdXIdeal.main_v8_2) = v2 c
          ∧ r.2.mem ((c.tc : Thread Cert.FfnUpBwdXIdeal.nD Cert.FfnUpBwdXIdeal.τ).loc Cert.FfnUpBwdXIdeal.main_arg0) = m ((c.tc : Thread Cert.FfnUpBwdXIdeal.nD Cert.FfnUpBwdXIdeal.τ).loc Cert.FfnUpBwdXIdeal.main_arg0)
          ∧ r.2.mem ((c.tc : Thread Cert.FfnUpBwdXIdeal.nD Cert.FfnUpBwdXIdeal.τ).loc Cert.FfnUpBwdXIdeal.main_arg1) = m ((c.tc : Thread Cert.FfnUpBwdXIdeal.nD Cert.FfnUpBwdXIdeal.τ).loc Cert.FfnUpBwdXIdeal.main_arg1)
          ∧ r.2.mem ((c.tc : Thread Cert.FfnUpBwdXIdeal.nD Cert.FfnUpBwdXIdeal.τ).loc Cert.FfnUpBwdXIdeal.main_arg2) = m ((c.tc : Thread Cert.FfnUpBwdXIdeal.nD Cert.FfnUpBwdXIdeal.τ).loc Cert.FfnUpBwdXIdeal.main_arg2)
          ∧ r.2.mem ((c.tc : Thread Cert.FfnUpBwdXIdeal.nD Cert.FfnUpBwdXIdeal.τ).loc Cert.FfnUpBwdXIdeal.main_arg3) = m ((c.tc : Thread Cert.FfnUpBwdXIdeal.nD Cert.FfnUpBwdXIdeal.τ).loc Cert.FfnUpBwdXIdeal.main_arg3)
          ∧ r.2.mem ((c.tc : Thread Cert.FfnUpBwdXIdeal.nD Cert.FfnUpBwdXIdeal.τ).loc Cert.FfnUpBwdXIdeal.main_arg4) = m ((c.tc : Thread Cert.FfnUpBwdXIdeal.nD Cert.FfnUpBwdXIdeal.τ).loc Cert.FfnUpBwdXIdeal.main_arg4)
          ∧ r.2.mem ((c.tc : Thread Cert.FfnUpBwdXIdeal.nD Cert.FfnUpBwdXIdeal.τ).loc Cert.FfnUpBwdXIdeal.main_arg5) = m ((c.tc : Thread Cert.FfnUpBwdXIdeal.nD Cert.FfnUpBwdXIdeal.τ).loc Cert.FfnUpBwdXIdeal.main_arg5))
      ∧ θ_run (Cert.FfnUpGradXIdeal.defs (F := Ideal)) (onTc (τ := Cert.FfnUpGradXIdeal.τ) (Cert.FfnUpGradXIdeal.main (F := Ideal))) ⟨m', fun _ => 0, g'⟩ (fun r => ∀ c : Dev Cert.FfnUpGradXIdeal.nD,
          r.2.mem ((c.tc : Thread Cert.FfnUpGradXIdeal.nD Cert.FfnUpGradXIdeal.τ).loc Cert.FfnUpGradXIdeal.main_v85) = v0 c
          ∧ r.2.mem ((c.tc : Thread Cert.FfnUpGradXIdeal.nD Cert.FfnUpGradXIdeal.τ).loc Cert.FfnUpGradXIdeal.main_v86) = v1 c
          ∧ r.2.mem ((c.tc : Thread Cert.FfnUpGradXIdeal.nD Cert.FfnUpGradXIdeal.τ).loc Cert.FfnUpGradXIdeal.main_v87) = v2 c
          ∧ r.2.mem ((c.tc : Thread Cert.FfnUpGradXIdeal.nD Cert.FfnUpGradXIdeal.τ).loc Cert.FfnUpGradXIdeal.main_arg0) = m' ((c.tc : Thread Cert.FfnUpGradXIdeal.nD Cert.FfnUpGradXIdeal.τ).loc Cert.FfnUpGradXIdeal.main_arg0)
          ∧ r.2.mem ((c.tc : Thread Cert.FfnUpGradXIdeal.nD Cert.FfnUpGradXIdeal.τ).loc Cert.FfnUpGradXIdeal.main_arg1) = m' ((c.tc : Thread Cert.FfnUpGradXIdeal.nD Cert.FfnUpGradXIdeal.τ).loc Cert.FfnUpGradXIdeal.main_arg1)
          ∧ r.2.mem ((c.tc : Thread Cert.FfnUpGradXIdeal.nD Cert.FfnUpGradXIdeal.τ).loc Cert.FfnUpGradXIdeal.main_arg2) = m' ((c.tc : Thread Cert.FfnUpGradXIdeal.nD Cert.FfnUpGradXIdeal.τ).loc Cert.FfnUpGradXIdeal.main_arg2)
          ∧ r.2.mem ((c.tc : Thread Cert.FfnUpGradXIdeal.nD Cert.FfnUpGradXIdeal.τ).loc Cert.FfnUpGradXIdeal.main_arg3) = m' ((c.tc : Thread Cert.FfnUpGradXIdeal.nD Cert.FfnUpGradXIdeal.τ).loc Cert.FfnUpGradXIdeal.main_arg3)
          ∧ r.2.mem ((c.tc : Thread Cert.FfnUpGradXIdeal.nD Cert.FfnUpGradXIdeal.τ).loc Cert.FfnUpGradXIdeal.main_arg4) = m' ((c.tc : Thread Cert.FfnUpGradXIdeal.nD Cert.FfnUpGradXIdeal.τ).loc Cert.FfnUpGradXIdeal.main_arg4)
          ∧ r.2.mem ((c.tc : Thread Cert.FfnUpGradXIdeal.nD Cert.FfnUpGradXIdeal.τ).loc Cert.FfnUpGradXIdeal.main_arg5) = m' ((c.tc : Thread Cert.FfnUpGradXIdeal.nD Cert.FfnUpGradXIdeal.τ).loc Cert.FfnUpGradXIdeal.main_arg5))

def preserves_FfnUpBwdW_FfnUpBwdWIdeal : Prop :=
  True

def algebraic_FfnUpBwdWIdeal_FfnUpGradWIdeal [hFfnUpBwdWIdeal : Cert.FfnUpBwdWIdeal.Facts] [hFfnUpGradWIdeal : Cert.FfnUpGradWIdeal.Facts] : Prop :=
  ∀ (m : (ℓ : Loc Cert.FfnUpBwdWIdeal.nD Cert.FfnUpBwdWIdeal.τ Cert.FfnUpBwdWIdeal.sig) → Buf (Elt Ideal) ℓ) (g : Dev Cert.FfnUpBwdWIdeal.nD → PrngReg)
    (m' : (ℓ : Loc Cert.FfnUpGradWIdeal.nD Cert.FfnUpGradWIdeal.τ Cert.FfnUpGradWIdeal.sig) → Buf (Elt Ideal) ℓ) (g' : Dev Cert.FfnUpGradWIdeal.nD → PrngReg), Pre_FfnUpBwdWIdeal m →
    (∀ c : Dev Cert.FfnUpBwdWIdeal.nD,
      m' ((c.tc : Thread Cert.FfnUpGradWIdeal.nD Cert.FfnUpGradWIdeal.τ).loc Cert.FfnUpGradWIdeal.main_arg0) = m ((c.tc : Thread Cert.FfnUpBwdWIdeal.nD Cert.FfnUpBwdWIdeal.τ).loc Cert.FfnUpBwdWIdeal.main_arg0)
      ∧ m' ((c.tc : Thread Cert.FfnUpGradWIdeal.nD Cert.FfnUpGradWIdeal.τ).loc Cert.FfnUpGradWIdeal.main_arg1) = m ((c.tc : Thread Cert.FfnUpBwdWIdeal.nD Cert.FfnUpBwdWIdeal.τ).loc Cert.FfnUpBwdWIdeal.main_arg1)
      ∧ m' ((c.tc : Thread Cert.FfnUpGradWIdeal.nD Cert.FfnUpGradWIdeal.τ).loc Cert.FfnUpGradWIdeal.main_arg2) = m ((c.tc : Thread Cert.FfnUpBwdWIdeal.nD Cert.FfnUpBwdWIdeal.τ).loc Cert.FfnUpBwdWIdeal.main_arg2)) →
    ∃ (v0 : (c : Dev Cert.FfnUpBwdWIdeal.nD) → Buf (Elt Ideal) ((c.tc : Thread Cert.FfnUpBwdWIdeal.nD Cert.FfnUpBwdWIdeal.τ).loc Cert.FfnUpBwdWIdeal.main_v4)),
      θ_run (Cert.FfnUpBwdWIdeal.defs (F := Ideal)) (onTc (τ := Cert.FfnUpBwdWIdeal.τ) (Cert.FfnUpBwdWIdeal.main (F := Ideal))) ⟨m, fun _ => 0, g⟩ (fun r => ∀ c : Dev Cert.FfnUpBwdWIdeal.nD,
          r.2.mem ((c.tc : Thread Cert.FfnUpBwdWIdeal.nD Cert.FfnUpBwdWIdeal.τ).loc Cert.FfnUpBwdWIdeal.main_v4) = v0 c
          ∧ r.2.mem ((c.tc : Thread Cert.FfnUpBwdWIdeal.nD Cert.FfnUpBwdWIdeal.τ).loc Cert.FfnUpBwdWIdeal.main_arg0) = m ((c.tc : Thread Cert.FfnUpBwdWIdeal.nD Cert.FfnUpBwdWIdeal.τ).loc Cert.FfnUpBwdWIdeal.main_arg0)
          ∧ r.2.mem ((c.tc : Thread Cert.FfnUpBwdWIdeal.nD Cert.FfnUpBwdWIdeal.τ).loc Cert.FfnUpBwdWIdeal.main_arg1) = m ((c.tc : Thread Cert.FfnUpBwdWIdeal.nD Cert.FfnUpBwdWIdeal.τ).loc Cert.FfnUpBwdWIdeal.main_arg1)
          ∧ r.2.mem ((c.tc : Thread Cert.FfnUpBwdWIdeal.nD Cert.FfnUpBwdWIdeal.τ).loc Cert.FfnUpBwdWIdeal.main_arg2) = m ((c.tc : Thread Cert.FfnUpBwdWIdeal.nD Cert.FfnUpBwdWIdeal.τ).loc Cert.FfnUpBwdWIdeal.main_arg2))
      ∧ θ_run (Cert.FfnUpGradWIdeal.defs (F := Ideal)) (onTc (τ := Cert.FfnUpGradWIdeal.τ) (Cert.FfnUpGradWIdeal.main (F := Ideal))) ⟨m', fun _ => 0, g'⟩ (fun r => ∀ c : Dev Cert.FfnUpGradWIdeal.nD,
          r.2.mem ((c.tc : Thread Cert.FfnUpGradWIdeal.nD Cert.FfnUpGradWIdeal.τ).loc Cert.FfnUpGradWIdeal.main_v18) = v0 c
          ∧ r.2.mem ((c.tc : Thread Cert.FfnUpGradWIdeal.nD Cert.FfnUpGradWIdeal.τ).loc Cert.FfnUpGradWIdeal.main_arg0) = m' ((c.tc : Thread Cert.FfnUpGradWIdeal.nD Cert.FfnUpGradWIdeal.τ).loc Cert.FfnUpGradWIdeal.main_arg0)
          ∧ r.2.mem ((c.tc : Thread Cert.FfnUpGradWIdeal.nD Cert.FfnUpGradWIdeal.τ).loc Cert.FfnUpGradWIdeal.main_arg1) = m' ((c.tc : Thread Cert.FfnUpGradWIdeal.nD Cert.FfnUpGradWIdeal.τ).loc Cert.FfnUpGradWIdeal.main_arg1)
          ∧ r.2.mem ((c.tc : Thread Cert.FfnUpGradWIdeal.nD Cert.FfnUpGradWIdeal.τ).loc Cert.FfnUpGradWIdeal.main_arg2) = m' ((c.tc : Thread Cert.FfnUpGradWIdeal.nD Cert.FfnUpGradWIdeal.τ).loc Cert.FfnUpGradWIdeal.main_arg2))

def preserves_InProjBwd_InProjBwdIdeal : Prop :=
  True

def algebraic_InProjBwdIdeal_InProjGradIdeal [hInProjBwdIdeal : Cert.InProjBwdIdeal.Facts] [hInProjGradIdeal : Cert.InProjGradIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjGradIdeal.nD Cert.InProjGradIdeal.τ Cert.InProjGradIdeal.sig) → Buf (Elt Ideal) ℓ) (g' : Dev Cert.InProjGradIdeal.nD → PrngReg), Pre_InProjBwdIdeal m →
    (∀ c : Dev Cert.InProjBwdIdeal.nD,
      m' ((c.tc : Thread Cert.InProjGradIdeal.nD Cert.InProjGradIdeal.τ).loc Cert.InProjGradIdeal.main_arg0) = m ((c.tc : Thread Cert.InProjBwdIdeal.nD Cert.InProjBwdIdeal.τ).loc Cert.InProjBwdIdeal.main_arg0)
      ∧ m' ((c.tc : Thread Cert.InProjGradIdeal.nD Cert.InProjGradIdeal.τ).loc Cert.InProjGradIdeal.main_arg1) = m ((c.tc : Thread Cert.InProjBwdIdeal.nD Cert.InProjBwdIdeal.τ).loc Cert.InProjBwdIdeal.main_arg1)
      ∧ m' ((c.tc : Thread Cert.InProjGradIdeal.nD Cert.InProjGradIdeal.τ).loc Cert.InProjGradIdeal.main_arg2) = m ((c.tc : Thread Cert.InProjBwdIdeal.nD Cert.InProjBwdIdeal.τ).loc Cert.InProjBwdIdeal.main_arg2)
      ∧ m' ((c.tc : Thread Cert.InProjGradIdeal.nD Cert.InProjGradIdeal.τ).loc Cert.InProjGradIdeal.main_arg3) = m ((c.tc : Thread Cert.InProjBwdIdeal.nD Cert.InProjBwdIdeal.τ).loc Cert.InProjBwdIdeal.main_arg3)
      ∧ m' ((c.tc : Thread Cert.InProjGradIdeal.nD Cert.InProjGradIdeal.τ).loc Cert.InProjGradIdeal.main_arg4) = m ((c.tc : Thread Cert.InProjBwdIdeal.nD Cert.InProjBwdIdeal.τ).loc Cert.InProjBwdIdeal.main_arg4)
      ∧ m' ((c.tc : Thread Cert.InProjGradIdeal.nD Cert.InProjGradIdeal.τ).loc Cert.InProjGradIdeal.main_arg5) = m ((c.tc : Thread Cert.InProjBwdIdeal.nD Cert.InProjBwdIdeal.τ).loc Cert.InProjBwdIdeal.main_arg5)
      ∧ m' ((c.tc : Thread Cert.InProjGradIdeal.nD Cert.InProjGradIdeal.τ).loc Cert.InProjGradIdeal.main_arg6) = m ((c.tc : Thread Cert.InProjBwdIdeal.nD Cert.InProjBwdIdeal.τ).loc Cert.InProjBwdIdeal.main_arg6)
      ∧ m' ((c.tc : Thread Cert.InProjGradIdeal.nD Cert.InProjGradIdeal.τ).loc Cert.InProjGradIdeal.main_arg7) = m ((c.tc : Thread Cert.InProjBwdIdeal.nD Cert.InProjBwdIdeal.τ).loc Cert.InProjBwdIdeal.main_arg7)) →
    ∃ (v0 : (c : Dev Cert.InProjBwdIdeal.nD) → Buf (Elt Ideal) ((c.tc : Thread Cert.InProjBwdIdeal.nD Cert.InProjBwdIdeal.τ).loc Cert.InProjBwdIdeal.main_v6_0)) (v1 : (c : Dev Cert.InProjBwdIdeal.nD) → Buf (Elt Ideal) ((c.tc : Thread Cert.InProjBwdIdeal.nD Cert.InProjBwdIdeal.τ).loc Cert.InProjBwdIdeal.main_v6_1)) (v2 : (c : Dev Cert.InProjBwdIdeal.nD) → Buf (Elt Ideal) ((c.tc : Thread Cert.InProjBwdIdeal.nD Cert.InProjBwdIdeal.τ).loc Cert.InProjBwdIdeal.main_v6_2)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v6_0) = v0 c
          ∧ r.2.mem ((c.tc : Thread Cert.InProjBwdIdeal.nD Cert.InProjBwdIdeal.τ).loc Cert.InProjBwdIdeal.main_v6_1) = v1 c
          ∧ r.2.mem ((c.tc : Thread Cert.InProjBwdIdeal.nD Cert.InProjBwdIdeal.τ).loc Cert.InProjBwdIdeal.main_v6_2) = v2 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ θ_run (Cert.InProjGradIdeal.defs (F := Ideal)) (onTc (τ := Cert.InProjGradIdeal.τ) (Cert.InProjGradIdeal.main (F := Ideal))) ⟨m', fun _ => 0, g'⟩ (fun r => ∀ c : Dev Cert.InProjGradIdeal.nD,
          r.2.mem ((c.tc : Thread Cert.InProjGradIdeal.nD Cert.InProjGradIdeal.τ).loc Cert.InProjGradIdeal.main_v49) = v0 c
          ∧ r.2.mem ((c.tc : Thread Cert.InProjGradIdeal.nD Cert.InProjGradIdeal.τ).loc Cert.InProjGradIdeal.main_v51) = v1 c
          ∧ r.2.mem ((c.tc : Thread Cert.InProjGradIdeal.nD Cert.InProjGradIdeal.τ).loc Cert.InProjGradIdeal.main_v52) = v2 c
          ∧ r.2.mem ((c.tc : Thread Cert.InProjGradIdeal.nD Cert.InProjGradIdeal.τ).loc Cert.InProjGradIdeal.main_arg0) = m' ((c.tc : Thread Cert.InProjGradIdeal.nD Cert.InProjGradIdeal.τ).loc Cert.InProjGradIdeal.main_arg0)
          ∧ r.2.mem ((c.tc : Thread Cert.InProjGradIdeal.nD Cert.InProjGradIdeal.τ).loc Cert.InProjGradIdeal.main_arg1) = m' ((c.tc : Thread Cert.InProjGradIdeal.nD Cert.InProjGradIdeal.τ).loc Cert.InProjGradIdeal.main_arg1)
          ∧ r.2.mem ((c.tc : Thread Cert.InProjGradIdeal.nD Cert.InProjGradIdeal.τ).loc Cert.InProjGradIdeal.main_arg2) = m' ((c.tc : Thread Cert.InProjGradIdeal.nD Cert.InProjGradIdeal.τ).loc Cert.InProjGradIdeal.main_arg2)
          ∧ r.2.mem ((c.tc : Thread Cert.InProjGradIdeal.nD Cert.InProjGradIdeal.τ).loc Cert.InProjGradIdeal.main_arg3) = m' ((c.tc : Thread Cert.InProjGradIdeal.nD Cert.InProjGradIdeal.τ).loc Cert.InProjGradIdeal.main_arg3)
          ∧ r.2.mem ((c.tc : Thread Cert.InProjGradIdeal.nD Cert.InProjGradIdeal.τ).loc Cert.InProjGradIdeal.main_arg4) = m' ((c.tc : Thread Cert.InProjGradIdeal.nD Cert.InProjGradIdeal.τ).loc Cert.InProjGradIdeal.main_arg4)
          ∧ r.2.mem ((c.tc : Thread Cert.InProjGradIdeal.nD Cert.InProjGradIdeal.τ).loc Cert.InProjGradIdeal.main_arg5) = m' ((c.tc : Thread Cert.InProjGradIdeal.nD Cert.InProjGradIdeal.τ).loc Cert.InProjGradIdeal.main_arg5)
          ∧ r.2.mem ((c.tc : Thread Cert.InProjGradIdeal.nD Cert.InProjGradIdeal.τ).loc Cert.InProjGradIdeal.main_arg6) = m' ((c.tc : Thread Cert.InProjGradIdeal.nD Cert.InProjGradIdeal.τ).loc Cert.InProjGradIdeal.main_arg6)
          ∧ r.2.mem ((c.tc : Thread Cert.InProjGradIdeal.nD Cert.InProjGradIdeal.τ).loc Cert.InProjGradIdeal.main_arg7) = m' ((c.tc : Thread Cert.InProjGradIdeal.nD Cert.InProjGradIdeal.τ).loc Cert.InProjGradIdeal.main_arg7))

def preserves_FlashBwd_FlashBwdIdeal : Prop :=
  IdealRules.named_const.Statement Cert.FlashBwdIdeal.κ "scale_log2e" .f32 0x3E16C740#32 (((3424635 / 33554432) * (Real.log 2)⁻¹ : ℝ) : EReal)

def algebraic_FlashBwdIdeal_AttentionGradIdeal_pre_flash_finite [hFlashBwdIdeal : Cert.FlashBwdIdeal.Facts] [hAttentionGradIdeal : Cert.AttentionGradIdeal.Facts] [hPre_flash_finite : Cert.Pre_flash_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.AttentionGradIdeal.nD Cert.AttentionGradIdeal.τ Cert.AttentionGradIdeal.sig) → Buf (Elt Ideal) ℓ) (g' : Dev Cert.AttentionGradIdeal.nD → PrngReg), Pre_FlashBwdIdeal_flash_finite m →
    (∀ c : Dev Cert.FlashBwdIdeal.nD,
      m' ((c.tc : Thread Cert.AttentionGradIdeal.nD Cert.AttentionGradIdeal.τ).loc Cert.AttentionGradIdeal.main_arg0) = m ((c.tc : Thread Cert.FlashBwdIdeal.nD Cert.FlashBwdIdeal.τ).loc Cert.FlashBwdIdeal.main_arg0)
      ∧ m' ((c.tc : Thread Cert.AttentionGradIdeal.nD Cert.AttentionGradIdeal.τ).loc Cert.AttentionGradIdeal.main_arg1) = m ((c.tc : Thread Cert.FlashBwdIdeal.nD Cert.FlashBwdIdeal.τ).loc Cert.FlashBwdIdeal.main_arg1)
      ∧ m' ((c.tc : Thread Cert.AttentionGradIdeal.nD Cert.AttentionGradIdeal.τ).loc Cert.AttentionGradIdeal.main_arg2) = m ((c.tc : Thread Cert.FlashBwdIdeal.nD Cert.FlashBwdIdeal.τ).loc Cert.FlashBwdIdeal.main_arg2)
      ∧ m' ((c.tc : Thread Cert.AttentionGradIdeal.nD Cert.AttentionGradIdeal.τ).loc Cert.AttentionGradIdeal.main_arg3) = m ((c.tc : Thread Cert.FlashBwdIdeal.nD Cert.FlashBwdIdeal.τ).loc Cert.FlashBwdIdeal.main_arg3)) →
    ∃ (v0 : (c : Dev Cert.FlashBwdIdeal.nD) → Buf (Elt Ideal) ((c.tc : Thread Cert.FlashBwdIdeal.nD Cert.FlashBwdIdeal.τ).loc Cert.FlashBwdIdeal.main_v35_0)) (v1 : (c : Dev Cert.FlashBwdIdeal.nD) → Buf (Elt Ideal) ((c.tc : Thread Cert.FlashBwdIdeal.nD Cert.FlashBwdIdeal.τ).loc Cert.FlashBwdIdeal.main_v35_1)) (v2 : (c : Dev Cert.FlashBwdIdeal.nD) → Buf (Elt Ideal) ((c.tc : Thread Cert.FlashBwdIdeal.nD Cert.FlashBwdIdeal.τ).loc Cert.FlashBwdIdeal.main_v35_2)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v35_0) = v0 c
          ∧ r.2.mem ((c.tc : Thread Cert.FlashBwdIdeal.nD Cert.FlashBwdIdeal.τ).loc Cert.FlashBwdIdeal.main_v35_1) = v1 c
          ∧ r.2.mem ((c.tc : Thread Cert.FlashBwdIdeal.nD Cert.FlashBwdIdeal.τ).loc Cert.FlashBwdIdeal.main_v35_2) = v2 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ θ_run (Cert.AttentionGradIdeal.defs (F := Ideal)) (onTc (τ := Cert.AttentionGradIdeal.τ) (Cert.AttentionGradIdeal.main (F := Ideal))) ⟨m', fun _ => 0, g'⟩ (fun r => ∀ c : Dev Cert.AttentionGradIdeal.nD,
          r.2.mem ((c.tc : Thread Cert.AttentionGradIdeal.nD Cert.AttentionGradIdeal.τ).loc Cert.AttentionGradIdeal.main_v63) = v0 c
          ∧ r.2.mem ((c.tc : Thread Cert.AttentionGradIdeal.nD Cert.AttentionGradIdeal.τ).loc Cert.AttentionGradIdeal.main_v65) = v1 c
          ∧ r.2.mem ((c.tc : Thread Cert.AttentionGradIdeal.nD Cert.AttentionGradIdeal.τ).loc Cert.AttentionGradIdeal.main_v66) = v2 c
          ∧ r.2.mem ((c.tc : Thread Cert.AttentionGradIdeal.nD Cert.AttentionGradIdeal.τ).loc Cert.AttentionGradIdeal.main_arg0) = m' ((c.tc : Thread Cert.AttentionGradIdeal.nD Cert.AttentionGradIdeal.τ).loc Cert.AttentionGradIdeal.main_arg0)
          ∧ r.2.mem ((c.tc : Thread Cert.AttentionGradIdeal.nD Cert.AttentionGradIdeal.τ).loc Cert.AttentionGradIdeal.main_arg1) = m' ((c.tc : Thread Cert.AttentionGradIdeal.nD Cert.AttentionGradIdeal.τ).loc Cert.AttentionGradIdeal.main_arg1)
          ∧ r.2.mem ((c.tc : Thread Cert.AttentionGradIdeal.nD Cert.AttentionGradIdeal.τ).loc Cert.AttentionGradIdeal.main_arg2) = m' ((c.tc : Thread Cert.AttentionGradIdeal.nD Cert.AttentionGradIdeal.τ).loc Cert.AttentionGradIdeal.main_arg2)
          ∧ r.2.mem ((c.tc : Thread Cert.AttentionGradIdeal.nD Cert.AttentionGradIdeal.τ).loc Cert.AttentionGradIdeal.main_arg3) = m' ((c.tc : Thread Cert.AttentionGradIdeal.nD Cert.AttentionGradIdeal.τ).loc Cert.AttentionGradIdeal.main_arg3))

def Claim : Prop :=
  ∃ (hFfnDownBwd : Cert.FfnDownBwd.Facts) (hFfnDownBwdIdeal : Cert.FfnDownBwdIdeal.Facts) (hFfnDownGradIdeal : Cert.FfnDownGradIdeal.Facts) (hFfnUpBwdX : Cert.FfnUpBwdX.Facts) (hFfnUpBwdXIdeal : Cert.FfnUpBwdXIdeal.Facts) (hFfnUpGradXIdeal : Cert.FfnUpGradXIdeal.Facts) (hFfnUpBwdW : Cert.FfnUpBwdW.Facts) (hFfnUpBwdWIdeal : Cert.FfnUpBwdWIdeal.Facts) (hFfnUpGradWIdeal : Cert.FfnUpGradWIdeal.Facts) (hInProjBwd : Cert.InProjBwd.Facts) (hInProjBwdIdeal : Cert.InProjBwdIdeal.Facts) (hInProjGradIdeal : Cert.InProjGradIdeal.Facts) (hFlashBwd : Cert.FlashBwd.Facts) (hFlashBwdIdeal : Cert.FlashBwdIdeal.Facts) (hAttentionGradIdeal : Cert.AttentionGradIdeal.Facts) (hPre_down_finite : Cert.Pre_down_finite.Facts) (hPre_flash_finite : Cert.Pre_flash_finite.Facts),
    quiescent_FfnDownBwd (hFfnDownBwd := hFfnDownBwd)
    ∧ quiescent_FfnDownBwdIdeal (hFfnDownBwdIdeal := hFfnDownBwdIdeal)
    ∧ quiescent_FfnDownBwdIdeal_pre_down_finite (hFfnDownBwdIdeal := hFfnDownBwdIdeal) (hPre_down_finite := hPre_down_finite)
    ∧ quiescent_FfnDownGradIdeal (hFfnDownGradIdeal := hFfnDownGradIdeal)
    ∧ quiescent_FfnDownGradIdeal_pre_down_finite (hFfnDownGradIdeal := hFfnDownGradIdeal) (hPre_down_finite := hPre_down_finite)
    ∧ quiescent_FfnUpBwdX (hFfnUpBwdX := hFfnUpBwdX)
    ∧ quiescent_FfnUpBwdXIdeal (hFfnUpBwdXIdeal := hFfnUpBwdXIdeal)
    ∧ quiescent_FfnUpGradXIdeal (hFfnUpGradXIdeal := hFfnUpGradXIdeal)
    ∧ quiescent_FfnUpBwdW (hFfnUpBwdW := hFfnUpBwdW)
    ∧ quiescent_FfnUpBwdWIdeal (hFfnUpBwdWIdeal := hFfnUpBwdWIdeal)
    ∧ quiescent_FfnUpGradWIdeal (hFfnUpGradWIdeal := hFfnUpGradWIdeal)
    ∧ quiescent_InProjBwd (hInProjBwd := hInProjBwd)
    ∧ quiescent_InProjBwdIdeal (hInProjBwdIdeal := hInProjBwdIdeal)
    ∧ quiescent_InProjGradIdeal (hInProjGradIdeal := hInProjGradIdeal)
    ∧ quiescent_FlashBwd (hFlashBwd := hFlashBwd)
    ∧ quiescent_FlashBwdIdeal (hFlashBwdIdeal := hFlashBwdIdeal)
    ∧ quiescent_FlashBwdIdeal_pre_flash_finite (hFlashBwdIdeal := hFlashBwdIdeal) (hPre_flash_finite := hPre_flash_finite)
    ∧ quiescent_AttentionGradIdeal (hAttentionGradIdeal := hAttentionGradIdeal)
    ∧ quiescent_AttentionGradIdeal_pre_flash_finite (hAttentionGradIdeal := hAttentionGradIdeal) (hPre_flash_finite := hPre_flash_finite)
    ∧ preserves_FfnDownBwd_FfnDownBwdIdeal
    ∧ algebraic_FfnDownBwdIdeal_FfnDownGradIdeal_pre_down_finite (hFfnDownBwdIdeal := hFfnDownBwdIdeal) (hFfnDownGradIdeal := hFfnDownGradIdeal) (hPre_down_finite := hPre_down_finite)
    ∧ preserves_FfnUpBwdX_FfnUpBwdXIdeal
    ∧ algebraic_FfnUpBwdXIdeal_FfnUpGradXIdeal (hFfnUpBwdXIdeal := hFfnUpBwdXIdeal) (hFfnUpGradXIdeal := hFfnUpGradXIdeal)
    ∧ preserves_FfnUpBwdW_FfnUpBwdWIdeal
    ∧ algebraic_FfnUpBwdWIdeal_FfnUpGradWIdeal (hFfnUpBwdWIdeal := hFfnUpBwdWIdeal) (hFfnUpGradWIdeal := hFfnUpGradWIdeal)
    ∧ preserves_InProjBwd_InProjBwdIdeal
    ∧ algebraic_InProjBwdIdeal_InProjGradIdeal (hInProjBwdIdeal := hInProjBwdIdeal) (hInProjGradIdeal := hInProjGradIdeal)
    ∧ preserves_FlashBwd_FlashBwdIdeal
    ∧ algebraic_FlashBwdIdeal_AttentionGradIdeal_pre_flash_finite (hFlashBwdIdeal := hFlashBwdIdeal) (hAttentionGradIdeal := hAttentionGradIdeal) (hPre_flash_finite := hPre_flash_finite)
-- ==== Pre_down_finite.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x5632 .f32) (main_arg1 : FVec F S3x5632 .f32) (main_arg2 : FVec F S5632 .f32) (main_arg3 : FVec F S2816x1024 .f32) (main_arg4 : FVec F S8192x1024 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : FVec F S5632 .f32 := Host.absf main_arg2
  let main_cst_2 : FVec F S_ .f32 := constant S_ .f32 0x7F800000#32
  let main_v9 : FVec F S5632 .f32 := broadcastInDim S5632 ![] bcast_S_S5632 main_cst_2
  let main_v10 : IVec S5632 1 := cmpf .olt main_v8 main_v9
  let main_c_3 : IVec S_ 1 := constantI S_ 1 1#1
  let main_v11 : IVec S_ 1 := (fun x v => Host.reduce IntOp.andi x v reducesTo_S5632_S_d0 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_v3 main_v7 main_v11 main_v15
-- ==== Pre_flash_finite.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x8x96 .f32) (main_arg1 : FVec F S8192x8x96 .f32) (main_arg2 : FVec F S8192x8x64 .f32) (main_arg3 : FVec F S8192x512 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : FVec F S8192x8x64 .f32 := Host.absf main_arg2
  let main_cst_2 : FVec F S_ .f32 := constant S_ .f32 0x7F800000#32
  let main_v9 : FVec F S8192x8x64 .f32 := broadcastInDim S8192x8x64 ![] bcast_S_S8192x8x64 main_cst_2
  let main_v10 : IVec S8192x8x64 1 := cmpf .olt main_v8 main_v9
  let main_c_3 : IVec S_ 1 := constantI S_ 1 1#1
  let main_v11 : IVec S_ 1 := (fun x v => Host.reduce IntOp.andi x v reducesTo_S8192x8x64_S_d0_1_2 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_v3 main_v7 main_v11 main_v15
-- ==== FfnDownBwd.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S8192x2x4x704 : Shape := ⟨4, ![8192, 2, 4, 704]⟩
abbrev S4x2x8192x704 : Shape := ⟨4, ![4, 2, 8192, 704]⟩
abbrev S3x2x4x704 : Shape := ⟨4, ![3, 2, 4, 704]⟩
abbrev S2x4x3x704 : Shape := ⟨4, ![2, 4, 3, 704]⟩
abbrev S2x4x1x704 : Shape := ⟨4, ![2, 4, 1, 704]⟩
abbrev S1x2x1024x704 : Shape := ⟨4, ![1, 2, 1024, 704]⟩
abbrev S1x2x8x704 : Shape := ⟨4, ![1, 2, 8, 704]⟩
abbrev S2x1x3x704 : Shape := ⟨4, ![2, 1, 3, 704]⟩
abbrev S2x1x1x704 : Shape := ⟨4, ![2, 1, 1, 704]⟩
abbrev S704x1024 : Shape := ⟨2, ![704, 1024]⟩
abbrev S1024x1024 : Shape := ⟨2, ![1024, 1024]⟩
abbrev S2x3x704 : Shape := ⟨3, ![2, 3, 704]⟩
abbrev S2x1x704 : Shape := ⟨3, ![2, 1, 704]⟩
abbrev S1x1x1024x704 : Shape := ⟨4, ![1, 1, 1024, 704]⟩
abbrev S1024x704 : Shape := ⟨2, ![1024, 704]⟩
abbrev S1x1x8x704 : Shape := ⟨4, ![1, 1, 8, 704]⟩
abbrev S8x704 : Shape := ⟨2, ![8, 704]⟩
abbrev S1x8x704 : Shape := ⟨3, ![1, 8, 704]⟩
abbrev S128x8x704 : Shape := ⟨3, ![128, 8, 704]⟩
abbrev S129x8x704 : Shape := ⟨3, ![129, 8, 704]⟩
abbrev S1x1x3x704 : Shape := ⟨4, ![1, 1, 3, 704]⟩
abbrev S3x704 : Shape := ⟨2, ![3, 704]⟩
abbrev S1x1x1x704 : Shape := ⟨4, ![1, 1, 1, 704]⟩
abbrev S1x704 : Shape := ⟨2, ![1, 704]⟩
abbrev S704 : Shape := ⟨1, ![704]⟩

abbrev nBuf : Space → Nat
  | .hbm => 15
  | .vmem => 22
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8192x1024, .f32⟩
  | .hbm, ⟨5, _⟩ => ⟨S8192x2x4x704, .f32⟩
  | .hbm, ⟨6, _⟩ => ⟨S4x2x8192x704, .f32⟩
  | .hbm, ⟨7, _⟩ => ⟨S3x2x4x704, .f32⟩
  | .hbm, ⟨8, _⟩ => ⟨S2x4x3x704, .f32⟩
  | .hbm, ⟨9, _⟩ => ⟨S2x4x1x704, .f32⟩
  | .hbm, ⟨10, _⟩ => ⟨S2816x1024, .bf16⟩
  | .hbm, ⟨11, _⟩ => ⟨S4x2x8192x704, .f32⟩
  | .hbm, ⟨12, _⟩ => ⟨S2816x1024, .f32⟩
  | .hbm, ⟨13, _⟩ => ⟨S2x4x3x704, .f32⟩
  | .hbm, ⟨14, _⟩ => ⟨S2x4x1x704, .f32⟩
  | .local _ .vmem, ⟨0, _⟩ => ⟨S1x2x1024x704, .f32⟩
  | .local _ .vmem, ⟨1, _⟩ => ⟨S1x2x1024x704, .f32⟩
  | .local _ .vmem, ⟨2, _⟩ => ⟨S1x2x8x704, .f32⟩
  | .local _ .vmem, ⟨3, _⟩ => ⟨S1x2x8x704, .f32⟩
  | .local _ .vmem, ⟨4, _⟩ => ⟨S1x2x8x704, .f32⟩
  | .local _ .vmem, ⟨5, _⟩ => ⟨S1x2x8x704, .f32⟩
  | .local _ .vmem, ⟨6, _⟩ => ⟨S2x1x3x704, .f32⟩
  | .local _ .vmem, ⟨7, _⟩ => ⟨S2x1x3x704, .f32⟩
  | .local _ .vmem, ⟨8, _⟩ => ⟨S2x1x1x704, .f32⟩
  | .local _ .vmem, ⟨9, _⟩ => ⟨S2x1x1x704, .f32⟩
  | .local _ .vmem, ⟨10, _⟩ => ⟨S704x1024, .bf16⟩
  | .local _ .vmem, ⟨11, _⟩ => ⟨S704x1024, .bf16⟩
  | .local _ .vmem, ⟨12, _⟩ => ⟨S1024x1024, .f32⟩
  | .local _ .vmem, ⟨13, _⟩ => ⟨S1024x1024, .f32⟩
  | .local _ .vmem, ⟨14, _⟩ => ⟨S1x2x1024x704, .f32⟩
  | .local _ .vmem, ⟨15, _⟩ => ⟨S1x2x1024x704, .f32⟩
  | .local _ .vmem, ⟨16, _⟩ => ⟨S704x1024, .f32⟩
  | .local _ .vmem, ⟨17, _⟩ => ⟨S704x1024, .f32⟩
  | .local _ .vmem, ⟨18, _⟩ => ⟨S2x1x3x704, .f32⟩
  | .local _ .vmem, ⟨19, _⟩ => ⟨S2x1x3x704, .f32⟩
  | .local _ .vmem, ⟨20, _⟩ => ⟨S2x1x1x704, .f32⟩
  | .local _ .vmem, ⟨21, _⟩ => ⟨S2x1x1x704, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![arg0.toNat, c0_i32.toNat, v2.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2x1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x8x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2x1024x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x3x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x1x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnDownGradIdeal.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S_ : Shape := ⟨0, ![]⟩
abbrev S1x5632 : Shape := ⟨2, ![1, 5632]⟩
abbrev S8194x5632 : Shape := ⟨2, ![8194, 5632]⟩
abbrev S8192x2816 : Shape := ⟨2, ![8192, 2816]⟩
abbrev S1024x2816 : Shape := ⟨2, ![1024, 2816]⟩
abbrev S8192x2x4x704 : Shape := ⟨4, ![8192, 2, 4, 704]⟩
abbrev S4x2x8192x704 : Shape := ⟨4, ![4, 2, 8192, 704]⟩
abbrev S3x2x4x704 : Shape := ⟨4, ![3, 2, 4, 704]⟩
abbrev S2x4x3x704 : Shape := ⟨4, ![2, 4, 3, 704]⟩
abbrev S2x4x1x704 : Shape := ⟨4, ![2, 4, 1, 704]⟩

abbrev nBuf : Space → Nat
  | .hbm => 124
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S1x5632, .f32⟩
  | .hbm, ⟨7, _⟩ => ⟨S_, .f32⟩
  | .hbm, ⟨8, _⟩ => ⟨S1x5632, .f32⟩
  | .hbm, ⟨9, _⟩ => ⟨S8194x5632, .f32⟩
  | .hbm, ⟨10, _⟩ => ⟨S_, .f32⟩
  | .hbm, ⟨11, _⟩ => ⟨S1x5632, .f32⟩
  | .hbm, ⟨12, _⟩ => ⟨S_, .f32⟩
  | .hbm, ⟨13, _⟩ => ⟨S1x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S1x5632, .f32⟩
  | .hbm, ⟨32, _⟩ => ⟨S5632, .f32⟩
  | .hbm, ⟨33, _⟩ => ⟨S1x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x1024, .f32⟩
  | .hbm, ⟨54, _⟩ => ⟨S1024x2816, .f32⟩
  | .hbm, ⟨55, _⟩ => ⟨S2816x1024, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S_, .f32⟩
  | .hbm, ⟨64, _⟩ => ⟨S8192x5632, .f32⟩
  | .hbm, ⟨65, _⟩ => ⟨S_, .f32⟩
  | .hbm, ⟨66, _⟩ => ⟨S8192x5632, .f32⟩
  | .hbm, ⟨67, _⟩ => ⟨S8192x5632, .f32⟩
  | .hbm, ⟨68, _⟩ => ⟨S8192x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S8192x5632, .f32⟩
  | .hbm, ⟨73, _⟩ => ⟨S8192x5632, .f32⟩
  | .hbm, ⟨74, _⟩ => ⟨S_, .f32⟩
  | .hbm, ⟨75, _⟩ => ⟨S5632, .f32⟩
  | .hbm, ⟨76, _⟩ => ⟨S1x5632, .f32⟩
  | .hbm, ⟨77, _⟩ => ⟨S_, .f32⟩
  | .hbm, ⟨78, _⟩ => ⟨S3x5632, .f32⟩
  | .hbm, ⟨79, _⟩ => ⟨S_, .f32⟩
  | .hbm, ⟨80, _⟩ => ⟨S8194x5632, .f32⟩
  | .hbm, ⟨81, _⟩ => ⟨S8192x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S8192x5632, .f32⟩
  | .hbm, ⟨86, _⟩ => ⟨S8192x5632, .f32⟩
  | .hbm, ⟨87, _⟩ => ⟨S_, .f32⟩
  | .hbm, ⟨88, _⟩ => ⟨S5632, .f32⟩
  | .hbm, ⟨89, _⟩ => ⟨S1x5632, .f32⟩
  | .hbm, ⟨90, _⟩ => ⟨S_, .f32⟩
  | .hbm, ⟨91, _⟩ => ⟨S3x5632, .f32⟩
  | .hbm, ⟨92, _⟩ => ⟨S3x5632, .f32⟩
  | .hbm, ⟨93, _⟩ => ⟨S_, .f32⟩
  | .hbm, ⟨94, _⟩ => ⟨S8194x5632, .f32⟩
  | .hbm, ⟨95, _⟩ => ⟨S8194x5632, .f32⟩
  | .hbm, ⟨96, _⟩ => ⟨S_, .f32⟩
  | .hbm, ⟨97, _⟩ => ⟨S5632, .f32⟩
  | .hbm, ⟨98, _⟩ => ⟨S1x5632, .f32⟩
  | .hbm, ⟨99, _⟩ => ⟨S_, .f32⟩
  | .hbm, ⟨100, _⟩ => ⟨S5632, .f32⟩
  | .hbm, ⟨101, _⟩ => ⟨S8192x5632, .f32⟩
  | .hbm, ⟨102, _⟩ => ⟨S_, .f32⟩
  | .hbm, ⟨103, _⟩ => ⟨S5632, .f32⟩
  | .hbm, ⟨104, _⟩ => ⟨S1x5632, .f32⟩
  | .hbm, ⟨105, _⟩ => ⟨S8192x5632, .f32⟩
  | .hbm, ⟨106, _⟩ => ⟨S8192x5632, .f32⟩
  | .hbm, ⟨107, _⟩ => ⟨S_, .f32⟩
  | .hbm, ⟨108, _⟩ => ⟨S5632, .f32⟩
  | .hbm, ⟨109, _⟩ => ⟨S1x5632, .f32⟩
  | .hbm, ⟨110, _⟩ => ⟨S_, .f32⟩
  | .hbm, ⟨111, _⟩ => ⟨S3x5632, .f32⟩
  | .hbm, ⟨112, _⟩ => ⟨S3x5632, .f32⟩
  | .hbm, ⟨113, _⟩ => ⟨S_, .f32⟩
  | .hbm, ⟨114, _⟩ => ⟨S8194x5632, .f32⟩
  | .hbm, ⟨115, _⟩ => ⟨S8194x5632, .f32⟩
  | .hbm, ⟨116, _⟩ => ⟨S1x5632, .f32⟩
  | .hbm, ⟨117, _⟩ => ⟨S8192x5632, .f32⟩
  | .hbm, ⟨118, _⟩ => ⟨S1x5632, .f32⟩
  | .hbm, ⟨119, _⟩ => ⟨S8192x2x4x704, .f32⟩
  | .hbm, ⟨120, _⟩ => ⟨S4x2x8192x704, .f32⟩
  | .hbm, ⟨121, _⟩ => ⟨S3x2x4x704, .f32⟩
  | .hbm, ⟨122, _⟩ => ⟨S2x4x3x704, .f32⟩
  | .hbm, ⟨123, _⟩ => ⟨S2x4x1x704, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v30_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v30_1 : Ref sig .tc := ⟨.hbm, 50, rfl⟩
abbrev main_v30_0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_v63 : Ref sig .tc := ⟨.hbm, 98, rfl⟩
abbrev main_cst_14 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_cst_17 : Ref sig .tc := ⟨.hbm, 110, rfl⟩
abbrev main_v72 : Ref sig .tc := ⟨.hbm, 111, rfl⟩
abbrev main_v73 : Ref sig .tc := ⟨.hbm, 112, rfl⟩
abbrev main_cst_18 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩

abbrev nD : Nat := 1
abbrev τ : Topo := Topo.v7x

variable {F : FTy → Type} [FloatOps F]
-- ==== FfnUpBwdX.lean ====
abbrev S8192x5632 : Shape := ⟨2, ![8192, 5632]⟩
abbrev S3x5632 : Shape := ⟨2, ![3, 5632]⟩
abbrev S1024x5632 : Shape := ⟨2, ![1024, 5632]⟩
abbrev S8192x1024 : Shape := ⟨2, ![8192, 1024]⟩
abbrev S1024 : Shape := ⟨1, ![1024]⟩
abbrev S8192x2x4x704 : Shape := ⟨4, ![8192, 2, 4, 704]⟩
abbrev S4x2x8192x704 : Shape := ⟨4, ![4, 2, 8192, 704]⟩
abbrev S3x2x4x704 : Shape := ⟨4, ![3, 2, 4, 704]⟩
abbrev S2x4x3x704 : Shape := ⟨4, ![2, 4, 3, 704]⟩
abbrev S1024x8x704 : Shape := ⟨3, ![1024, 8, 704]⟩
abbrev S8x1024x704 : Shape := ⟨3, ![8, 1024, 704]⟩
abbrev S1x1024 : Shape := ⟨2, ![1, 1024]⟩
abbrev S8x8192x704 : Shape := ⟨3, ![8, 8192, 704]⟩
abbrev S1x1x1024x704 : Shape := ⟨4, ![1, 1, 1024, 704]⟩
abbrev S1x1x8x704 : Shape := ⟨4, ![1, 1, 8, 704]⟩
abbrev S1x1x3x704 : Shape := ⟨4, ![1, 1, 3, 704]⟩
abbrev S1x1024x704 : Shape := ⟨3, ![1, 1024, 704]⟩
abbrev S1024x1024 : Shape := ⟨2, ![1024, 1024]⟩
abbrev S1024x704 : Shape := ⟨2, ![1024, 704]⟩
abbrev S8x704 : Shape := ⟨2, ![8, 704]⟩
abbrev S1x8x704 : Shape := ⟨3, ![1, 8, 704]⟩
abbrev S128x8x704 : Shape := ⟨3, ![128, 8, 704]⟩
abbrev S129x8x704 : Shape := ⟨3, ![129, 8, 704]⟩
abbrev S3x704 : Shape := ⟨2, ![3, 704]⟩
abbrev S1x704 : Shape := ⟨2, ![1, 704]⟩
abbrev S1024x1 : Shape := ⟨2, ![1024, 1]⟩

abbrev nBuf : Space → Nat
  | .hbm => 17
  | .vmem => 21
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1024x5632, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x2x4x704, .f32⟩
  | .hbm, ⟨7, _⟩ => ⟨S4x2x8192x704, .f32⟩
  | .hbm, ⟨8, _⟩ => ⟨S3x2x4x704, .f32⟩
  | .hbm, ⟨9, _⟩ => ⟨S2x4x3x704, .f32⟩
  | .hbm, ⟨10, _⟩ => ⟨S1024x8x704, .f32⟩
  | .hbm, ⟨11, _⟩ => ⟨S8x1024x704, .f32⟩
  | .hbm, ⟨12, _⟩ => ⟨S8x1024x704, .bf16⟩
  | .hbm, ⟨13, _⟩ => ⟨S1x1024, .f32⟩
  | .hbm, ⟨14, _⟩ => ⟨S8x8192x704, .bf16⟩
  | .hbm, ⟨15, _⟩ => ⟨S8192x1024, .f32⟩
  | .hbm, ⟨16, _⟩ => ⟨S1x1024, .f32⟩
  | .local _ .vmem, ⟨0, _⟩ => ⟨S1x1x1024x704, .f32⟩
  | .local _ .vmem, ⟨1, _⟩ => ⟨S1x1x1024x704, .f32⟩
  | .local _ .vmem, ⟨2, _⟩ => ⟨S1x1x8x704, .f32⟩
  | .local _ .vmem, ⟨3, _⟩ => ⟨S1x1x8x704, .f32⟩
  | .local _ .vmem, ⟨4, _⟩ => ⟨S1x1x8x704, .f32⟩
  | .local _ .vmem, ⟨5, _⟩ => ⟨S1x1x8x704, .f32⟩
  | .local _ .vmem, ⟨6, _⟩ => ⟨S1x1x3x704, .f32⟩
  | .local _ .vmem, ⟨7, _⟩ => ⟨S1x1x3x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32_35 : BitVec 32 := 7#32
  let v68 : BitVec 1 := Scalar.cmpi .eq arg1 c7_i32_35
  let v69 : BitVec 32 := Scalar.extui v68
  let c0_i32_36 : BitVec 32 := 0#32
  let v70 : BitVec 1 := Scalar.cmpi .ne v69 c0_i32_36
  v70

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c128_i32 : BitVec 32 := 128#32
  let v27 : BitVec 32 := Scalar.muli arg0 c128_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  ![v9.toNat, v26.toNat, v29.toNat, c0_i32_12.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi arg0 c1_i32_10
  let c128_i32 : BitVec 32 := 128#32
  let v28 : BitVec 32 := Scalar.muli v27 c128_i32
  let c1023_i32 : BitVec 32 := 1023#32
  let v29 : BitVec 32 := Scalar.minsi v28 c1023_i32
  let c0_i32_11 : BitVec 32 := 0#32
  let c0_i32_12 : BitVec 32 := 0#32
  ![v9.toNat, v26.toNat, v29.toNat, c0_i32_11.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== FfnUpGradXIdeal.lean ====
abbrev S8192x5632 : Shape := ⟨2, ![8192, 5632]⟩
abbrev S3x5632 : Shape := ⟨2, ![3, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632 : Shape := ⟨1, ![5632]⟩
abbrev S1x5632 : Shape := ⟨2, ![1, 5632]⟩
abbrev S8194x5632 : Shape := ⟨2, ![8194, 5632]⟩
abbrev S8192x8x704 : Shape := ⟨3, ![8192, 8, 704]⟩
abbrev S8x8192x704 : Shape := ⟨3, ![8, 8192, 704]⟩

abbrev nBuf : Space → Nat
  | .hbm => 111
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1024x5632, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S_, .f32⟩
  | .hbm, ⟨28, _⟩ => ⟨S5632, .f32⟩
  | .hbm, ⟨29, _⟩ => ⟨S_, .f32⟩
  | .hbm, ⟨30, _⟩ => ⟨S1x5632, .f32⟩
  | .hbm, ⟨31, _⟩ => ⟨S_, .f32⟩
  | .hbm, ⟨32, _⟩ => ⟨S1x5632, .f32⟩
  | .hbm, ⟨33, _⟩ => ⟨S8194x5632, .f32⟩
  | .hbm, ⟨34, _⟩ => ⟨S_, .f32⟩
  | .hbm, ⟨35, _⟩ => ⟨S1x5632, .f32⟩
  | .hbm, ⟨36, _⟩ => ⟨S_, .f32⟩
  | .hbm, ⟨37, _⟩ => ⟨S1x5632, .f32⟩
  | .hbm, ⟨38, _⟩ => ⟨S8192x5632, .f32⟩
  | .hbm, ⟨39, _⟩ => ⟨S1x5632, .f32⟩
  | .hbm, ⟨40, _⟩ => ⟨S5632, .f32⟩
  | .hbm, ⟨41, _⟩ => ⟨S1x5632, .f32⟩
  | .hbm, ⟨42, _⟩ => ⟨S8192x5632, .f32⟩
  | .hbm, ⟨43, _⟩ => ⟨S8192x5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S1x5632, .f32⟩
  | .hbm, ⟨49, _⟩ => ⟨S5632, .f32⟩
  | .hbm, ⟨50, _⟩ => ⟨S1x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S1x5632, .f32⟩
  | .hbm, ⟨56, _⟩ => ⟨S5632, .f32⟩
  | .hbm, ⟨57, _⟩ => ⟨S1x5632, .f32⟩
  | .hbm, ⟨58, _⟩ => ⟨S8192x5632, .f32⟩
  | .hbm, ⟨59, _⟩ => ⟨S8192x5632, .f32⟩
  | .hbm, ⟨60, _⟩ => ⟨S8192x5632, .f32⟩
  | .hbm, ⟨61, _⟩ => ⟨S8192x5632, .f32⟩
  | .hbm, ⟨62, _⟩ => ⟨S8192x5632, .f32⟩
  | .hbm, ⟨63, _⟩ => ⟨S8192x5632, .f32⟩
  | .hbm, ⟨64, _⟩ => ⟨S8192x5632, .f32⟩
  | .hbm, ⟨65, _⟩ => ⟨S_, .f32⟩
  | .hbm, ⟨66, _⟩ => ⟨S8194x5632, .f32⟩
  | .hbm, ⟨67, _⟩ => ⟨S8192x5632, .f32⟩
  | .hbm, ⟨68, _⟩ => ⟨S8192x5632, .f32⟩
  | .hbm, ⟨69, _⟩ => ⟨S_, .f32⟩
  | .hbm, ⟨70, _⟩ => ⟨S8194x5632, .f32⟩
  | .hbm, ⟨71, _⟩ => ⟨S8194x5632, .f32⟩
  | .hbm, ⟨72, _⟩ => ⟨S8192x5632, .f32⟩
  | .hbm, ⟨73, _⟩ => ⟨S8192x5632, .f32⟩
  | .hbm, ⟨74, _⟩ => ⟨S_, .f32⟩
  | .hbm, ⟨75, _⟩ => ⟨S8194x5632, .f32⟩
  | .hbm, ⟨76, _⟩ => ⟨S8194x5632, .f32⟩
  | .hbm, ⟨77, _⟩ => ⟨S1x5632, .f32⟩
  | .hbm, ⟨78, _⟩ => ⟨S8192x5632, .f32⟩
  | .hbm, ⟨79, _⟩ => ⟨S1x5632, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x1024, .f32⟩
  | .hbm, ⟨94, _⟩ => ⟨S8192x1024, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x8x704, .f32⟩
  | .hbm, ⟨107, _⟩ => ⟨S8x8192x704, .f32⟩
  | .hbm, ⟨108, _⟩ => ⟨S8x8192x704, .bf16⟩
  | .hbm, ⟨109, _⟩ => ⟨S8192x1024, .f32⟩
  | .hbm, ⟨110, _⟩ => ⟨S1x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_14 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]
-- ==== FfnUpBwdW.lean ====
abbrev S8192x1024 : Shape := ⟨2, ![8192, 1024]⟩
abbrev S1024 : Shape := ⟨1, ![1024]⟩
abbrev S8192x5632 : Shape := ⟨2, ![8192, 5632]⟩
abbrev S8192x8x704 : Shape := ⟨3, ![8192, 8, 704]⟩
abbrev S8x8192x704 : Shape := ⟨3, ![8, 8192, 704]⟩
abbrev S1x1024 : Shape := ⟨2, ![1, 1024]⟩
abbrev S8x1024x704 : Shape := ⟨3, ![8, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048 : Shape := ⟨1, ![2048]⟩
abbrev S2048x1 : Shape := ⟨2, ![2048, 1]⟩
abbrev S2048x704 : Shape := ⟨2, ![2048, 704]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S8192x8x704, .f32⟩
  | .hbm, ⟨4, _⟩ => ⟨S8x8192x704, .f32⟩
  | .hbm, ⟨5, _⟩ => ⟨S8x8192x704, .bf16⟩
  | .hbm, ⟨6, _⟩ => ⟨S1x1024, .f32⟩
  | .hbm, ⟨7, _⟩ => ⟨S8x1024x704, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x2048x704, .bf16⟩
  | .local _ .vmem, ⟨4, _⟩ => ⟨S1x2048x704, .bf16⟩
  | .local _ .vmem, ⟨5, _⟩ => ⟨S1x1024x704, .f32⟩
  | .local _ .vmem, ⟨6, _⟩ => ⟨S1x1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnUpGradWIdeal.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S1024x5632 : Shape := ⟨2, ![1024, 5632]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S5632x1024, .f32⟩
  | .hbm, ⟨23, _⟩ => ⟨S1024x5632, .f32⟩
  | .hbm, ⟨24, _⟩ => ⟨S1024x8x704, .f32⟩
  | .hbm, ⟨25, _⟩ => ⟨S8x1024x704, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InProjBwd.lean ====
abbrev S8192x1024 : Shape := ⟨2, ![8192, 1024]⟩
abbrev S1024 : Shape := ⟨1, ![1024]⟩
abbrev S1024x1440 : Shape := ⟨2, ![1024, 1440]⟩
abbrev S8192x512 : Shape := ⟨2, ![8192, 512]⟩
abbrev S8192x416 : Shape := ⟨2, ![8192, 416]⟩
abbrev S_ : Shape := ⟨0, ![]⟩
abbrev S1024x96 : Shape := ⟨2, ![1024, 96]⟩
abbrev S1024x1536 : Shape := ⟨2, ![1024, 1536]⟩
abbrev S8192x96 : Shape := ⟨2, ![8192, 96]⟩
abbrev S1x1024 : Shape := ⟨2, ![1, 1024]⟩
abbrev S512x1024 : Shape := ⟨2, ![512, 1024]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1440, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x416, .f32⟩
  | .hbm, ⟨8, _⟩ => ⟨S_, .f32⟩
  | .hbm, ⟨9, _⟩ => ⟨S1024x96, .f32⟩
  | .hbm, ⟨10, _⟩ => ⟨S1024x1536, .f32⟩
  | .hbm, ⟨11, _⟩ => ⟨S1024x1536, .bf16⟩
  | .hbm, ⟨12, _⟩ => ⟨S_, .f32⟩
  | .hbm, ⟨13, _⟩ => ⟨S8192x96, .f32⟩
  | .hbm, ⟨14, _⟩ => ⟨S8192x512, .f32⟩
  | .hbm, ⟨15, _⟩ => ⟨S1x1024, .f32⟩
  | .hbm, ⟨16, _⟩ => ⟨S8192x1024, .f32⟩
  | .hbm, ⟨17, _⟩ => ⟨S1024x1536, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S1024x1536, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InProjGradIdeal.lean ====
abbrev S8192x1024 : Shape := ⟨2, ![8192, 1024]⟩
abbrev S1024 : Shape := ⟨1, ![1024]⟩
abbrev S1024x1440 : Shape := ⟨2, ![1024, 1440]⟩
abbrev S8192x512 : Shape := ⟨2, ![8192, 512]⟩
abbrev S8192x416 : Shape := ⟨2, ![8192, 416]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1440 : Shape := ⟨2, ![8192, 1440]⟩
abbrev S1440x1024 : Shape := ⟨2, ![1440, 1024]⟩
abbrev S1024x96 : Shape := ⟨2, ![1024, 96]⟩
abbrev S1024x1536 : Shape := ⟨2, ![1024, 1536]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1440, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x416, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1440, .f32⟩
  | .hbm, ⟨29, _⟩ => ⟨S8192x512, .f32⟩
  | .hbm, ⟨30, _⟩ => ⟨S8192x512, .f32⟩
  | .hbm, ⟨31, _⟩ => ⟨S8192x416, .f32⟩
  | .hbm, ⟨32, _⟩ => ⟨S8192x512, .f32⟩
  | .hbm, ⟨33, _⟩ => ⟨S_, .f32⟩
  | .hbm, ⟨34, _⟩ => ⟨S8192x1440, .f32⟩
  | .hbm, ⟨35, _⟩ => ⟨S_, .f32⟩
  | .hbm, ⟨36, _⟩ => ⟨S8192x1440, .f32⟩
  | .hbm, ⟨37, _⟩ => ⟨S8192x1440, .f32⟩
  | .hbm, ⟨38, _⟩ => ⟨S_, .f32⟩
  | .hbm, ⟨39, _⟩ => ⟨S8192x1440, .f32⟩
  | .hbm, ⟨40, _⟩ => ⟨S8192x1440, .f32⟩
  | .hbm, ⟨41, _⟩ => ⟨S1440x1024, .f32⟩
  | .hbm, ⟨42, _⟩ => ⟨S1024x1440, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024x96, .f32⟩
  | .hbm, ⟨72, _⟩ => ⟨S1024x1536, .f32⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== FlashBwd.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S4x2x8192 : Shape := ⟨3, ![4, 2, 8192]⟩
abbrev S8192x8x32 : Shape := ⟨3, ![8192, 8, 32]⟩
abbrev S8192x8x128 : Shape := ⟨3, ![8192, 8, 128]⟩
abbrev S8192x1024 : Shape := ⟨2, ![8192, 1024]⟩
abbrev S2048x256 : Shape := ⟨2, ![2048, 256]⟩
abbrev S1024x256 : Shape := ⟨2, ![1024, 256]⟩
abbrev S1024x128 : Shape := ⟨2, ![1024, 128]⟩
abbrev S2048x128 : Shape := ⟨2, ![2048, 128]⟩
abbrev S1x2x2048 : Shape := ⟨3, ![1, 2, 2048]⟩
abbrev S8192x256 : Shape := ⟨2, ![8192, 256]⟩
abbrev S2x2048 : Shape := ⟨2, ![2, 2048]⟩
abbrev S1024x2048 : Shape := ⟨2, ![1024, 2048]⟩
abbrev S1x2048 : Shape := ⟨2, ![1, 2048]⟩

abbrev nBuf : Space → Nat
  | .hbm => 48
  | .vmem => 18
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8192x8x64, .f32⟩
  | .hbm, ⟨5, _⟩ => ⟨S8x8192x96, .f32⟩
  | .hbm, ⟨6, _⟩ => ⟨S8x8192x96, .f32⟩
  | .hbm, ⟨7, _⟩ => ⟨S8x8192x64, .f32⟩
  | .hbm, ⟨8, _⟩ => ⟨S8x8192x64, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x64, .f32⟩
  | .hbm, ⟨25, _⟩ => ⟨S8x8192x1, .f32⟩
  | .hbm, ⟨26, _⟩ => ⟨S8x8192x1, .f32⟩
  | .hbm, ⟨27, _⟩ => ⟨S_, .f32⟩
  | .hbm, ⟨28, _⟩ => ⟨S8x8192x1, .f32⟩
  | .hbm, ⟨29, _⟩ => ⟨S8x8192x1, .f32⟩
  | .hbm, ⟨30, _⟩ => ⟨S4x2x8192, .f32⟩
  | .hbm, ⟨31, _⟩ => ⟨S8x8192x64, .f32⟩
  | .hbm, ⟨32, _⟩ => ⟨S_, .f32⟩
  | .hbm, ⟨33, _⟩ => ⟨S8x8192, .f32⟩
  | .hbm, ⟨34, _⟩ => ⟨S4x2x8192, .f32⟩
  | .hbm, ⟨35, _⟩ => ⟨S_, .f32⟩
  | .hbm, ⟨36, _⟩ => ⟨S8192x8x32, .f32⟩
  | .hbm, ⟨37, _⟩ => ⟨S8192x8x128, .f32⟩
  | .hbm, ⟨38, _⟩ => ⟨S8192x1024, .f32⟩
  | .hbm, ⟨39, _⟩ => ⟨S8192x1024, .bf16⟩
  | .hbm, ⟨40, _⟩ => ⟨S8192x8x128, .f32⟩
  | .hbm, ⟨41, _⟩ => ⟨S8192x1024, .f32⟩
  | .hbm, ⟨42, _⟩ => ⟨S8192x1024, .bf16⟩
  | .hbm, ⟨43, _⟩ => ⟨S8192x512, .f32⟩
  | .hbm, ⟨44, _⟩ => ⟨S8192x512, .bf16⟩
  | .hbm, ⟨45, _⟩ => ⟨S8192x1024, .f32⟩
  | .hbm, ⟨46, _⟩ => ⟨S8192x1024, .f32⟩
  | .hbm, ⟨47, _⟩ => ⟨S8192x512, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S2048x128, .f32⟩
  | .local _ .vmem, ⟨7, _⟩ => ⟨S2048x128, .f32⟩
  | .local _ .vmem, ⟨8, _⟩ => ⟨S1x2x2048, .f32⟩
  | .local _ .vmem, ⟨9, _⟩ => ⟨S1x2x2048, .f32⟩
  | .local _ .vmem, ⟨10, _⟩ => ⟨S1x2x2048, .f32⟩
  | .local _ .vmem, ⟨11, _⟩ => ⟨S1x2x2048, .f32⟩
  | .local _ .vmem, ⟨12, _⟩ => ⟨S8192x256, .f32⟩
  | .local _ .vmem, ⟨13, _⟩ => ⟨S8192x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v106 : Index := Scalar.indexCast v1
  let c0_54 : Index := 0#32
  ![v106.toNat, 0]
def k0_off2 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v52 : Index := Scalar.indexCast v1
  let c0_28 : Index := 0#32
  ![v52.toNat, 0]
def k0_off3 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v94 : Index := Scalar.indexCast v1
  let c128_46 : Index := 128#32
  ![v94.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FlashBwdIdeal.lean ====
variable {F : FTy → Type} [FloatOps F] [Named F]
def κ : String → Option EReal := fun
  | "scale_log2e" => some (((3424635 / 33554432) * (Real.log 2)⁻¹ : ℝ) : EReal)
  | _ => none
-- ==== AttentionGradIdeal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x8x32 : Shape := ⟨3, ![8192, 8, 32]⟩
abbrev S8192x8x128 : Shape := ⟨3, ![8192, 8, 128]⟩
abbrev S8192x1024 : Shape := ⟨2, ![8192, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x96, .f32⟩
  | .hbm, ⟨5, _⟩ => ⟨S8x8192x96, .f32⟩
  | .hbm, ⟨6, _⟩ => ⟨S8x8192x64, .f32⟩
  | .hbm, ⟨7, _⟩ => ⟨S8x8192x8192, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S8x8192x8192, .f32⟩
  | .hbm, ⟨15, _⟩ => ⟨S8x8192x8192, .i1⟩
  | .hbm, ⟨16, _⟩ => ⟨S8x8192x8192, .f32⟩
  | .hbm, ⟨17, _⟩ => ⟨S_, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .i1⟩
  | .hbm, ⟨25, _⟩ => ⟨S_, .f32⟩
  | .hbm, ⟨26, _⟩ => ⟨S8x8192, .f32⟩
  | .hbm, ⟨27, _⟩ => ⟨S8x8192, .i1⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S8x8192x64, .f32⟩
  | .hbm, ⟨50, _⟩ => ⟨S8192x8x64, .f32⟩
  | .hbm, ⟨51, _⟩ => ⟨S8192x512, .f32⟩
  | .hbm, ⟨52, _⟩ => ⟨S8192x8x64, .f32⟩
  | .hbm, ⟨53, _⟩ => ⟨S8x8192x64, .f32⟩
  | .hbm, ⟨54, _⟩ => ⟨S8x64x8192, .f32⟩
  | .hbm, ⟨55, _⟩ => ⟨S8x8192x64, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192x8192, .f32⟩
  | .hbm, ⟨73, _⟩ => ⟨S8x8192x8192, .f32⟩
  | .hbm, ⟨74, _⟩ => ⟨S8x8192x96, .f32⟩
  | .hbm, ⟨75, _⟩ => ⟨S8x8192x96, .f32⟩
  | .hbm, ⟨76, _⟩ => ⟨S8192x8x64, .f32⟩
  | .hbm, ⟨77, _⟩ => ⟨S8192x8x96, .f32⟩
  | .hbm, ⟨78, _⟩ => ⟨S8192x8x96, .f32⟩
  | .hbm, ⟨79, _⟩ => ⟨S_, .f32⟩
  | .hbm, ⟨80, _⟩ => ⟨S8192x8x32, .f32⟩
  | .hbm, ⟨81, _⟩ => ⟨S8192x8x128, .f32⟩
  | .hbm, ⟨82, _⟩ => ⟨S8192x1024, .f32⟩
  | .hbm, ⟨83, _⟩ => ⟨S8192x8x128, .f32⟩
  | .hbm, ⟨84, _⟩ => ⟨S8192x1024, .f32⟩
  | .hbm, ⟨85, _⟩ => ⟨S8192x512, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Proof.Common.lean ====
/-
  What the value proofs share: the float words of 1/1024 and 1024 as real numbers, the quotient by 1024 as the product
  with 1/1024, and the fold of an accumulator over a run of grid points as a sum over `Fin`.
-/
module

public import Idealize.ShloMosaic.Lib.Pipeline.ValueKit
public import Idealize.ShloMosaic.Lib.IdealHost

@[expose] public section

noncomputable section

namespace Cert.Common

open Idealize.ShloMosaic

theorem word_inv1024 : Ideal.ofBits .f32 0x3A800000#32 = ((1 / 1024 : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

/-- The mean over 1024 lanes: a division by 1024 is the product with the word of 1/1024. -/
theorem div_1024 (x : EReal) : Ideal.div x (Ideal.ofBits .f32 0x44800000#32) = x * Ideal.ofBits .f32 0x3A800000#32 := by
  rw [word_1024, word_inv1024, Ideal.div_coe (by norm_num)]

/-- The fold over the run `b, …, b + j` of a quantity that starts at the first point's term and gains each later
    point's term is the sum of the terms. -/
theorem accAt_sum {N : ℕ} {ι M : Type*} [AddCommMonoid M] (a : (n : ℕ) → n < N → ι → M)
    (g : (n : ℕ) → n < N → (ι → M) → ι → M) (term : Fin N → ι → M) (b j : ℕ) (h : b + j < N) (i : ι)
    (ha : ∀ (hb : b < N) (i : ι), a b hb i = term ⟨b, hb⟩ i)
    (hg : ∀ (n : ℕ) (hn : n < N) (acc : ι → M) (i : ι), b < n → g n hn acc i = acc i + term ⟨n, hn⟩ i) :
    Pipeline.accAt a g b j h i
      = ∑ s : Fin (j + 1), term ⟨b + s.val, Nat.lt_of_le_of_lt (Nat.add_le_add_left (Nat.le_of_lt_succ s.isLt) b) h⟩ i := by
  rw [Pipeline.accAt_add_apply a g (fun _ => 0) (fun n i => if hn : n < N then term ⟨n, hn⟩ i else 0) b j
      (fun hb i => by rw [dif_pos hb, zero_add, ha]) (fun n hn acc i hb _ => by rw [dif_pos hn, hg n hn acc i hb])
      j le_rfl h i, zero_add, Finset.sum_range]
  exact Finset.sum_congr rfl fun s _ => dif_pos _

end Cert.Common

end
-- ==== Proof.DownPoint.lean ====
/-
  What the kernel of the down projection's backward pass leaves in its buffers at each grid point, as named terms: the
  convolution's three taps and values for both halves, the two halves of the gradient by the convolution's output, and
  the accumulators of the gradients by the down weight and by the convolution's weight and bias.
-/
module

public import proofs.«01_k».proof.Proof.Common
public import proofs.«01_k».proof.Proof.Gen.FfnDownBwdIdeal.Value
public import Idealize.ShloMosaic.Lib.Pipeline.ReadBack

@[expose] public section

set_option maxRecDepth 16384

noncomputable section

namespace Cert.FfnDownBwdIdeal.Point

open Cert.FfnDownBwdIdeal Cert.FfnDownBwdIdeal.Gen Cert.FfnDownBwdIdeal.Value
open Idealize.ShloMosaic Idealize.ShloMosaic.TcCoe Idealize.ShloMosaic.Tactic Idealize.SL.Sem

section Pieces
variable {Val : EltTy → Type} [∀ e, Nonempty (Val e)] {e : EltTy} {S : Shape}

/-- A block stored last is read back at its place. -/
theorem hit (off size : Fin S.rank → ℕ) (inb : ∀ a, off a + size a ≤ S.size a) (w : (Rect.unit off size inb).shape.Idx → Val e)
    (L : List (View.Piece Val S e)) (i : S.Idx) (x : (Rect.unit off size inb).shape.Idx) (h : ∀ a, (i a).val = off a + (x a).val) :
    View.canon ((⟨Rect.unit off size inb, w⟩ : View.Piece Val S e) :: L) i = w x := by
  have he : (Rect.unit off size inb).emb x = i :=
    funext fun a => Fin.ext ((Rect.idx_unit_val off size inb x a).trans (h a).symm)
  rw [← he]
  exact View.canon_cons_emb _ w L x

/-- A block stored elsewhere leaves what the earlier stores left. -/
theorem miss (off size : Fin S.rank → ℕ) (inb : ∀ a, off a + size a ≤ S.size a) (w : (Rect.unit off size inb).shape.Idx → Val e)
    (L : List (View.Piece Val S e)) (i : S.Idx) (a : Fin S.rank) (h : (i a).val < off a ∨ off a + size a ≤ (i a).val) :
    View.canon ((⟨Rect.unit off size inb, w⟩ : View.Piece Val S e) :: L) i = View.canon L i := by
  refine View.canon_cons_of_not_mem _ L fun hm => ?_
  have h' := (Rect.mem_set_unit (inb := inb)).mp hm a
  omega

theorem lastOne (z k : ℕ) {hz : z < 2} {j n : ℕ} {hk : k < j} (f : Fin n) (a : Fin 4) :
    ((ix4 ⟨z, hz⟩ 0 ⟨k, hk⟩ f : (⟨4, ![2, 1, j, n]⟩ : Shape).Idx) a).val
      = (![z, 0, k, 0] : Fin 4 → ℕ) a + ((ix4 0 0 0 f : (⟨4, ![1, 1, 1, n]⟩ : Shape).Idx) a).val := by
  match a with
  | ⟨0, _⟩ => rfl
  | ⟨1, _⟩ => rfl
  | ⟨2, _⟩ => rfl
  | ⟨3, _⟩ => exact (Nat.zero_add _).symm

theorem lastTwo (z : ℕ) {hz : z < 2} {q n : ℕ} (r : Fin q) (f : Fin n) (a : Fin 4) :
    ((ix4 0 ⟨z, hz⟩ r f : (⟨4, ![1, 2, q, n]⟩ : Shape).Idx) a).val
      = (![0, z, 0, 0] : Fin 4 → ℕ) a + ((ix4 0 0 r f : (⟨4, ![1, 1, q, n]⟩ : Shape).Idx) a).val := by
  match a with
  | ⟨0, _⟩ => rfl
  | ⟨1, _⟩ => rfl
  | ⟨2, _⟩ => exact (Nat.zero_add _).symm
  | ⟨3, _⟩ => exact (Nat.zero_add _).symm

end Pieces

variable {F : FTy → Type} [FloatOps F]
variable (m : (ℓ : Loc nD τ sig) → Buf (Elt F) ℓ)

section Terms
variable (c : Dev nD) (t : Fin cfg0.N)

/-- The gate's half of the point's rows, of the eight rows before and of the eight rows after. -/
def curG : Vec F S1x1x1024x704 .f32 := View.ld (iblk m c 0 t) (Rect.unit ![0, 0, 0, 0] ![1, 1, 1024, 704] inb_S1x2x1024x704_S1x1x1024x704_0_0_0_0)
def prvG : Vec F S1x1x8x704 .f32 := View.ld (iblk m c 1 t) (Rect.unit ![0, 0, 0, 0] ![1, 1, 8, 704] inb_S1x2x8x704_S1x1x8x704_0_0_0_0)
def nxtG : Vec F S1x1x8x704 .f32 := View.ld (iblk m c 2 t) (Rect.unit ![0, 0, 0, 0] ![1, 1, 8, 704] inb_S1x2x8x704_S1x1x8x704_0_0_0_0)
def cwG : Vec F S1x1x3x704 .f32 := View.ld (iblk m c 3 t) (Rect.unit ![0, 0, 0, 0] ![1, 1, 3, 704] inb_S2x1x3x704_S1x1x3x704_0_0_0_0)
def cbG : Vec F S1x1x1x704 .f32 := View.ld (iblk m c 4 t) (Rect.unit ![0, 0, 0, 0] ![1, 1, 1, 704] inb_S2x1x1x704_S1x1x1x704_0_0_0_0)

/-- The other half of the same. -/
def curU : Vec F S1x1x1024x704 .f32 := View.ld (iblk m c 0 t) (Rect.unit ![0, 1, 0, 0] ![1, 1, 1024, 704] inb_S1x2x1024x704_S1x1x1024x704_0_1_0_0)
def prvU : Vec F S1x1x8x704 .f32 := View.ld (iblk m c 1 t) (Rect.unit ![0, 1, 0, 0] ![1, 1, 8, 704] inb_S1x2x8x704_S1x1x8x704_0_1_0_0)
def nxtU : Vec F S1x1x8x704 .f32 := View.ld (iblk m c 2 t) (Rect.unit ![0, 1, 0, 0] ![1, 1, 8, 704] inb_S1x2x8x704_S1x1x8x704_0_1_0_0)
def cwU : Vec F S1x1x3x704 .f32 := View.ld (iblk m c 3 t) (Rect.unit ![1, 0, 0, 0] ![1, 1, 3, 704] inb_S2x1x3x704_S1x1x3x704_1_0_0_0)
def cbU : Vec F S1x1x1x704 .f32 := View.ld (iblk m c 4 t) (Rect.unit ![1, 0, 0, 0] ![1, 1, 1, 704] inb_S2x1x1x704_S1x1x1x704_1_0_0_0)

/-- The three taps of each half. -/
def tg0 : FVec F S1024x704 .f32 := k0_pay6 (grid0.coords t) (curG m c t) (prvG m c t)
def tg1 : FVec F S1024x704 .f32 := k0_pay5 (curG m c t)
def tg2 : FVec F S1024x704 .f32 :=
  k0_pay11 k0_pay8 (k0_pay9 (grid0.coords t) (curG m c t) (nxtG m c t)) (k0_pay10 (grid0.coords t) (curG m c t) (nxtG m c t))
def tu0 : FVec F S1024x704 .f32 :=
  k0_pay13 (Scalar.cmpi .eq (BitVec.ofNat 32 (grid0.coords t 1)) 0#32) (curU m c t) (prvU m c t)
def tu1 : FVec F S1024x704 .f32 := k0_pay12 (curU m c t)
def tu2 : FVec F S1024x704 .f32 :=
  k0_pay14 (Scalar.cmpi .eq (BitVec.ofNat 32 (grid0.coords t 1)) 7#32) (curU m c t) (nxtU m c t)

/-- The convolution's value in each half, and the sigmoid's denominator. -/
def gpre : FVec F S1024x704 .f32 := k0_pay16 (tg1 m c t) (tg0 m c t) (tg2 m c t) (k0_pay15 (cwG m c t)) (cbG m c t)
def upre : FVec F S1024x704 .f32 := k0_pay17 (tu1 m c t) (tu0 m c t) (tu2 m c t) (cwU m c t) (cbU m c t)
def den : FVec F S1024x704 .f32 := k0_pay18 (tg1 m c t) (tg0 m c t) (tg2 m c t) (k0_pay15 (cwG m c t)) (cbG m c t)

/-- The gradient by the convolution's value, in each half. -/
def dgT : FVec F S1024x704 .f32 := k0_pay24 (gpre m c t) (upre m c t) (iblk m c 6 t) (den m c t) k0_pay19 (iblk m c 5 t)
def duT : FVec F S1024x704 .f32 := k0_pay25 (gpre m c t) (iblk m c 6 t) (den m c t) k0_pay19 (iblk m c 5 t)

/-- The down weight's gradient with the point's rows added. -/
def stepW (acc : Vec F S704x1024 .f32) : FVec F S704x1024 .f32 :=
  k0_pay23 (gpre m c t) (upre m c t) (iblk m c 6 t) (den m c t) k0_pay19 acc

/-- The sums of the convolution's bias gradient with the point's rows added. -/
def stepB0 (acc : Vec F S1x1x1x704 .f32) : FVec F S1x1x1x704 .f32 :=
  k0_pay29 (k0_pay28 (gpre m c t) (upre m c t) (iblk m c 6 t) (den m c t) k0_pay19 (iblk m c 5 t) acc)

abbrev rowB0 (acc : Vec F S2x1x1x704 .f32) : Vec F S1x1x1x704 .f32 :=
  View.ld acc (Rect.unit ![0, 0, 0, 0] ![1, 1, 1, 704] inb_S2x1x1x704_S1x1x1x704_0_0_0_0)
abbrev rowB1 (acc : Vec F S2x1x1x704 .f32) : Vec F S1x1x1x704 .f32 :=
  View.ld acc (Rect.unit ![1, 0, 0, 0] ![1, 1, 1, 704] inb_S2x1x1x704_S1x1x1x704_1_0_0_0)
abbrev row00 (acc : Vec F S2x1x3x704 .f32) : Vec F S1x1x1x704 .f32 :=
  View.ld acc (Rect.unit ![0, 0, 0, 0] ![1, 1, 1, 704] inb_S2x1x3x704_S1x1x1x704_0_0_0_0)
abbrev row01 (acc : Vec F S2x1x3x704 .f32) : Vec F S1x1x1x704 .f32 :=
  View.ld acc (Rect.unit ![0, 0, 1, 0] ![1, 1, 1, 704] inb_S2x1x3x704_S1x1x1x704_0_0_1_0)
abbrev row02 (acc : Vec F S2x1x3x704 .f32) : Vec F S1x1x1x704 .f32 :=
  View.ld acc (Rect.unit ![0, 0, 2, 0] ![1, 1, 1, 704] inb_S2x1x3x704_S1x1x1x704_0_0_2_0)
abbrev row10 (acc : Vec F S2x1x3x704 .f32) : Vec F S1x1x1x704 .f32 :=
  View.ld acc (Rect.unit ![1, 0, 0, 0] ![1, 1, 1, 704] inb_S2x1x3x704_S1x1x1x704_1_0_0_0)
abbrev row11 (acc : Vec F S2x1x3x704 .f32) : Vec F S1x1x1x704 .f32 :=
  View.ld acc (Rect.unit ![1, 0, 1, 0] ![1, 1, 1, 704] inb_S2x1x3x704_S1x1x1x704_1_0_1_0)
abbrev row12 (acc : Vec F S2x1x3x704 .f32) : Vec F S1x1x1x704 .f32 :=
  View.ld acc (Rect.unit ![1, 0, 2, 0] ![1, 1, 1, 704] inb_S2x1x3x704_S1x1x1x704_1_0_2_0)

/-- The block of the gradient by the convolution's value. -/
def both : Vec F S1x2x1024x704 .f32 :=
  View.canon [⟨Rect.unit ![0, 1, 0, 0] ![1, 1, 1024, 704] inb_S1x2x1024x704_S1x1x1024x704_0_1_0_0,
      k0_pay27 (gpre m c t) (iblk m c 6 t) (den m c t) k0_pay19 (iblk m c 5 t)⟩,
    ⟨Rect.unit ![0, 0, 0, 0] ![1, 1, 1024, 704] inb_S1x2x1024x704_S1x1x1024x704_0_0_0_0,
      k0_pay26 (gpre m c t) (upre m c t) (iblk m c 6 t) (den m c t) k0_pay19 (iblk m c 5 t)⟩]

end Terms

theorem out7 (c : Dev nD) (t : Fin cfg0.N) : (outsAt0 m c t.val t.isLt).1 = both m c t := by
  by_cases h0 : t.val % 8 = 0
  · rw [outsAt0_A m c t h0]
    frame_out
    rfl
  · rw [outsAt0_B m c t h0]
    frame_out
    rfl

/-- The gate's half of what the point stores, and the other half. -/
theorem both0 (c : Dev nD) (t : Fin cfg0.N) (r : Fin 1024) (f : Fin 704) :
    both m c t (ix4 0 0 r f) = k0_pay26 (gpre m c t) (upre m c t) (iblk m c 6 t) (den m c t) k0_pay19 (iblk m c 5 t) (ix4 0 0 r f) := by
  unfold both
  refine (miss _ _ _ _ _ _ (1 : Fin 4) (Or.inl (show (0 : ℕ) < 1 by decide))).trans ((hit _ _ _ _ _ _ (ix4 0 0 r f) (lastTwo 0 r f)).trans ?_)
  rfl

theorem both1 (c : Dev nD) (t : Fin cfg0.N) (r : Fin 1024) (f : Fin 704) :
    both m c t (ix4 0 1 r f) = k0_pay27 (gpre m c t) (iblk m c 6 t) (den m c t) k0_pay19 (iblk m c 5 t) (ix4 0 0 r f) := by
  unfold both
  refine (hit _ _ _ _ _ _ (ix4 0 0 r f) (lastTwo 1 r f)).trans ?_
  rfl

theorem w_first (c : Dev nD) (t : Fin cfg0.N) (h0 : t.val % 8 = 0) : (outsAt0 m c t.val t.isLt).2.1 = stepW m c t k0_pay2 := by
  rw [outsAt0_A m c t h0]
  frame_out
  rfl

theorem w_next (c : Dev nD) (t : Fin cfg0.N) (h0 : ¬t.val % 8 = 0) :
    (outsAt0 m c t.val t.isLt).2.1 = stepW m c t (outsAt0 m c (t.val - 1) (Nat.lt_of_le_of_lt (Nat.sub_le _ _) t.isLt)).2.1 := by
  rw [outsAt0_B m c t h0]
  frame_out
  rfl

theorem b_first00 (c : Dev nD) (t : Fin cfg0.N) (h0 : t.val % 8 = 0) (f : Fin 704) :
    (outsAt0 m c t.val t.isLt).2.2.2 (ix4 0 0 0 f) = stepB0 m c t (rowB0 k0_pay4) (ix4 0 0 0 f) := by
  rw [outsAt0_A m c t h0]
  frame_out
  refine (miss _ _ _ _ _ _ (0 : Fin 4) (Or.inl (show (0 : ℕ) < 1 by decide))).trans ((hit _ _ _ _ _ _ (ix4 0 0 0 f) (lastOne 0 0 f)).trans ?_)
  simp (disch := decide) only [↓ View.readCov_skip, ↓ View.readCov_fill]
  rfl

theorem b_next00 (c : Dev nD) (t : Fin cfg0.N) (h0 : ¬t.val % 8 = 0) (f : Fin 704) :
    (outsAt0 m c t.val t.isLt).2.2.2 (ix4 0 0 0 f)
      = stepB0 m c t (rowB0 (outsAt0 m c (t.val - 1) (Nat.lt_of_le_of_lt (Nat.sub_le _ _) t.isLt)).2.2.2) (ix4 0 0 0 f) := by
  rw [outsAt0_B m c t h0]
  frame_out
  refine (miss _ _ _ _ _ _ (0 : Fin 4) (Or.inl (show (0 : ℕ) < 1 by decide))).trans ((hit _ _ _ _ _ _ (ix4 0 0 0 f) (lastOne 0 0 f)).trans ?_)
  rfl

theorem b_first10 (c : Dev nD) (t : Fin cfg0.N) (h0 : t.val % 8 = 0) (f : Fin 704) :
    (outsAt0 m c t.val t.isLt).2.2.2 (ix4 1 0 0 f) = k0_pay34 (duT m c t) (rowB1 k0_pay4) (ix4 0 0 0 f) := by
  rw [outsAt0_A m c t h0]
  frame_out
  refine (hit _ _ _ _ _ _ (ix4 0 0 0 f) (lastOne 1 0 f)).trans ?_
  simp (disch := decide) only [↓ View.readCov_skip, ↓ View.readCov_fill]
  rfl

theorem b_next10 (c : Dev nD) (t : Fin cfg0.N) (h0 : ¬t.val % 8 = 0) (f : Fin 704) :
    (outsAt0 m c t.val t.isLt).2.2.2 (ix4 1 0 0 f)
      = k0_pay34 (duT m c t) (rowB1 (outsAt0 m c (t.val - 1) (Nat.lt_of_le_of_lt (Nat.sub_le _ _) t.isLt)).2.2.2) (ix4 0 0 0 f) := by
  rw [outsAt0_B m c t h0]
  frame_out
  refine (hit _ _ _ _ _ _ (ix4 0 0 0 f) (lastOne 1 0 f)).trans ?_
  rfl

theorem c_first00 (c : Dev nD) (t : Fin cfg0.N) (h0 : t.val % 8 = 0) (f : Fin 704) :
    (outsAt0 m c t.val t.isLt).2.2.1 (ix4 0 0 0 f) = k0_pay30 (tg0 m c t) (dgT m c t) (row00 k0_pay3) (ix4 0 0 0 f) := by
  rw [outsAt0_A m c t h0]
  frame_out
  refine (miss _ _ _ _ _ _ (0 : Fin 4) (Or.inl (show (0 : ℕ) < 1 by decide))).trans ((miss _ _ _ _ _ _ (0 : Fin 4) (Or.inl (show (0 : ℕ) < 1 by decide))).trans ((miss _ _ _ _ _ _ (0 : Fin 4) (Or.inl (show (0 : ℕ) < 1 by decide))).trans ((miss _ _ _ _ _ _ (2 : Fin 4) (Or.inl (show (0 : ℕ) < 2 by decide))).trans ((miss _ _ _ _ _ _ (2 : Fin 4) (Or.inl (show (0 : ℕ) < 1 by decide))).trans ((hit _ _ _ _ _ _ (ix4 0 0 0 f) (lastOne 0 0 f)).trans ?_)))))
  simp (disch := decide) only [↓ View.readCov_skip, ↓ View.readCov_fill]
  rfl

theorem c_next00 (c : Dev nD) (t : Fin cfg0.N) (h0 : ¬t.val % 8 = 0) (f : Fin 704) :
    (outsAt0 m c t.val t.isLt).2.2.1 (ix4 0 0 0 f)
      = k0_pay30 (tg0 m c t) (dgT m c t) (row00 (outsAt0 m c (t.val - 1) (Nat.lt_of_le_of_lt (Nat.sub_le _ _) t.isLt)).2.2.1) (ix4 0 0 0 f) := by
  rw [outsAt0_B m c t h0]
  frame_out
  refine (miss _ _ _ _ _ _ (0 : Fin 4) (Or.inl (show (0 : ℕ) < 1 by decide))).trans ((miss _ _ _ _ _ _ (0 : Fin 4) (Or.inl (show (0 : ℕ) < 1 by decide))).trans ((miss _ _ _ _ _ _ (0 : Fin 4) (Or.inl (show (0 : ℕ) < 1 by decide))).trans ((miss _ _ _ _ _ _ (2 : Fin 4) (Or.inl (show (0 : ℕ) < 2 by decide))).trans ((miss _ _ _ _ _ _ (2 : Fin 4) (Or.inl (show (0 : ℕ) < 1 by decide))).trans ((hit _ _ _ _ _ _ (ix4 0 0 0 f) (lastOne 0 0 f)).trans ?_)))))
  rfl

theorem c_first01 (c : Dev nD) (t : Fin cfg0.N) (h0 : t.val % 8 = 0) (f : Fin 704) :
    (outsAt0 m c t.val t.isLt).2.2.1 (ix4 0 0 1 f) = k0_pay31 (tg1 m c t) (dgT m c t) (row01 k0_pay3) (ix4 0 0 0 f) := by
  rw [outsAt0_A m c t h0]
  frame_out
  refine (miss _ _ _ _ _ _ (0 : Fin 4) (Or.inl (show (0 : ℕ) < 1 by decide))).trans ((miss _ _ _ _ _ _ (0 : Fin 4) (Or.inl (show (0 : ℕ) < 1 by decide))).trans ((miss _ _ _ _ _ _ (0 : Fin 4) (Or.inl (show (0 : ℕ) < 1 by decide))).trans ((miss _ _ _ _ _ _ (2 : Fin 4) (Or.inl (show (1 : ℕ) < 2 by decide))).trans ((hit _ _ _ _ _ _ (ix4 0 0 0 f) (lastOne 0 1 f)).trans ?_))))
  simp (disch := decide) only [↓ View.readCov_skip, ↓ View.readCov_fill]
  rfl

theorem c_next01 (c : Dev nD) (t : Fin cfg0.N) (h0 : ¬t.val % 8 = 0) (f : Fin 704) :
    (outsAt0 m c t.val t.isLt).2.2.1 (ix4 0 0 1 f)
      = k0_pay31 (tg1 m c t) (dgT m c t) (row01 (outsAt0 m c (t.val - 1) (Nat.lt_of_le_of_lt (Nat.sub_le _ _) t.isLt)).2.2.1) (ix4 0 0 0 f) := by
  rw [outsAt0_B m c t h0]
  frame_out
  refine (miss _ _ _ _ _ _ (0 : Fin 4) (Or.inl (show (0 : ℕ) < 1 by decide))).trans ((miss _ _ _ _ _ _ (0 : Fin 4) (Or.inl (show (0 : ℕ) < 1 by decide))).trans ((miss _ _ _ _ _ _ (0 : Fin 4) (Or.inl (show (0 : ℕ) < 1 by decide))).trans ((miss _ _ _ _ _ _ (2 : Fin 4) (Or.inl (show (1 : ℕ) < 2 by decide))).trans ((hit _ _ _ _ _ _ (ix4 0 0 0 f) (lastOne 0 1 f)).trans ?_))))
  rfl

theorem c_first02 (c : Dev nD) (t : Fin cfg0.N) (h0 : t.val % 8 = 0) (f : Fin 704) :
    (outsAt0 m c t.val t.isLt).2.2.1 (ix4 0 0 2 f) = k0_pay33 (k0_pay32 (tg2 m c t) (dgT m c t) (row02 k0_pay3)) (ix4 0 0 0 f) := by
  rw [outsAt0_A m c t h0]
  frame_out
  refine (miss _ _ _ _ _ _ (0 : Fin 4) (Or.inl (show (0 : ℕ) < 1 by decide))).trans ((miss _ _ _ _ _ _ (0 : Fin 4) (Or.inl (show (0 : ℕ) < 1 by decide))).trans ((miss _ _ _ _ _ _ (0 : Fin 4) (Or.inl (show (0 : ℕ) < 1 by decide))).trans ((hit _ _ _ _ _ _ (ix4 0 0 0 f) (lastOne 0 2 f)).trans ?_)))
  simp (disch := decide) only [↓ View.readCov_skip, ↓ View.readCov_fill]
  rfl

theorem c_next02 (c : Dev nD) (t : Fin cfg0.N) (h0 : ¬t.val % 8 = 0) (f : Fin 704) :
    (outsAt0 m c t.val t.isLt).2.2.1 (ix4 0 0 2 f)
      = k0_pay33 (k0_pay32 (tg2 m c t) (dgT m c t) (row02 (outsAt0 m c (t.val - 1) (Nat.lt_of_le_of_lt (Nat.sub_le _ _) t.isLt)).2.2.1)) (ix4 0 0 0 f) := by
  rw [outsAt0_B m c t h0]
  frame_out
  refine (miss _ _ _ _ _ _ (0 : Fin 4) (Or.inl (show (0 : ℕ) < 1 by decide))).trans ((miss _ _ _ _ _ _ (0 : Fin 4) (Or.inl (show (0 : ℕ) < 1 by decide))).trans ((miss _ _ _ _ _ _ (0 : Fin 4) (Or.inl (show (0 : ℕ) < 1 by decide))).trans ((hit _ _ _ _ _ _ (ix4 0 0 0 f) (lastOne 0 2 f)).trans ?_)))
  rfl

theorem c_first10 (c : Dev nD) (t : Fin cfg0.N) (h0 : t.val % 8 = 0) (f : Fin 704) :
    (outsAt0 m c t.val t.isLt).2.2.1 (ix4 1 0 0 f) = k0_pay35 (tu0 m c t) (duT m c t) (row10 k0_pay3) (ix4 0 0 0 f) := by
  rw [outsAt0_A m c t h0]
  frame_out
  refine (miss _ _ _ _ _ _ (2 : Fin 4) (Or.inl (show (0 : ℕ) < 2 by decide))).trans ((miss _ _ _ _ _ _ (2 : Fin 4) (Or.inl (show (0 : ℕ) < 1 by decide))).trans ((hit _ _ _ _ _ _ (ix4 0 0 0 f) (lastOne 1 0 f)).trans ?_))
  simp (disch := decide) only [↓ View.readCov_skip, ↓ View.readCov_fill]
  rfl

theorem c_next10 (c : Dev nD) (t : Fin cfg0.N) (h0 : ¬t.val % 8 = 0) (f : Fin 704) :
    (outsAt0 m c t.val t.isLt).2.2.1 (ix4 1 0 0 f)
      = k0_pay35 (tu0 m c t) (duT m c t) (row10 (outsAt0 m c (t.val - 1) (Nat.lt_of_le_of_lt (Nat.sub_le _ _) t.isLt)).2.2.1) (ix4 0 0 0 f) := by
  rw [outsAt0_B m c t h0]
  frame_out
  refine (miss _ _ _ _ _ _ (2 : Fin 4) (Or.inl (show (0 : ℕ) < 2 by decide))).trans ((miss _ _ _ _ _ _ (2 : Fin 4) (Or.inl (show (0 : ℕ) < 1 by decide))).trans ((hit _ _ _ _ _ _ (ix4 0 0 0 f) (lastOne 1 0 f)).trans ?_))
  rfl

theorem c_first11 (c : Dev nD) (t : Fin cfg0.N) (h0 : t.val % 8 = 0) (f : Fin 704) :
    (outsAt0 m c t.val t.isLt).2.2.1 (ix4 1 0 1 f) = k0_pay36 (tu1 m c t) (duT m c t) (row11 k0_pay3) (ix4 0 0 0 f) := by
  rw [outsAt0_A m c t h0]
  frame_out
  refine (miss _ _ _ _ _ _ (2 : Fin 4) (Or.inl (show (1 : ℕ) < 2 by decide))).trans ((hit _ _ _ _ _ _ (ix4 0 0 0 f) (lastOne 1 1 f)).trans ?_)
  simp (disch := decide) only [↓ View.readCov_skip, ↓ View.readCov_fill]
  rfl

theorem c_next11 (c : Dev nD) (t : Fin cfg0.N) (h0 : ¬t.val % 8 = 0) (f : Fin 704) :
    (outsAt0 m c t.val t.isLt).2.2.1 (ix4 1 0 1 f)
      = k0_pay36 (tu1 m c t) (duT m c t) (row11 (outsAt0 m c (t.val - 1) (Nat.lt_of_le_of_lt (Nat.sub_le _ _) t.isLt)).2.2.1) (ix4 0 0 0 f) := by
  rw [outsAt0_B m c t h0]
  frame_out
  refine (miss _ _ _ _ _ _ (2 : Fin 4) (Or.inl (show (1 : ℕ) < 2 by decide))).trans ((hit _ _ _ _ _ _ (ix4 0 0 0 f) (lastOne 1 1 f)).trans ?_)
  rfl

theorem c_first12 (c : Dev nD) (t : Fin cfg0.N) (h0 : t.val % 8 = 0) (f : Fin 704) :
    (outsAt0 m c t.val t.isLt).2.2.1 (ix4 1 0 2 f) = k0_pay1 (tu2 m c t) (duT m c t) (row12 k0_pay3) (ix4 0 0 0 f) := by
  rw [outsAt0_A m c t h0]
  frame_out
  refine (hit _ _ _ _ _ _ (ix4 0 0 0 f) (lastOne 1 2 f)).trans ?_
  simp (disch := decide) only [↓ View.readCov_skip, ↓ View.readCov_fill]
  rfl

theorem c_next12 (c : Dev nD) (t : Fin cfg0.N) (h0 : ¬t.val % 8 = 0) (f : Fin 704) :
    (outsAt0 m c t.val t.isLt).2.2.1 (ix4 1 0 2 f)
      = k0_pay1 (tu2 m c t) (duT m c t) (row12 (outsAt0 m c (t.val - 1) (Nat.lt_of_le_of_lt (Nat.sub_le _ _) t.isLt)).2.2.1) (ix4 0 0 0 f) := by
  rw [outsAt0_B m c t h0]
  frame_out
  refine (hit _ _ _ _ _ _ (ix4 0 0 0 f) (lastOne 1 2 f)).trans ?_
  rfl

end Cert.FfnDownBwdIdeal.Point

end
-- ==== Proof.UpXPoint.lean ====
/-
  What the kernel of the gradient by the norm's argument and gain leaves in its buffers at each grid point, as named
  terms: the convolved gradient's tile, the accumulator of the product with the up weight, and, at the last column
  block of a row tile, the gradients by the norm's argument and gain.
-/
module

public import proofs.«01_k».proof.Proof.Common
public import proofs.«01_k».proof.Proof.Gen.FfnUpBwdXIdeal.Value
public import Idealize.ShloMosaic.Lib.Pipeline.ReadBack

@[expose] public section

set_option maxRecDepth 16384

noncomputable section

namespace Cert.FfnUpBwdXIdeal.Point

open Cert.FfnUpBwdXIdeal Cert.FfnUpBwdXIdeal.Gen Cert.FfnUpBwdXIdeal.Value
open Idealize.ShloMosaic Idealize.ShloMosaic.TcCoe Idealize.ShloMosaic.Tactic Idealize.SL.Sem

variable {F : FTy → Type} [FloatOps F]
variable (m : (ℓ : Loc nD τ sig) → Buf (Elt F) ℓ)

/-- The tile of the convolved gradient that point `t` stores. -/
def tile (c : Dev nD) (t : Fin cfg0.N) : FVec F S1x1024x704 .bf16 :=
  k0_pay11 (k0_pay6 (iblk m c 0 t)) (k0_pay7 (grid0.coords t) (iblk m c 0 t) (iblk m c 1 t)) (k0_pay8 (iblk m c 0 t))
    (k0_pay9 (grid0.coords t) (iblk m c 2 t)) (iblk m c 3 t)

/-- The accumulator after point `t`, over what it held. -/
def step (c : Dev nD) (t : Fin cfg0.N) (acc : Vec F S1024x1024 .f32) : FVec F S1024x1024 .f32 :=
  k0_pay12 (k0_pay6 (iblk m c 0 t)) (k0_pay7 (grid0.coords t) (iblk m c 0 t) (iblk m c 1 t)) (k0_pay8 (iblk m c 0 t))
    (k0_pay9 (grid0.coords t) (iblk m c 2 t)) (iblk m c 3 t) acc (iblk m c 4 t)

theorem a_8 (c : Dev nD) (t : Fin cfg0.N) (h0 : t.val % 64 = 0) (h1 : t.val % 8 = 0) (h2 : ¬t.val % 8 = 7) :
    (outsAt0 m c t.val t.isLt).1 = tile m c t := by
  rw [outsAt0_A m c t h0 h1 h2]
  frame_out
  rfl

theorem a_acc (c : Dev nD) (t : Fin cfg0.N) (h0 : t.val % 64 = 0) (h1 : t.val % 8 = 0) (h2 : ¬t.val % 8 = 7) :
    (outsAt0 m c t.val t.isLt).2.2.2 = step m c t (k0_pay5 (F := F)) := by
  rw [outsAt0_A m c t h0 h1 h2]
  frame_out
  rfl

theorem b_8 (c : Dev nD) (t : Fin cfg0.N) (h0 : ¬t.val % 64 = 0) (h1 : ¬t.val % 8 = 0) (h2 : ¬t.val % 8 = 7) :
    (outsAt0 m c t.val t.isLt).1 = tile m c t := by
  rw [outsAt0_B m c t h0 h1 h2]
  frame_out
  rfl

theorem b_acc (c : Dev nD) (t : Fin cfg0.N) (h0 : ¬t.val % 64 = 0) (h1 : ¬t.val % 8 = 0) (h2 : ¬t.val % 8 = 7) :
    (outsAt0 m c t.val t.isLt).2.2.2 = step m c t (outsAt0 m c (t.val - 1) (Nat.lt_of_le_of_lt (Nat.sub_le _ _) t.isLt)).2.2.2 := by
  rw [outsAt0_B m c t h0 h1 h2]
  frame_out
  simp only [read_unread_whole]
  rfl

theorem c_8 (c : Dev nD) (t : Fin cfg0.N) (h0 : ¬t.val % 64 = 0) (h1 : ¬t.val % 8 = 0) (h2 : t.val % 8 = 7) :
    (outsAt0 m c t.val t.isLt).1 = tile m c t := by
  rw [outsAt0_C m c t h0 h1 h2]
  frame_out
  rfl

theorem c_acc (c : Dev nD) (t : Fin cfg0.N) (h0 : ¬t.val % 64 = 0) (h1 : ¬t.val % 8 = 0) (h2 : t.val % 8 = 7) :
    (outsAt0 m c t.val t.isLt).2.2.2 = step m c t (outsAt0 m c (t.val - 1) (Nat.lt_of_le_of_lt (Nat.sub_le _ _) t.isLt)).2.2.2 := by
  rw [outsAt0_C m c t h0 h1 h2]
  frame_out
  simp only [read_unread_whole]
  rfl

theorem d_8 (c : Dev nD) (t : Fin cfg0.N) (h0 : ¬t.val % 64 = 0) (h1 : t.val % 8 = 0) (h2 : ¬t.val % 8 = 7) :
    (outsAt0 m c t.val t.isLt).1 = tile m c t := by
  rw [outsAt0_D m c t h0 h1 h2]
  frame_out
  rfl

theorem d_acc (c : Dev nD) (t : Fin cfg0.N) (h0 : ¬t.val % 64 = 0) (h1 : t.val % 8 = 0) (h2 : ¬t.val % 8 = 7) :
    (outsAt0 m c t.val t.isLt).2.2.2 = step m c t (k0_pay5 (F := F)) := by
  rw [outsAt0_D m c t h0 h1 h2]
  frame_out
  rfl

theorem c_9 (c : Dev nD) (t : Fin cfg0.N) (h0 : ¬t.val % 64 = 0) (h1 : ¬t.val % 8 = 0) (h2 : t.val % 8 = 7) :
    (outsAt0 m c t.val t.isLt).2.1 = k0_pay2 (iblk m c 5 t) (iblk m c 6 t) (step m c t (outsAt0 m c (t.val - 1) (Nat.lt_of_le_of_lt (Nat.sub_le _ _) t.isLt)).2.2.2) (iblk m c 7 t) := by
  rw [outsAt0_C m c t h0 h1 h2]
  frame_out
  simp only [read_unread_whole]
  rfl

theorem c_10 (c : Dev nD) (t : Fin cfg0.N) (h0 : ¬t.val % 64 = 0) (h1 : ¬t.val % 8 = 0) (h2 : t.val % 8 = 7) :
    (outsAt0 m c t.val t.isLt).2.2.1 = k0_pay3 (iblk m c 5 t) (step m c t (outsAt0 m c (t.val - 1) (Nat.lt_of_le_of_lt (Nat.sub_le _ _) t.isLt)).2.2.2) (outsAt0 m c (t.val - 1) (Nat.lt_of_le_of_lt (Nat.sub_le _ _) t.isLt)).2.2.1 := by
  rw [outsAt0_C m c t h0 h1 h2]
  frame_out
  simp only [read_unread_whole]
  rfl

theorem a_10 (c : Dev nD) (t : Fin cfg0.N) (h0 : t.val % 64 = 0) (h1 : t.val % 8 = 0) (h2 : ¬t.val % 8 = 7) :
    (outsAt0 m c t.val t.isLt).2.2.1 = k0_pay4 := by
  rw [outsAt0_A m c t h0 h1 h2]
  frame_out

theorem b_10 (c : Dev nD) (t : Fin cfg0.N) (h0 : ¬t.val % 64 = 0) (h1 : ¬t.val % 8 = 0) (h2 : ¬t.val % 8 = 7) :
    (outsAt0 m c t.val t.isLt).2.2.1 = (outsAt0 m c (t.val - 1) (Nat.lt_of_le_of_lt (Nat.sub_le _ _) t.isLt)).2.2.1 := by
  rw [outsAt0_B m c t h0 h1 h2]
  rfl

theorem d_10 (c : Dev nD) (t : Fin cfg0.N) (h0 : ¬t.val % 64 = 0) (h1 : t.val % 8 = 0) (h2 : ¬t.val % 8 = 7) :
    (outsAt0 m c t.val t.isLt).2.2.1 = (outsAt0 m c (t.val - 1) (Nat.lt_of_le_of_lt (Nat.sub_le _ _) t.isLt)).2.2.1 := by
  rw [outsAt0_D m c t h0 h1 h2]
  rfl

/-- What the point before left. -/
abbrev prev (c : Dev nD) (t : Fin cfg0.N) := outsAt0 m c (t.val - 1) (Nat.lt_of_le_of_lt (Nat.sub_le _ _) t.isLt)

theorem out8 (c : Dev nD) (t : Fin cfg0.N) : (outsAt0 m c t.val t.isLt).1 = tile m c t := by
  by_cases h0 : t.val % 64 = 0
  · exact a_8 m c t h0 (by omega) (by omega)
  by_cases h1 : t.val % 8 = 0
  · exact d_8 m c t h0 h1 (by omega)
  by_cases h2 : t.val % 8 = 7
  · exact c_8 m c t h0 h1 h2
  · exact b_8 m c t h0 h1 h2

theorem acc_first (c : Dev nD) (t : Fin cfg0.N) (h1 : t.val % 8 = 0) :
    (outsAt0 m c t.val t.isLt).2.2.2 = step m c t (k0_pay5 (F := F)) := by
  by_cases h0 : t.val % 64 = 0
  · exact a_acc m c t h0 h1 (by omega)
  · exact d_acc m c t h0 h1 (by omega)

theorem acc_next (c : Dev nD) (t : Fin cfg0.N) (h1 : ¬t.val % 8 = 0) :
    (outsAt0 m c t.val t.isLt).2.2.2 = step m c t (prev m c t).2.2.2 := by
  by_cases h2 : t.val % 8 = 7
  · exact c_acc m c t (by omega) h1 h2
  · exact b_acc m c t (by omega) h1 h2

theorem out9 (c : Dev nD) (t : Fin cfg0.N) (h2 : t.val % 8 = 7) :
    (outsAt0 m c t.val t.isLt).2.1
      = k0_pay2 (iblk m c 5 t) (iblk m c 6 t) (outsAt0 m c t.val t.isLt).2.2.2 (iblk m c 7 t) := by
  rw [acc_next m c t (by omega), c_9 m c t (by omega) (by omega) h2]

theorem gain_first (c : Dev nD) (t : Fin cfg0.N) (h0 : t.val % 64 = 0) :
    (outsAt0 m c t.val t.isLt).2.2.1 = k0_pay4 := a_10 m c t h0 (by omega) (by omega)

theorem gain_last (c : Dev nD) (t : Fin cfg0.N) (h2 : t.val % 8 = 7) :
    (outsAt0 m c t.val t.isLt).2.2.1
      = k0_pay3 (iblk m c 5 t) (outsAt0 m c t.val t.isLt).2.2.2 (prev m c t).2.2.1 := by
  rw [acc_next m c t (by omega), c_10 m c t (by omega) (by omega) h2]

theorem gain_keep (c : Dev nD) (t : Fin cfg0.N) (h0 : ¬t.val % 64 = 0) (h2 : ¬t.val % 8 = 7) :
    (outsAt0 m c t.val t.isLt).2.2.1 = (prev m c t).2.2.1 := by
  by_cases h1 : t.val % 8 = 0
  · exact d_10 m c t h0 h1 h2
  · exact b_10 m c t h0 h1 h2

end Cert.FfnUpBwdXIdeal.Point

end
-- ==== Proof.UpX.lean ====
/-
  The gradients by the FFN norm's argument and gain, and the gradient through the FFN's convolution: what the kernel's
  tiles hold as sums over the whole arrays.
-/
module

public import proofs.«01_k».proof.Proof.UpXPoint
public import proofs.«01_k».proof.Proof.Gen.FfnUpGradXIdeal.Read

@[expose] public section

set_option maxRecDepth 16384

noncomputable section

namespace Cert.FfnUpBwdXIdeal.Point

open Cert.FfnUpBwdXIdeal Cert.FfnUpBwdXIdeal.Gen Cert.FfnUpBwdXIdeal.Value Cert.Common
open Idealize.ShloMosaic Idealize.ShloMosaic.TcCoe Idealize.SL.Sem

/-- An array's element at natural coordinates, zero outside. -/
def at2 {a b : ℕ} (x : (⟨2, ![a, b]⟩ : Shape).Idx → EReal) (r k : ℕ) : EReal :=
  if h : r < a ∧ k < b then x (ix2 ⟨r, h.1⟩ ⟨k, h.2⟩) else 0

theorem at2_val {a b : ℕ} (x : (⟨2, ![a, b]⟩ : Shape).Idx → EReal) (r : Fin a) (k : Fin b) : at2 x r.val k.val = x (ix2 r k) :=
  dif_pos ⟨r.isLt, k.isLt⟩

theorem at2_mk {a b : ℕ} (x : (⟨2, ![a, b]⟩ : Shape).Idx → EReal) (r k : ℕ) (hr : r < a) (hk : k < b) :
    at2 x r k = x (ix2 ⟨r, hr⟩ ⟨k, hk⟩) := dif_pos ⟨hr, hk⟩

/-- The gradient through the three-tap convolution over the rows. -/
def cv (d : Vec Ideal S8192x5632 .f32) (w : Vec Ideal S3x5632 .f32) (r k : ℕ) : EReal :=
  at2 w 0 k * at2 d (r + 1) k + at2 w 1 k * at2 d r k + at2 w 2 k * (if r = 0 then 0 else at2 d (r - 1) k)

theorem eq0 : ∀ n : ℕ, n < 8 → Scalar.cmpi .eq (BitVec.ofNat 32 n) 0#32 = if n = 0 then 1#1 else 0#1 := by decide +kernel
theorem eq7 : ∀ n : ℕ, n < 8 → Scalar.cmpi .eq (BitVec.ofNat 32 n) 7#32 = if n = 7 then 1#1 else 0#1 := by decide +kernel
theorem ge1 : ∀ n : ℕ, n < 8 → IntOp.cmpi .sge (BitVec.ofNat 32 n) 1#32 = if n = 0 then 0#1 else 1#1 := by decide +kernel
theorem lt7 : ∀ n : ℕ, n < 8 → IntOp.cmpi .slt (BitVec.ofNat 32 n) 7#32 = if n = 7 then 0#1 else 1#1 := by decide +kernel
theorem sel0 {α : Type} (a b : α) : Scalar.select (0#1 : BitVec 1) a b = b := rfl
theorem sel1 {α : Type} (a b : α) : Scalar.select (1#1 : BitVec 1) a b = a := rfl

theorem prv_sel (X : Fin 1024 → EReal) (P : Fin 8 → EReal) (n : ℕ) (r : Fin 1024) :
    Scalar.select (if r.val % 8 = 0 then 0#1 else 1#1) (X ⟨r.val / 8 * 8 + (r.val % 8 + 8 - 1) % 8, by omega⟩)
      (if h : r.val / 8 < 1 then Scalar.select (if n = 0 then 1#1 else 0#1) 0 (P ⟨(r.val % 8 + 8 - 1) % 8, by omega⟩)
        else X ⟨(r.val / 8 - 1) * 8 + (r.val % 8 + 8 - 1) % 8, by omega⟩)
      = if h : r.val = 0 then (if n = 0 then 0 else P 7) else X ⟨r.val - 1, by omega⟩ := by
  by_cases h8 : r.val % 8 = 0
  · rw [if_pos h8, sel0]
    by_cases h0 : r.val = 0
    · rw [dif_pos (by omega : r.val / 8 < 1), dif_pos h0]
      by_cases hn : n = 0
      · rw [if_pos hn, if_pos hn, sel1]
      · rw [if_neg hn, if_neg hn, sel0]
        exact congrArg P (Fin.ext (show (r.val % 8 + 8 - 1) % 8 = 7 by omega))
    · rw [dif_neg (by omega : ¬r.val / 8 < 1), dif_neg h0]
      exact congrArg X (Fin.ext (show (r.val / 8 - 1) * 8 + (r.val % 8 + 8 - 1) % 8 = r.val - 1 by omega))
  · rw [if_neg h8, sel1, dif_neg (by omega : ¬r.val = 0)]
    exact congrArg X (Fin.ext (show r.val / 8 * 8 + (r.val % 8 + 8 - 1) % 8 = r.val - 1 by omega))

theorem nxt_sel (X : Fin 1024 → EReal) (P : Fin 8 → EReal) (n : ℕ) (r : Fin 1024) :
    Scalar.select (if r.val % 8 = 7 then 0#1 else 1#1)
      (if h : r.val / 8 < 128 then X ⟨r.val / 8 * 8 + (r.val % 8 + 8 - 7) % 8, by omega⟩
        else Scalar.select (if n = 7 then 1#1 else 0#1) 0 (P ⟨(r.val % 8 + 8 - 7) % 8, by omega⟩))
      (if h : 1 + r.val / 8 < 128 then X ⟨(1 + r.val / 8) * 8 + (r.val % 8 + 8 - 7) % 8, by omega⟩
        else Scalar.select (if n = 7 then 1#1 else 0#1) 0 (P ⟨(r.val % 8 + 8 - 7) % 8, by omega⟩))
      = if h : r.val = 1023 then (if n = 7 then 0 else P 0) else X ⟨r.val + 1, by omega⟩ := by
  have hr := r.isLt
  by_cases h8 : r.val % 8 = 7
  · rw [if_pos h8, sel0]
    by_cases h0 : r.val = 1023
    · rw [dif_neg (by omega : ¬1 + r.val / 8 < 128), dif_pos h0]
      by_cases hn : n = 7
      · rw [if_pos hn, if_pos hn, sel1]
      · rw [if_neg hn, if_neg hn, sel0]
        exact congrArg P (Fin.ext (show (r.val % 8 + 8 - 7) % 8 = 0 by omega))
    · rw [dif_pos (by omega : 1 + r.val / 8 < 128), dif_neg h0]
      exact congrArg X (Fin.ext (show (1 + r.val / 8) * 8 + (r.val % 8 + 8 - 7) % 8 = r.val + 1 by omega))
  · rw [if_neg h8, sel1, dif_neg (by omega : ¬r.val = 1023), dif_pos (by omega : r.val / 8 < 128)]
    exact congrArg X (Fin.ext (show r.val / 8 * 8 + (r.val % 8 + 8 - 7) % 8 = r.val + 1 by omega))

/-- The row before: the tile's own, or the tile before's last, or zero before the start. -/
theorem prv_at (i : grid0.Coords) (n : ℕ) (hi : (i 0).val = n) (hn : n < 8) (x : Vec Ideal S1x1x1024x704 .f32) (p : Vec Ideal S1x1x8x704 .f32)
    (r : Fin 1024) (f : Fin 704) : k0_pay7 i x p (ix2 r f)
      = if h : r.val = 0 then (if n = 0 then 0 else p (ix4 0 0 7 f)) else x (ix4 0 0 ⟨r.val - 1, by omega⟩ f) := by
  pointwise [k0_pay7, k0_pay6]
  simp only [hi, eq0 n hn, ge1 (r.val % 8) (Nat.mod_lt _ (by norm_num))]
  exact prv_sel (fun q => x (ix4 0 0 q f)) (fun q => p (ix4 0 0 q f)) n r

/-- The row after: the tile's own, or the next tile's first, or zero past the end. -/
theorem nxt_at (i : grid0.Coords) (n : ℕ) (hi : (i 0).val = n) (hn : n < 8) (x : Vec Ideal S1x1x1024x704 .f32) (p : Vec Ideal S1x1x8x704 .f32)
    (v28 : FVec Ideal S1024x704 .f32) (w : Vec Ideal S1x1x3x704 .f32)
    (r : Fin 1024) (f : Fin 704) : k0_pay10 (k0_pay6 x) v28 (k0_pay8 x) (k0_pay9 i p) w (ix2 r f)
      = w (ix4 0 0 0 f) * (if h : r.val = 1023 then (if n = 7 then 0 else p (ix4 0 0 0 f)) else x (ix4 0 0 ⟨r.val + 1, by omega⟩ f))
        + w (ix4 0 0 1 f) * x (ix4 0 0 r f) + w (ix4 0 0 2 f) * v28 (ix2 r f) := by
  pointwise [k0_pay10, k0_pay6, k0_pay8, k0_pay9]
  simp only [hi, eq7 n hn, lt7 (r.val % 8) (Nat.mod_lt _ (by norm_num))]
  congr 3
  exact nxt_sel (fun q => x (ix4 0 0 q f)) (fun q => p (ix4 0 0 q f)) n r

variable (m : (ℓ : Loc nD τ sig) → Buf (Elt Ideal) ℓ)

theorem coords : ∀ t : Fin grid0.N, (grid0.coords t 0).val = t.val / 8 := by decide +kernel

theorem index : ∀ t : Fin grid0.N, win0_0.index t = ![t.val % 8 % 4, t.val % 8 / 4, t.val / 8, 0]
    ∧ win0_1.index t = ![t.val % 8 % 4, t.val % 8 / 4, t.val / 8 * 128 - 1, 0]
    ∧ win0_2.index t = ![t.val % 8 % 4, t.val % 8 / 4, min ((t.val / 8 + 1) * 128) 1023, 0]
    ∧ win0_3.index t = ![t.val % 8 / 4, t.val % 8 % 4, 0, 0]
    ∧ win0_4.index t = ![t.val % 8, 0, 0]
    ∧ win0_5.index t = ![t.val / 8, 0]
    ∧ win0_6.index t = ![0, 0]
    ∧ win0_7.index t = ![t.val / 8, 0] := by decide +kernel

abbrev b0 (c : Dev nD) : Vec Ideal S8192x5632 .f32 := m ((c : Thread nD τ).loc main_arg0)
abbrev b1 (c : Dev nD) : Vec Ideal S3x5632 .f32 := m ((c : Thread nD τ).loc main_arg1)
abbrev b2 (c : Dev nD) : Vec Ideal S1024x5632 .f32 := m ((c : Thread nD τ).loc main_arg2)
abbrev b3 (c : Dev nD) : Vec Ideal S8192x1024 .f32 := m ((c : Thread nD τ).loc main_arg3)
abbrev b4 (c : Dev nD) : Vec Ideal S1024 .f32 := m ((c : Thread nD τ).loc main_arg4)
abbrev b5 (c : Dev nD) : Vec Ideal S8192x1024 .f32 := m ((c : Thread nD τ).loc main_arg5)

theorem V1 (c : Dev nD) (p : Fin 4) (q : Fin 2) (r : Fin 8192) (f : Fin 704) :
    V m c main_v1 (ix4 p q r f) = at2 (b0 m c) r.val (q.val * 2816 + p.val * 704 + f.val) := by
  rw [at2_mk _ _ _ r.isLt (by omega)]
  entry_read
  pointwise

theorem V3 (c : Dev nD) (p : Fin 2) (q : Fin 4) (r : Fin 3) (f : Fin 704) :
    V m c main_v3 (ix4 p q r f) = at2 (b1 m c) r.val (p.val * 2816 + q.val * 704 + f.val) := by
  rw [at2_mk _ _ _ r.isLt (by omega)]
  entry_read
  pointwise

theorem V6 (c : Dev nD) (p : Fin 8) (r : Fin 1024) (f : Fin 704) :
    V m c main_v6 (ix3 p r f) = at2 (b2 m c) r.val (p.val * 704 + f.val) := by
  rw [at2_mk _ _ _ r.isLt (by omega)]
  entry_read
  pointwise

theorem V7 (c : Dev nD) (p : Fin 1) (r : Fin 1024) : V m c main_v7 (ix2 p r) = b4 m c (ix1 r) := by
  entry_read
  pointwise

theorem cur_at (c : Dev nD) (t : Fin grid0.N) (r : Fin 1024) (f : Fin 704) :
    iblk m c 0 t (ix4 0 0 r f) = at2 (b0 m c) (1024 * (t.val / 8) + r.val) (704 * (t.val % 8) + f.val) := by
  have ht : t.val < 64 := t.isLt
  have e := (index t).1
  refine (show _ = V m c main_v1 (ix4 ⟨t.val % 8 % 4, by omega⟩ ⟨t.val % 8 / 4, by omega⟩ ⟨1024 * (t.val / 8) + r.val, by omega⟩ f) by blk_ext [iblk, e]).trans ?_
  rw [V1]
  refine congrArg₂ (at2 _) ?_ ?_ <;> simp only [] <;> omega

theorem prv_blk (c : Dev nD) (t : Fin grid0.N) (f : Fin 704) (h : ¬t.val / 8 = 0) :
    iblk m c 1 t (ix4 0 0 7 f) = at2 (b0 m c) (1024 * (t.val / 8) - 1) (704 * (t.val % 8) + f.val) := by
  have ht : t.val < 64 := t.isLt
  have e := (index t).2.1
  refine (show _ = V m c main_v1 (ix4 ⟨t.val % 8 % 4, by omega⟩ ⟨t.val % 8 / 4, by omega⟩ ⟨1024 * (t.val / 8) - 1, by omega⟩ f) by blk_ext [iblk, e]).trans ?_
  rw [V1]
  refine congrArg₂ (at2 _) ?_ ?_ <;> simp only [] <;> omega

theorem nxt_blk (c : Dev nD) (t : Fin grid0.N) (f : Fin 704) (h : ¬t.val / 8 = 7) :
    iblk m c 2 t (ix4 0 0 0 f) = at2 (b0 m c) (1024 * (t.val / 8) + 1024) (704 * (t.val % 8) + f.val) := by
  have ht : t.val < 64 := t.isLt
  have e := (index t).2.2.1
  refine (show _ = V m c main_v1 (ix4 ⟨t.val % 8 % 4, by omega⟩ ⟨t.val % 8 / 4, by omega⟩ ⟨1024 * (t.val / 8) + 1024, by omega⟩ f) by blk_ext [iblk, e]).trans ?_
  rw [V1]
  refine congrArg₂ (at2 _) ?_ ?_ <;> simp only [] <;> omega

theorem w_at (c : Dev nD) (t : Fin grid0.N) (k : Fin 3) (f : Fin 704) :
    iblk m c 3 t (ix4 0 0 k f) = at2 (b1 m c) k.val (704 * (t.val % 8) + f.val) := by
  have ht : t.val < 64 := t.isLt
  have e := (index t).2.2.2.1
  refine (show _ = V m c main_v3 (ix4 ⟨t.val % 8 / 4, by omega⟩ ⟨t.val % 8 % 4, by omega⟩ k f) by blk_ext [iblk, e]).trans ?_
  rw [V3]
  refine congrArg₂ (at2 _) rfl ?_ <;> simp only [] <;> omega

theorem u_at (c : Dev nD) (t : Fin grid0.N) (r : Fin 1024) (f : Fin 704) :
    iblk m c 4 t (ix3 0 r f) = at2 (b2 m c) r.val (704 * (t.val % 8) + f.val) := by
  have ht : t.val < 64 := t.isLt
  have e := (index t).2.2.2.2.1
  refine (show _ = V m c main_v6 (ix3 ⟨t.val % 8, by omega⟩ r f) by blk_ext [iblk, e]).trans ?_
  rw [V6]
  refine congrArg₂ (at2 _) rfl ?_ <;> simp only [] <;> omega

theorem x_at (c : Dev nD) (t : Fin grid0.N) (r : Fin 1024) (e : Fin 1024) :
    iblk m c 5 t (ix2 r e) = at2 (b3 m c) (1024 * (t.val / 8) + r.val) e.val := by
  have ht : t.val < 64 := t.isLt
  have hi := (index t).2.2.2.2.2.1
  refine (show _ = V m c main_arg3 (ix2 ⟨1024 * (t.val / 8) + r.val, by omega⟩ e) by blk_ext [iblk, hi]).trans ?_
  rw [at2_mk _ _ _ (by omega) e.isLt]
  rfl

theorem y_at (c : Dev nD) (t : Fin grid0.N) (r : Fin 1024) (e : Fin 1024) :
    iblk m c 7 t (ix2 r e) = at2 (b5 m c) (1024 * (t.val / 8) + r.val) e.val := by
  have ht : t.val < 64 := t.isLt
  have hi := (index t).2.2.2.2.2.2.2
  refine (show _ = V m c main_arg5 (ix2 ⟨1024 * (t.val / 8) + r.val, by omega⟩ e) by blk_ext [iblk, hi]).trans ?_
  rw [at2_mk _ _ _ (by omega) e.isLt]
  rfl

theorem g_at (c : Dev nD) (t : Fin grid0.N) (e : Fin 1024) :
    iblk m c 6 t (ix2 0 e) = b4 m c (ix1 e) := by
  have ht : t.val < 64 := t.isLt
  have hi := (index t).2.2.2.2.2.2.1
  refine (show _ = V m c main_v7 (ix2 0 e) by blk_ext [iblk, hi]).trans ?_
  rw [V7]

theorem conv_at (c : Dev nD) (t : Fin grid0.N) (r : Fin 1024) (f : Fin 704) :
    k0_pay10 (k0_pay6 (iblk m c 0 t)) (k0_pay7 (grid0.coords t) (iblk m c 0 t) (iblk m c 1 t)) (k0_pay8 (iblk m c 0 t))
      (k0_pay9 (grid0.coords t) (iblk m c 2 t)) (iblk m c 3 t) (ix2 r f)
      = cv (b0 m c) (b1 m c) (1024 * (t.val / 8) + r.val) (704 * (t.val % 8) + f.val) := by
  have ht : t.val < 64 := t.isLt
  have hn := nxt_at (grid0.coords t) (t.val / 8) (coords t) (by omega) (iblk m c 0 t) (iblk m c 2 t)
    (k0_pay7 (grid0.coords t) (iblk m c 0 t) (iblk m c 1 t)) (iblk m c 3 t) r f
  have hp := prv_at (grid0.coords t) (t.val / 8) (coords t) (by omega) (iblk m c 0 t) (iblk m c 1 t) r f
  refine hn.trans ?_
  rw [hp]
  have e0 := w_at m c t 0 f
  have e1 := w_at m c t 1 f
  have e2 := w_at m c t 2 f
  have ec := cur_at m c t r f
  unfold cv
  refine congrArg₂ (· + ·) (congrArg₂ (· + ·) (congrArg₂ (· * ·) e0 ?_) (congrArg₂ (· * ·) e1 ec)) (congrArg₂ (· * ·) e2 ?_)
  · by_cases h1 : r.val = 1023
    · rw [dif_pos h1]
      by_cases h2 : t.val / 8 = 7
      · rw [if_pos h2]
        unfold at2
        rw [dif_neg (by omega)]
      · rw [if_neg h2, nxt_blk m c t f h2]
        exact congrArg₂ (at2 _) (by omega) rfl
    · rw [dif_neg h1, cur_at]
      rfl
  · by_cases h1 : r.val = 0
    · rw [dif_pos h1]
      by_cases h2 : t.val / 8 = 0
      · rw [if_pos h2, if_pos (by omega)]
      · rw [if_neg h2, prv_blk m c t f h2, if_neg (by omega)]
        exact congrArg₂ (at2 _) (by omega) rfl
    · rw [dif_neg h1, cur_at, if_neg (by omega)]
      exact congrArg₂ (at2 _) (by show _ + (r.val - 1) = _; omega) rfl

theorem tile_at (c : Dev nD) (t : Fin grid0.N) (r : Fin 1024) (f : Fin 704) :
    tile m c t (ix3 0 r f) = cv (b0 m c) (b1 m c) (1024 * (t.val / 8) + r.val) (704 * (t.val % 8) + f.val) := by
  rw [← conv_at]
  unfold tile
  generalize k0_pay6 (iblk m c 0 t) = v1
  generalize k0_pay7 (grid0.coords t) (iblk m c 0 t) (iblk m c 1 t) = v2
  generalize k0_pay8 (iblk m c 0 t) = v3
  generalize k0_pay9 (grid0.coords t) (iblk m c 2 t) = v4
  pointwise [k0_pay11]

/-- A column block's part of the product with the up weight. -/
def part (d : Vec Ideal S8192x5632 .f32) (w : Vec Ideal S3x5632 .f32) (u : Vec Ideal S1024x5632 .f32) (r e J : ℕ) : EReal :=
  ∑ f : Fin 704, cv d w r (704 * J + f.val) * at2 u e (704 * J + f.val)

/-- The gradient by the normalised rows. -/
def dh (d : Vec Ideal S8192x5632 .f32) (w : Vec Ideal S3x5632 .f32) (u : Vec Ideal S1024x5632 .f32) (r e : ℕ) : EReal :=
  ∑ k : Fin 5632, cv d w r k.val * at2 u e k.val

theorem dh_parts (d : Vec Ideal S8192x5632 .f32) (w : Vec Ideal S3x5632 .f32) (u : Vec Ideal S1024x5632 .f32) (r e : ℕ) :
    ∑ J ∈ Finset.range 8, part d w u r e J = dh d w u r e := by
  rw [Finset.sum_range]
  unfold part dh
  refine Fin.sum_mul_add_congr (S := 8) (n := 704) fun s k hl => ?_
  rw [Nat.mul_comm 704]

theorem step_at (c : Dev nD) (t : Fin grid0.N) (acc : Vec Ideal S1024x1024 .f32) (r e : Fin 1024) :
    step m c t acc (ix2 r e) = acc (ix2 r e)
      + part (b0 m c) (b1 m c) (b2 m c) (1024 * (t.val / 8) + r.val) e.val (t.val % 8) := by
  unfold part
  simp only [← conv_at, ← u_at]
  unfold step
  generalize k0_pay6 (iblk m c 0 t) = v1
  generalize k0_pay7 (grid0.coords t) (iblk m c 0 t) (iblk m c 1 t) = v2
  generalize k0_pay8 (iblk m c 0 t) = v3
  generalize k0_pay9 (grid0.coords t) (iblk m c 2 t) = v4
  pointwise [k0_pay12]

theorem pay5_at (r e : Fin 1024) : k0_pay5 (F := Ideal) (ix2 r e) = 0 := by
  pointwise [k0_pay5]

theorem acc_at (c : Dev nD) (n : ℕ) (hn : n < cfg0.N) (r e : Fin 1024) :
    (outsAt0 m c n hn).2.2.2 (ix2 r e)
      = ∑ J ∈ Finset.range (n % 8 + 1), part (b0 m c) (b1 m c) (b2 m c) (1024 * (n / 8) + r.val) e.val J := by
  induction n with
  | zero =>
    rw [acc_first m c ⟨0, hn⟩ rfl, step_at, pay5_at, zero_add]
    simp
  | succ n ih =>
    by_cases h : (n + 1) % 8 = 0
    · rw [acc_first m c ⟨n + 1, hn⟩ h, step_at, pay5_at, zero_add]
      simp only [h, zero_add, Finset.sum_range_one]
    · rw [acc_next m c ⟨n + 1, hn⟩ h, step_at]
      show (outsAt0 m c n _).2.2.2 (ix2 r e) + _ = _
      rw [ih, show (n + 1) % 8 = n % 8 + 1 by omega, show (n + 1) / 8 = n / 8 by omega, Finset.sum_range_succ _ (n % 8 + 1)]

/-- At the last column block of a row tile the accumulator is the whole product. -/
theorem acc_last (c : Dev nD) (t : Fin cfg0.N) (h : t.val % 8 = 7) (r e : Fin 1024) :
    (outsAt0 m c t.val t.isLt).2.2.2 (ix2 r e) = dh (b0 m c) (b1 m c) (b2 m c) (1024 * (t.val / 8) + r.val) e.val := by
  rw [acc_at, h, ← dh_parts]

/-- The reciprocal root mean square of a row. -/
def rs (x : Fin 1024 → EReal) : EReal :=
  Ideal.rsqrt ((∑ k, x k * x k) * Ideal.ofBits .f32 0x3A800000#32 + Ideal.ofBits .f32 0x358637BD#32)

/-- The norm's backward pass at a row, as the kernel computes it. -/
def back (x g a : Fin 1024 → EReal) (y : EReal) (e : Fin 1024) : EReal :=
  y + (rs x * (a e * g e) - x e * (rs x * rs x * rs x) * ((∑ k, a k * g k * x k) * Ideal.ofBits .f32 0x3A800000#32))

theorem pay2_at (x : Vec Ideal S1024x1024 .f32) (g : Vec Ideal S1x1024 .f32) (a y : Vec Ideal S1024x1024 .f32) (r e : Fin 1024) :
    k0_pay2 x g a y (ix2 r e)
      = back (fun k => x (ix2 r k)) (fun k => g (ix2 0 k)) (fun k => a (ix2 r k)) (y (ix2 r e)) e := by
  pointwise [k0_pay2, k0_pay1, back, rs]

theorem pay3_at (x a : Vec Ideal S1024x1024 .f32) (acc : Vec Ideal S1x1024 .f32) (e : Fin 1024) :
    k0_pay3 x a acc (ix2 0 e)
      = acc (ix2 0 e) + ∑ r : Fin 1024, a (ix2 r e) * x (ix2 r e) * rs (fun k => x (ix2 r k)) := by
  pointwise [k0_pay3, k0_pay1, rs]

theorem pay4_at (e : Fin 1024) : k0_pay4 (F := Ideal) (ix2 0 e) = 0 := by
  pointwise [k0_pay4]

/-- The rows' gradient by the norm's argument, added to the residual's. -/
theorem out9_at (c : Dev nD) (t : Fin cfg0.N) (h : t.val % 8 = 7) (r e : Fin 1024) :
    (outsAt0 m c t.val t.isLt).2.1 (ix2 r e)
      = back (fun k => at2 (b3 m c) (1024 * (t.val / 8) + r.val) k.val) (fun k => b4 m c (ix1 k))
          (fun k => dh (b0 m c) (b1 m c) (b2 m c) (1024 * (t.val / 8) + r.val) k.val)
          (at2 (b5 m c) (1024 * (t.val / 8) + r.val) e.val) e := by
  rw [out9 m c t h, pay2_at]
  simp only [acc_last m c t h, x_at, y_at, g_at]

/-- A row's term of the gradient by the norm's gain. -/
def gterm (c : Dev nD) (r e : ℕ) : EReal :=
  dh (b0 m c) (b1 m c) (b2 m c) r e * at2 (b3 m c) r e * rs (fun k => at2 (b3 m c) r k.val)

theorem gain_at (c : Dev nD) (n : ℕ) (hn : n < cfg0.N) (hN : n < 64) (e : Fin 1024) :
    (outsAt0 m c n hn).2.2.1 (ix2 0 e)
      = ∑ R ∈ Finset.range ((n + 1) / 8), ∑ r : Fin 1024, gterm m c (1024 * R + r.val) e.val := by
  induction n with
  | zero =>
    rw [gain_first m c ⟨0, hn⟩ rfl, pay4_at]
    simp
  | succ n ih =>
    by_cases h : (n + 1) % 8 = 7
    · rw [gain_last m c ⟨n + 1, hn⟩ h, pay3_at]
      simp only [acc_last m c ⟨n + 1, hn⟩ h, x_at]
      show (outsAt0 m c n _).2.2.1 (ix2 0 e) + _ = _
      rw [ih _ (by omega), show (n + 1 + 1) / 8 = (n + 1) / 8 + 1 by omega, Finset.sum_range_succ]
      rfl
    · rw [gain_keep m c ⟨n + 1, hn⟩ (by show ¬(n + 1) % 64 = 0; omega) h]
      show (outsAt0 m c n _).2.2.1 (ix2 0 e) = _
      rw [ih _ (by omega), show (n + 1 + 1) / 8 = (n + 1) / 8 by omega]

end Cert.FfnUpBwdXIdeal.Point

end
-- ==== Proof.UpXRef.lean ====
/-
  What the reference of the gradients by the FFN norm's argument and gain computes, element by element, and the norm's
  backward pass: the kernel's form of it and the reference's are equal, at the infinities too.
-/
module

public import proofs.«01_k».proof.Proof.UpX

@[expose] public section

set_option maxRecDepth 16384

noncomputable section

namespace Cert.FfnUpBwdXIdeal.Point

open Cert.FfnUpGradXIdeal Cert.FfnUpGradXIdeal.Read Cert.Common
open Idealize.ShloMosaic Idealize.ShloMosaic.TcCoe Idealize.SL.Sem

variable (x0 : Vec Ideal S8192x5632 .f32) (x1 : Vec Ideal S3x5632 .f32) (x2 : Vec Ideal S1024x5632 .f32)
  (x3 : Vec Ideal S8192x1024 .f32) (x4 : Vec Ideal S1024 .f32) (x5 : Vec Ideal S8192x1024 .f32)

theorem v60_at (r : Fin 8192) (k : Fin 5632) : val_main_v60 (F := Ideal) x0 x1 (ix2 r k) = cv x0 x1 r.val k.val := by
  pointwise [val_main_v60, val_main_v58, val_main_v54, val_main_v50, val_main_v53, val_main_v57, val_main_v49, val_main_v52,
    val_main_v56, val_main_v47, val_main_v46, val_main_v48, val_main_v51, val_main_v55, val_main_v42, val_main_v41,
    val_main_v40, val_main_v35, val_main_v34, val_main_v33, val_main_v26, val_main_v25, val_main_v24, val_main_cst_8,
    val_main_cst_9, val_main_cst_10]
  unfold cv
  have e0 : at2 x1 0 k.val = x1 (ix2 0 k) := at2_val x1 0 k
  have e1 : at2 x1 1 k.val = x1 (ix2 1 k) := at2_val x1 1 k
  have e2 : at2 x1 2 k.val = x1 (ix2 2 k) := at2_val x1 2 k
  have a0 : (if h : 1 + r.val < 8192 then x0 (ix2 ⟨1 + r.val, h⟩ k) * x1 (ix2 0 k) else 0) = x1 (ix2 0 k) * at2 x0 (r.val + 1) k.val := by
    by_cases h : 1 + r.val < 8192
    · rw [dif_pos h, at2_mk x0 (r.val + 1) k.val (by omega) k.isLt, mul_comm]
      exact congrArg (fun q => _ * x0 (ix2 q k)) (Fin.ext (Nat.add_comm _ _))
    · rw [dif_neg h, at2, dif_neg (by omega), mul_zero]
  have a2 : (if h : 2 ≤ 1 + r.val ∧ 1 + r.val - 2 < 8192 then x0 (ix2 ⟨1 + r.val - 2, h.2⟩ k) * x1 (ix2 2 k) else 0)
      = x1 (ix2 2 k) * (if r.val = 0 then 0 else at2 x0 (r.val - 1) k.val) := by
    by_cases h : r.val = 0
    · rw [dif_neg (by omega), if_pos h, mul_zero]
    · rw [dif_pos (by omega), if_neg h, at2_mk x0 (r.val - 1) k.val (by omega) k.isLt, mul_comm]
      exact congrArg (fun q => _ * x0 (ix2 q k)) (Fin.ext (show 1 + r.val - 2 = r.val - 1 by omega))
  refine (congrArg₂ (· + ·) (congrArg₂ (· + ·) a2 rfl) a0).trans ?_
  rw [e0, e1, e2, at2_val x0 r k, mul_comm (x0 _), add_comm, add_comm (x1 (ix2 2 k) * _), add_assoc]

theorem v62_at (r : Fin 8192) (e : Fin 1024) : val_main_v62 (F := Ideal) x0 x1 x2 (ix2 r e) = dh x0 x1 x2 r.val e.val := by
  have h := v60_at x0 x1
  unfold val_main_v62
  generalize val_main_v60 (F := Ideal) x0 x1 = v at h ⊢
  unfold dh
  pointwise
  exact Finset.sum_congr rfl fun k _ => by rw [h, at2_val x2 e k]

theorem v7_at (r : Fin 8192) (e : Fin 1) : val_main_v7 (F := Ideal) x3 (ix2 r e) = rs (fun k => at2 x3 r.val k.val) := by
  pointwise [val_main_v7, val_main_v6, val_main_v5, val_main_v4, val_main_v3, val_main_v2, val_main_v1, val_main_v0,
    val_main_cst, val_main_cst_0, val_main_cst_1]
  rw [div_1024]
  simp only [rs, at2_val x3 r]

/-- The mean square of a row, plus epsilon. -/
def ms (x : Fin 1024 → EReal) : EReal :=
  (∑ k, x k * x k) * Ideal.ofBits .f32 0x3A800000#32 + Ideal.ofBits .f32 0x358637BD#32

theorem v6_at (r : Fin 8192) (e : Fin 1) : val_main_v6 (F := Ideal) x3 (ix2 r e) = ms (fun k => at2 x3 r.val k.val) := by
  pointwise [val_main_v6, val_main_v5, val_main_v4, val_main_v3, val_main_v2, val_main_v1, val_main_v0,
    val_main_cst, val_main_cst_0, val_main_cst_1]
  rw [div_1024]
  simp only [ms, at2_val x3 r]

/-- The part of the norm's backward pass that goes through the mean square. -/
def via (x g a : Fin 1024 → EReal) : EReal :=
  Ideal.div ((∑ k, x k * (a k * g k)) * (Ideal.ofBits .f32 0xBF000000#32 * Ideal.div (rs x) (ms x))) (Ideal.ofBits .f32 0x44800000#32)

theorem v78_at (r : Fin 8192) (e : Fin 1024) : val_main_v78 (F := Ideal) x0 x1 x2 x3 x4 (ix2 r e)
    = via (fun k => at2 x3 r.val k.val) (fun k => x4 (ix1 k)) (fun k => dh x0 x1 x2 r.val k.val) := by
  pointwise [val_main_v78, val_main_v77, val_main_v76, val_main_v75, val_main_v74, val_main_v71, val_main_v70, val_main_v69, val_main_v67,
    val_main_v66, val_main_v13, val_main_v10, val_main_v9, val_main_v8, val_main_cst_15, val_main_cst_14, val_main_cst_13, val_main_cst_2]
  rw [Fin.sum_univ_one]
  have e7 := v7_at x3 r
  have e6 := v6_at x3 r
  simp only [e7, e6, v62_at, via, at2_val x3 r]

theorem v86_at (r : Fin 8192) (e : Fin 1024) : val_main_v86 (F := Ideal) x0 x1 x2 x3 x4 x5 (ix2 r e)
    = x5 (ix2 r e) + (dh x0 x1 x2 r.val e.val * x4 (ix1 e) * rs (fun k => at2 x3 r.val k.val)
      + at2 x3 r.val e.val * via (fun k => at2 x3 r.val k.val) (fun k => x4 (ix1 k)) (fun k => dh x0 x1 x2 r.val k.val)
      + via (fun k => at2 x3 r.val k.val) (fun k => x4 (ix1 k)) (fun k => dh x0 x1 x2 r.val k.val) * at2 x3 r.val e.val) := by
  pointwise [val_main_v86, val_main_v82, val_main_v81, val_main_v80, val_main_v79, val_main_v73, val_main_v67, val_main_v66, val_main_v13, val_main_v72]
  rw [v78_at, v62_at, v7_at, at2_val x3 r e]

theorem v85_at (j : Fin 8) (r : Fin 8192) (f : Fin 704) : val_main_v85 (F := Ideal) x0 x1 (ix3 j r f) = cv x0 x1 r.val (704 * j.val + f.val) := by
  have h := v60_at x0 x1
  unfold val_main_v85 val_main_v84 val_main_v83
  generalize val_main_v60 (F := Ideal) x0 x1 = v at h ⊢
  pointwise
  rw [h]
  exact congrArg (cv x0 x1 r.val) (show j.val * 704 + f.val = 704 * j.val + f.val by omega)

theorem v87_at (e : Fin 1024) : val_main_v87 (F := Ideal) x0 x1 x2 x3 (ix2 0 e)
    = ∑ r : Fin 8192, dh x0 x1 x2 r.val e.val * at2 x3 r.val e.val * rs (fun k => at2 x3 r.val k.val) := by
  pointwise [val_main_v87, val_main_v68, val_main_v65, val_main_v64, val_main_v63, val_main_v12, val_main_v11, val_main_cst_12, val_main_cst_11]
  rw [Fin.sum_univ_one]
  refine Finset.sum_congr rfl fun r _ => ?_
  rw [v62_at, v7_at, at2_val x3 r e, mul_assoc, mul_comm (dh _ _ _ _ _), mul_comm (rs _), mul_assoc]

theorem word_half : Ideal.ofBits .f32 0xBF000000#32 = ((-(1 / 2) : ℝ) : EReal) := by
  simp [Ideal.ofBits, Ideal.ieee, -EReal.coe_mul]; norm_num

theorem word_eps : Ideal.ofBits .f32 0x358637BD#32 = ((8796093 / 2 ^ 43 : ℝ) : EReal) := by
  simp [Ideal.ofBits, Ideal.ieee, -EReal.coe_mul]; norm_num

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- A square is not negative. -/
theorem square_nonneg (z : EReal) : 0 ≤ z * z := by
  induction z using EReal.rec with
  | bot => simp
  | top => simp
  | coe r => rw [← EReal.coe_mul]; exact EReal.coe_nonneg.2 (mul_self_nonneg r)

/-- Twice half a product is the product, at the infinities too. -/
theorem halves (s : EReal) (q : ℝ) : s * ((-(q / 2) : ℝ) : EReal) + s * ((-(q / 2) : ℝ) : EReal) = -(s * ((q : ℝ) : EReal)) := by
  induction s using EReal.rec with
  | coe r =>
    simp only [← EReal.coe_mul, ← EReal.coe_add, ← EReal.coe_neg]
    congr 1
    ring
  | top =>
    rcases lt_trichotomy q 0 with h | h | h
    · rw [EReal.top_mul_coe_of_pos (by linarith), EReal.top_mul_coe_of_neg h]; rfl
    · subst h; simp
    · rw [EReal.top_mul_coe_of_neg (by linarith), EReal.top_mul_coe_of_pos h]; rfl
  | bot =>
    rcases lt_trichotomy q 0 with h | h | h
    · rw [EReal.bot_mul_coe_of_pos (by linarith), EReal.bot_mul_coe_of_neg h]; rfl
    · subst h; simp
    · rw [EReal.bot_mul_coe_of_neg (by linarith), EReal.bot_mul_coe_of_pos h]; rfl

/-- A row with an infinite element has an infinite mean square. -/
theorem ms_top (x : Fin 1024 → EReal) (k : Fin 1024) (h : x k * x k = ⊤) : ms x = ⊤ := by
  have hs : ∑ k, x k * x k = ⊤ :=
    top_le_iff.1 (h ▸ Finset.single_le_sum (f := fun k => x k * x k) (fun k _ => square_nonneg (x k)) (Finset.mem_univ k))
  unfold ms
  rw [hs, word_inv1024, word_eps, EReal.top_mul_coe_of_pos (by norm_num), EReal.top_add_coe]

/-- The two forms of the norm's backward pass are equal. -/
theorem back_eq (x g a : Fin 1024 → EReal) (y : EReal) (e : Fin 1024) :
    back x g a y e = y + (a e * g e * rs x + x e * via x g a + via x g a * x e) := by
  have hsum : ∑ k, a k * g k * x k = ∑ k, x k * (a k * g k) := Finset.sum_congr rfl fun k _ => mul_comm _ _
  unfold back via
  rw [hsum]
  generalize ∑ k, x k * (a k * g k) = s
  by_cases ht : ∃ k, x k * x k = ⊤
  · obtain ⟨k, hk⟩ := ht
    have hm := ms_top x k hk
    have hr : rs x = 0 := by show Ideal.rsqrt (ms x) = _; rw [hm, Ideal.rsqrt_top]
    rw [hr, hm, word_1024, Ideal.div_coe (show (1024 : ℝ) ≠ 0 by norm_num)]
    simp [Ideal.div]
  · have hx (k) : (((x k).toReal : ℝ) : EReal) = x k := by
      refine EReal.coe_toReal (fun h => ht ⟨k, ?_⟩) (fun h => ht ⟨k, ?_⟩) <;> rw [h] <;> rfl
    obtain ⟨z, rfl⟩ : ∃ z : Fin 1024 → ℝ, x = fun k => ((z k : ℝ) : EReal) := ⟨_, (funext hx).symm⟩
    set v : ℝ := (∑ k, z k * z k) * (1 / 1024) + 8796093 / 2 ^ 43 with hv
    have hv0 : 0 < v := add_pos_of_nonneg_of_pos (mul_nonneg (Finset.sum_nonneg fun k _ => mul_self_nonneg _) (by norm_num)) (by norm_num)
    have hm : ms (fun k => ((z k : ℝ) : EReal)) = ((v : ℝ) : EReal) := by
      unfold ms
      simp only [← EReal.coe_mul, coe_sum, word_inv1024, word_eps, ← EReal.coe_add, hv]
    have hr : rs (fun k => ((z k : ℝ) : EReal)) = (((Real.sqrt v)⁻¹ : ℝ) : EReal) := by
      show Ideal.rsqrt (ms _) = _
      rw [hm, Ideal.rsqrt_coe, if_neg (not_lt.2 hv0.le), if_neg hv0.ne']
    have hs : (Real.sqrt v)⁻¹ * (Real.sqrt v)⁻¹ * (Real.sqrt v)⁻¹ = (Real.sqrt v)⁻¹ * (1 / v) := by
      have := Real.mul_self_sqrt hv0.le
      rw [mul_assoc, mul_comm, ← mul_inv, this]
      ring
    rw [hr, hm, word_half, word_1024, word_inv1024]
    simp only [Ideal.div_coe hv0.ne', Ideal.div_coe (show (1024 : ℝ) ≠ 0 by norm_num), ← EReal.coe_mul]
    rw [hs, add_assoc (a e * g e * _), mul_comm (a e * g e)]
    set ρ : ℝ := (Real.sqrt v)⁻¹ * (1 / v)
    have hp : s * ((-(1 / 2) * ρ : ℝ) : EReal) * ((1 / 1024 : ℝ) : EReal) * ((z e : ℝ) : EReal)
        = s * ((-(z e * ρ * (1 / 1024) / 2) : ℝ) : EReal) := by
      rw [mul_assoc, mul_assoc, ← EReal.coe_mul, ← EReal.coe_mul]
      congr 2
      ring
    have hq : ((z e * ρ : ℝ) : EReal) * (s * ((1 / 1024 : ℝ) : EReal)) = s * ((z e * ρ * (1 / 1024) : ℝ) : EReal) := by
      rw [mul_left_comm, ← EReal.coe_mul]
    rw [mul_comm ((z e : ℝ) : EReal), hp, halves, hq, sub_eq_add_neg]

/-- An extended real that is a real. -/
def IsR (z : EReal) : Prop := ((z.toReal : ℝ) : EReal) = z

theorem isR_coe (z : ℝ) : IsR ((z : ℝ) : EReal) := rfl

theorem IsR.add {a b : EReal} (ha : IsR a) (hb : IsR b) : IsR (a + b) := by
  rw [← ha, ← hb, ← EReal.coe_add]; rfl

theorem IsR.mul {a b : EReal} (ha : IsR a) (hb : IsR b) : IsR (a * b) := by
  rw [← ha, ← hb, ← EReal.coe_mul]; rfl

theorem IsR.sum {n : ℕ} {f : Fin n → EReal} (h : ∀ k, IsR (f k)) : IsR (∑ k, f k) := by
  have e : ∑ k, f k = ((∑ k, (f k).toReal : ℝ) : EReal) := by
    rw [← coe_sum]; exact Finset.sum_congr rfl fun k _ => (h k).symm
  rw [e]; rfl

theorem isR_at2 {a b : ℕ} {x : (⟨2, ![a, b]⟩ : Shape).Idx → EReal} (h : ∀ i, IsR (x i)) (r k : ℕ) : IsR (at2 x r k) := by
  unfold at2
  split
  · exact h _
  · exact isR_coe 0

end Cert.FfnUpBwdXIdeal.Point

end
-- ==== Proof.UpXTie.lean ====
/-
  The three results of the kernel, each set beside the reference's.
-/
module

public import proofs.«01_k».proof.Proof.UpXRef

@[expose] public section

set_option maxRecDepth 16384

noncomputable section

namespace Cert.FfnUpBwdXIdeal.Point

open Cert.FfnUpBwdXIdeal Cert.FfnUpBwdXIdeal.Gen Cert.FfnUpBwdXIdeal.Value Cert.Common
open Cert.FfnUpGradXIdeal.Read (val_main_v85 val_main_v86 val_main_v87)
open Idealize.ShloMosaic Idealize.ShloMosaic.TcCoe Idealize.SL.Sem

variable (m : (ℓ : Loc nD τ sig) → Buf (Elt Ideal) ℓ)

theorem result8 (c : Dev nD) : G8 m c = val_main_v85 (F := Ideal) (b0 m c) (b1 m c) := by
  funext i
  idx_vars i
  rw [v85_at]
  have hN : cfg0.N = 64 := N_0
  have hp : pt8Of (ix3 i0 i1 i2 : S8x8192x704.Idx) = i0.val + 8 * (i1.val / 1024) := by
    show 1 * (i0.val / 1 - 0) + 8 * (i1.val / 1024 - 0) + 64 * (i2.val / 704 - 0) = _
    omega
  have hl : pt8Of (ix3 i0 i1 i2 : S8x8192x704.Idx) < cfg0.N := by omega
  have hj : loc8Of (ix3 i0 i1 i2 : S8x8192x704.Idx) = ix3 0 ⟨i1.val % 1024, Nat.mod_lt _ (by norm_num)⟩ i2 := by
    funext a; apply Fin.ext
    match a with
    | ⟨0, _⟩ => exact Nat.mod_one _
    | ⟨1, _⟩ => rfl
    | ⟨2, _⟩ => exact Nat.mod_eq_of_lt i2.isLt
  unfold G8
  rw [dif_pos hl, ← outsAt0_sweep m c _ hl, hj]
  refine (congrFun (out8 m c ⟨_, hl⟩) _).trans ?_
  rw [tile_at]
  refine congrArg₂ (cv _ _) ?_ ?_
  · show 1024 * (pt8Of _ / 8) + i1.val % 1024 = i1.val
    omega
  · show 704 * (pt8Of _ % 8) + i2.val = _
    omega

theorem result9 (c : Dev nD) :
    G9 m c = val_main_v86 (F := Ideal) (b0 m c) (b1 m c) (b2 m c) (b3 m c) (b4 m c) (b5 m c) := by
  funext i
  idx_vars i
  rw [v86_at]
  have hN : cfg0.N = 64 := N_0
  have hp : pt9Of (ix2 i0 i1 : S8192x1024.Idx) = 8 * (i0.val / 1024) + 7 := by
    show 8 * (1 * (i0.val / 1024 - 0) + 1 * (i1.val / 1024 - 0)) + 7 = _
    omega
  have hl : pt9Of (ix2 i0 i1 : S8192x1024.Idx) < cfg0.N := by omega
  have hj : loc9Of (ix2 i0 i1 : S8192x1024.Idx) = ix2 ⟨i0.val % 1024, Nat.mod_lt _ (by norm_num)⟩ i1 := by
    funext a; apply Fin.ext
    match a with
    | ⟨0, _⟩ => rfl
    | ⟨1, _⟩ => exact Nat.mod_eq_of_lt i1.isLt
  have hr : 1024 * (pt9Of (ix2 i0 i1 : S8192x1024.Idx) / 8) + i0.val % 1024 = i0.val := by omega
  unfold G9
  rw [dif_pos hl, ← outsAt0_sweep m c _ hl, hj]
  refine (out9_at m c ⟨_, hl⟩ (by show pt9Of _ % 8 = 7; omega) _ _).trans ?_
  simp only [hr]
  rw [back_eq, at2_val (b5 m c) i0 i1]

theorem result10 (c : Dev nD) : G10 m c = val_main_v87 (F := Ideal) (b0 m c) (b1 m c) (b2 m c) (b3 m c) := by
  funext i
  idx_vars i
  obtain rfl : i0 = 0 := Subsingleton.elim _ _
  have hl : 63 < cfg0.N := lt_of_lt_of_eq (by decide) N_0.symm
  rw [v87_at, G10_last, ← outsAt0_sweep m c 63 hl]
  refine (gain_at m c 63 hl (by norm_num) i1).trans ?_
  rw [show (63 + 1) / 8 = 8 from rfl, Finset.sum_range]
  refine Fin.sum_mul_add_congr (S := 8) (n := 1024) fun s k hl => ?_
  show gterm m c (1024 * s.val + k.val) i1.val = gterm m c (s.val * 1024 + k.val) i1.val
  rw [Nat.mul_comm 1024]

end Cert.FfnUpBwdXIdeal.Point

end
-- ==== Proof.Down.lean ====
/-
  The gradients of the gate, the convolution and the down projection: what the kernel's tiles hold as sums over the
  whole arrays.
-/
module

public import proofs.«01_k».proof.Proof.DownPoint
public import proofs.«01_k».proof.Proof.UpXTie
public import proofs.«01_k».proof.Proof.Gen.FfnDownGradIdeal.Read

@[expose] public section

set_option maxRecDepth 16384

noncomputable section

namespace Cert.FfnDownBwdIdeal.Point

open Cert.FfnDownBwdIdeal Cert.FfnDownBwdIdeal.Gen Cert.FfnDownBwdIdeal.Value Cert.Common
open Cert.FfnUpBwdXIdeal.Point (at2 at2_val at2_mk eq0 eq7 ge1 lt7 prv_sel nxt_sel)
open Idealize.ShloMosaic Idealize.ShloMosaic.TcCoe Idealize.SL.Sem

/-- A vector's element at a natural coordinate, zero outside. -/
def at1 {a : ℕ} (x : (⟨1, ![a]⟩ : Shape).Idx → EReal) (k : ℕ) : EReal := if h : k < a then x (ix1 ⟨k, h⟩) else 0

theorem at1_mk {a : ℕ} (x : (⟨1, ![a]⟩ : Shape).Idx → EReal) (k : ℕ) (h : k < a) : at1 x k = x (ix1 ⟨k, h⟩) := dif_pos h

/-- The row before. -/
def before (x : Vec Ideal S8192x5632 .f32) (r j : ℕ) : EReal := if r = 0 then 0 else at2 x (r - 1) j

/-- The three-tap convolution over the rows, with its bias. -/
def cv (x : Vec Ideal S8192x5632 .f32) (w : Vec Ideal S3x5632 .f32) (b : Vec Ideal S5632 .f32) (r j : ℕ) : EReal :=
  at1 b j + (at2 w 0 j * before x r j + at2 w 1 j * at2 x r j + at2 w 2 j * at2 x (r + 1) j)

section Taps
variable (i : grid0.Coords) (n : ℕ) (hi : (i 1).val = n) (hn : n < 8) (x : Vec Ideal S1x1x1024x704 .f32) (p : Vec Ideal S1x1x8x704 .f32)
  (r : Fin 1024) (f : Fin 704)
include hi hn

theorem pay6_at : k0_pay6 i x p (ix2 r f)
    = if h : r.val = 0 then (if n = 0 then 0 else p (ix4 0 0 7 f)) else x (ix4 0 0 ⟨r.val - 1, by omega⟩ f) := by
  pointwise [k0_pay6, k0_pay5]
  simp only [hi, eq0 n hn, ge1 (r.val % 8) (Nat.mod_lt _ (by norm_num))]
  exact prv_sel (fun q => x (ix4 0 0 q f)) (fun q => p (ix4 0 0 q f)) n r

theorem pay13_at : k0_pay13 (Scalar.cmpi .eq (BitVec.ofNat 32 (i 1)) 0#32) x p (ix2 r f)
    = if h : r.val = 0 then (if n = 0 then 0 else p (ix4 0 0 7 f)) else x (ix4 0 0 ⟨r.val - 1, by omega⟩ f) := by
  pointwise [k0_pay13, k0_pay12]
  simp only [hi, eq0 n hn, ge1 (r.val % 8) (Nat.mod_lt _ (by norm_num))]
  exact prv_sel (fun q => x (ix4 0 0 q f)) (fun q => p (ix4 0 0 q f)) n r

theorem pay11_at : k0_pay11 k0_pay8 (k0_pay9 i x p) (k0_pay10 i x p) (ix2 r f)
    = if h : r.val = 1023 then (if n = 7 then 0 else p (ix4 0 0 0 f)) else x (ix4 0 0 ⟨r.val + 1, by omega⟩ f) := by
  pointwise [k0_pay11, k0_pay10, k0_pay9, k0_pay8, k0_pay7, k0_pay5]
  simp only [hi, eq7 n hn, lt7 (r.val % 8) (Nat.mod_lt _ (by norm_num))]
  exact nxt_sel (fun q => x (ix4 0 0 q f)) (fun q => p (ix4 0 0 q f)) n r

theorem pay14_at : k0_pay14 (Scalar.cmpi .eq (BitVec.ofNat 32 (i 1)) 7#32) x p (ix2 r f)
    = if h : r.val = 1023 then (if n = 7 then 0 else p (ix4 0 0 0 f)) else x (ix4 0 0 ⟨r.val + 1, by omega⟩ f) := by
  pointwise [k0_pay14, k0_pay12]
  simp only [hi, eq7 n hn, lt7 (r.val % 8) (Nat.mod_lt _ (by norm_num))]
  exact nxt_sel (fun q => x (ix4 0 0 q f)) (fun q => p (ix4 0 0 q f)) n r

end Taps

variable (m : (ℓ : Loc nD τ sig) → Buf (Elt Ideal) ℓ)

theorem coords : ∀ t : Fin grid0.N, (grid0.coords t 1).val = t.val % 8 := by decide +kernel

theorem index : ∀ t : Fin grid0.N, win0_0.index t = ![t.val / 8, 0, t.val % 8, 0]
    ∧ win0_1.index t = ![t.val / 8, 0, t.val % 8 * 128 - 1, 0]
    ∧ win0_2.index t = ![t.val / 8, 0, min ((t.val % 8 + 1) * 128) 1023, 0]
    ∧ win0_3.index t = ![0, t.val / 8, 0, 0]
    ∧ win0_4.index t = ![0, t.val / 8, 0, 0]
    ∧ win0_5.index t = ![t.val / 8, 0]
    ∧ win0_6.index t = ![t.val % 8, 0] := by decide +kernel

abbrev b0 (c : Dev nD) : Vec Ideal S8192x5632 .f32 := m ((c : Thread nD τ).loc main_arg0)
abbrev b1 (c : Dev nD) : Vec Ideal S3x5632 .f32 := m ((c : Thread nD τ).loc main_arg1)
abbrev b2 (c : Dev nD) : Vec Ideal S5632 .f32 := m ((c : Thread nD τ).loc main_arg2)
abbrev b3 (c : Dev nD) : Vec Ideal S2816x1024 .f32 := m ((c : Thread nD τ).loc main_arg3)
abbrev b4 (c : Dev nD) : Vec Ideal S8192x1024 .f32 := m ((c : Thread nD τ).loc main_arg4)

theorem V1 (c : Dev nD) (p : Fin 4) (q : Fin 2) (r : Fin 8192) (f : Fin 704) :
    V m c main_v1 (ix4 p q r f) = at2 (b0 m c) r.val (q.val * 2816 + p.val * 704 + f.val) := by
  rw [at2_mk _ _ _ r.isLt (by omega)]
  entry_read
  pointwise

theorem V3 (c : Dev nD) (p : Fin 2) (q : Fin 4) (r : Fin 3) (f : Fin 704) :
    V m c main_v3 (ix4 p q r f) = at2 (b1 m c) r.val (p.val * 2816 + q.val * 704 + f.val) := by
  rw [at2_mk _ _ _ r.isLt (by omega)]
  entry_read
  pointwise

theorem V4 (c : Dev nD) (p : Fin 2) (q : Fin 4) (r : Fin 1) (f : Fin 704) :
    V m c main_v4 (ix4 p q r f) = at1 (b2 m c) (p.val * 2816 + q.val * 704 + f.val) := by
  rw [at1_mk _ _ (by omega)]
  entry_read
  pointwise

theorem V5 (c : Dev nD) (r : Fin 2816) (d : Fin 1024) : V m c main_v5 (ix2 r d) = at2 (b3 m c) r.val d.val := by
  rw [at2_val]
  entry_read
  pointwise

theorem cur_at (c : Dev nD) (t : Fin grid0.N) (z : Fin 2) (r : Fin 1024) (f : Fin 704) :
    iblk m c 0 t (ix4 0 z r f) = at2 (b0 m c) (1024 * (t.val % 8) + r.val) (2816 * z.val + 704 * (t.val / 8) + f.val) := by
  have ht : t.val < 32 := t.isLt
  have e := (index t).1
  refine (show _ = V m c main_v1 (ix4 ⟨t.val / 8, by omega⟩ z ⟨1024 * (t.val % 8) + r.val, by omega⟩ f) by blk_ext [iblk, e]).trans ?_
  rw [V1]
  refine congrArg₂ (at2 _) rfl ?_; simp only []; omega

theorem prv_blk (c : Dev nD) (t : Fin grid0.N) (z : Fin 2) (f : Fin 704) (h : ¬t.val % 8 = 0) :
    iblk m c 1 t (ix4 0 z 7 f) = at2 (b0 m c) (1024 * (t.val % 8) - 1) (2816 * z.val + 704 * (t.val / 8) + f.val) := by
  have ht : t.val < 32 := t.isLt
  have e := (index t).2.1
  refine (show _ = V m c main_v1 (ix4 ⟨t.val / 8, by omega⟩ z ⟨1024 * (t.val % 8) - 1, by omega⟩ f) by blk_ext [iblk, e]).trans ?_
  rw [V1]
  refine congrArg₂ (at2 _) rfl ?_; simp only []; omega

theorem nxt_blk (c : Dev nD) (t : Fin grid0.N) (z : Fin 2) (f : Fin 704) (h : ¬t.val % 8 = 7) :
    iblk m c 2 t (ix4 0 z 0 f) = at2 (b0 m c) (1024 * (t.val % 8) + 1024) (2816 * z.val + 704 * (t.val / 8) + f.val) := by
  have ht : t.val < 32 := t.isLt
  have e := (index t).2.2.1
  refine (show _ = V m c main_v1 (ix4 ⟨t.val / 8, by omega⟩ z ⟨1024 * (t.val % 8) + 1024, by omega⟩ f) by blk_ext [iblk, e]).trans ?_
  rw [V1]
  refine congrArg₂ (at2 _) rfl ?_; simp only []; omega

theorem w_at (c : Dev nD) (t : Fin grid0.N) (z : Fin 2) (k : Fin 3) (f : Fin 704) :
    iblk m c 3 t (ix4 z 0 k f) = at2 (b1 m c) k.val (2816 * z.val + 704 * (t.val / 8) + f.val) := by
  have ht : t.val < 32 := t.isLt
  have e := (index t).2.2.2.1
  refine (show _ = V m c main_v3 (ix4 z ⟨t.val / 8, by omega⟩ k f) by blk_ext [iblk, e]).trans ?_
  rw [V3]
  refine congrArg₂ (at2 _) rfl ?_; simp only []; omega

theorem bias_at (c : Dev nD) (t : Fin grid0.N) (z : Fin 2) (f : Fin 704) :
    iblk m c 4 t (ix4 z 0 0 f) = at1 (b2 m c) (2816 * z.val + 704 * (t.val / 8) + f.val) := by
  have ht : t.val < 32 := t.isLt
  have e := (index t).2.2.2.2.1
  refine (show _ = V m c main_v4 (ix4 z ⟨t.val / 8, by omega⟩ 0 f) by blk_ext [iblk, e]).trans ?_
  rw [V4]
  refine congrArg (at1 _) ?_; simp only []; omega

theorem u_at (c : Dev nD) (t : Fin grid0.N) (f : Fin 704) (d : Fin 1024) :
    iblk m c 5 t (ix2 f d) = at2 (b3 m c) (704 * (t.val / 8) + f.val) d.val := by
  have ht : t.val < 32 := t.isLt
  have e := (index t).2.2.2.2.2.1
  refine (show _ = V m c main_v5 (ix2 ⟨704 * (t.val / 8) + f.val, by omega⟩ d) by blk_ext [iblk, e]).trans ?_
  rw [V5]

theorem y_at (c : Dev nD) (t : Fin grid0.N) (r d : Fin 1024) :
    iblk m c 6 t (ix2 r d) = at2 (b4 m c) (1024 * (t.val % 8) + r.val) d.val := by
  have ht : t.val < 32 := t.isLt
  have e := (index t).2.2.2.2.2.2
  refine (show _ = V m c main_arg4 (ix2 ⟨1024 * (t.val % 8) + r.val, by omega⟩ d) by blk_ext [iblk, e]).trans ?_
  rw [at2_mk _ _ _ (by omega) d.isLt]
  rfl

/-- The half of a block that a load through a part of it reads. -/
theorem ld_half {a r n : ℕ} (X : (⟨4, ![1, a, r, n]⟩ : Shape).Idx → EReal) (z : Fin a)
    (inb : ∀ x, (![0, z.val, 0, 0] : Fin 4 → ℕ) x + (![1, 1, r, n] : Fin 4 → ℕ) x ≤ (⟨4, ![1, a, r, n]⟩ : Shape).size x) (q : Fin r) (f : Fin n) :
    View.ld (Val := Elt Ideal) (e' := .f32) X (Rect.unit (s := ⟨4, ![1, a, r, n]⟩) ![0, z.val, 0, 0] ![1, 1, r, n] inb) (ix4 0 0 q f) = X (ix4 0 z q f) := by
  refine View.ld_unit_apply_of (Val := Elt Ideal) (e := .f32) (S := ⟨4, ![1, a, r, n]⟩) X _ _ inb (ix4 0 0 q f) (ix4 0 z q f) fun x => ?_
  match x with
  | ⟨0, _⟩ => rfl
  | ⟨1, _⟩ => rfl
  | ⟨2, _⟩ => exact (Nat.zero_add _).symm
  | ⟨3, _⟩ => exact (Nat.zero_add _).symm

theorem curG_at (c : Dev nD) (t : Fin grid0.N) (r : Fin 1024) (f : Fin 704) :
    curG m c t (ix4 0 0 r f) = at2 (b0 m c) (1024 * (t.val % 8) + r.val) (2816 * 0 + 704 * (t.val / 8) + f.val) :=
  (ld_half (iblk m c 0 t) 0 _ r f).trans (cur_at m c t 0 r f)

theorem curU_at (c : Dev nD) (t : Fin grid0.N) (r : Fin 1024) (f : Fin 704) :
    curU m c t (ix4 0 0 r f) = at2 (b0 m c) (1024 * (t.val % 8) + r.val) (2816 * 1 + 704 * (t.val / 8) + f.val) :=
  (ld_half (iblk m c 0 t) 1 _ r f).trans (cur_at m c t 1 r f)

theorem prvG_at (c : Dev nD) (t : Fin grid0.N) (f : Fin 704) (h : ¬t.val % 8 = 0) :
    prvG m c t (ix4 0 0 7 f) = at2 (b0 m c) (1024 * (t.val % 8) - 1) (2816 * 0 + 704 * (t.val / 8) + f.val) :=
  (ld_half (iblk m c 1 t) 0 _ 7 f).trans (prv_blk m c t 0 f h)

theorem prvU_at (c : Dev nD) (t : Fin grid0.N) (f : Fin 704) (h : ¬t.val % 8 = 0) :
    prvU m c t (ix4 0 0 7 f) = at2 (b0 m c) (1024 * (t.val % 8) - 1) (2816 * 1 + 704 * (t.val / 8) + f.val) :=
  (ld_half (iblk m c 1 t) 1 _ 7 f).trans (prv_blk m c t 1 f h)

theorem nxtG_at (c : Dev nD) (t : Fin grid0.N) (f : Fin 704) (h : ¬t.val % 8 = 7) :
    nxtG m c t (ix4 0 0 0 f) = at2 (b0 m c) (1024 * (t.val % 8) + 1024) (2816 * 0 + 704 * (t.val / 8) + f.val) :=
  (ld_half (iblk m c 2 t) 0 _ 0 f).trans (nxt_blk m c t 0 f h)

theorem nxtU_at (c : Dev nD) (t : Fin grid0.N) (f : Fin 704) (h : ¬t.val % 8 = 7) :
    nxtU m c t (ix4 0 0 0 f) = at2 (b0 m c) (1024 * (t.val % 8) + 1024) (2816 * 1 + 704 * (t.val / 8) + f.val) :=
  (ld_half (iblk m c 2 t) 1 _ 0 f).trans (nxt_blk m c t 1 f h)

/-- The row before, from a tile and the last row of the tile before. -/
theorem before_of (x : Vec Ideal S8192x5632 .f32) (n r j : ℕ) (hr : r < 1024) (P : EReal) (X : ℕ → EReal)
    (hP : ¬n = 0 → P = at2 x (1024 * n - 1) j) (hX : ∀ q, q < 1024 → X q = at2 x (1024 * n + q) j) :
    (if r = 0 then (if n = 0 then 0 else P) else X (r - 1)) = before x (1024 * n + r) j := by
  unfold before
  by_cases h : r = 0
  · subst h
    by_cases hn : n = 0
    · subst hn; rfl
    · rw [if_pos rfl, if_neg hn, if_neg (by omega), hP hn]; rfl
  · rw [if_neg h, if_neg (by omega), hX _ (by omega)]
    refine congrArg₂ (at2 _) ?_ rfl; omega

/-- The row after, from a tile and the first row of the tile after. -/
theorem after_of (x : Vec Ideal S8192x5632 .f32) (n r j : ℕ) (hr : r < 1024) (P : EReal) (X : ℕ → EReal)
    (hP : ¬n = 7 → P = at2 x (1024 * n + 1024) j) (hX : ∀ q, q < 1024 → X q = at2 x (1024 * n + q) j) :
    (if r = 1023 then (if n = 7 then 0 else P) else X (r + 1)) = at2 x (1024 * n + r + 1) j := by
  by_cases h : r = 1023
  · subst h
    by_cases hn : n = 7
    · subst hn; rw [if_pos rfl, if_pos rfl]; unfold at2; rw [dif_neg (by omega)]
    · rw [if_pos rfl, if_neg hn, hP hn]
  · rw [if_neg h, hX _ (by omega)]; rfl

section Columns
variable (c : Dev nD) (t : Fin grid0.N) (r : Fin 1024) (f : Fin 704)

/-- The row of the whole array that a tile's row is. -/
abbrev row : ℕ := 1024 * (t.val % 8) + r.val
/-- The column of the whole array that a half's chunk's column is. -/
abbrev col (z : ℕ) : ℕ := 2816 * z + 704 * (t.val / 8) + f.val

theorem tg0_at : tg0 m c t (ix2 r f) = before (b0 m c) (row t r) (col t f 0) := by
  unfold tg0
  rw [pay6_at _ (t.val % 8) (coords t) (Nat.mod_lt _ (by norm_num))]
  refine Eq.trans ?_ (before_of (b0 m c) (t.val % 8) r.val _ r.isLt (prvG m c t (ix4 0 0 7 f))
    (fun q => at2 (b0 m c) (1024 * (t.val % 8) + q) (col t f 0)) (prvG_at m c t f) fun _ _ => rfl)
  by_cases h : r.val = 0
  · rw [dif_pos h, if_pos h]
  · rw [dif_neg h, if_neg h, curG_at]

theorem tu0_at : tu0 m c t (ix2 r f) = before (b0 m c) (row t r) (col t f 1) := by
  unfold tu0
  rw [pay13_at _ (t.val % 8) (coords t) (Nat.mod_lt _ (by norm_num))]
  refine Eq.trans ?_ (before_of (b0 m c) (t.val % 8) r.val _ r.isLt (prvU m c t (ix4 0 0 7 f))
    (fun q => at2 (b0 m c) (1024 * (t.val % 8) + q) (col t f 1)) (prvU_at m c t f) fun _ _ => rfl)
  by_cases h : r.val = 0
  · rw [dif_pos h, if_pos h]
  · rw [dif_neg h, if_neg h, curU_at]

theorem tg1_at : tg1 m c t (ix2 r f) = at2 (b0 m c) (row t r) (col t f 0) := by
  rw [← curG_at]
  unfold tg1
  generalize curG m c t = x
  pointwise [k0_pay5]

theorem tu1_at : tu1 m c t (ix2 r f) = at2 (b0 m c) (row t r) (col t f 1) := by
  rw [← curU_at]
  unfold tu1
  generalize curU m c t = x
  pointwise [k0_pay12]

theorem tg2_at : tg2 m c t (ix2 r f) = at2 (b0 m c) (row t r + 1) (col t f 0) := by
  unfold tg2
  rw [pay11_at _ (t.val % 8) (coords t) (Nat.mod_lt _ (by norm_num))]
  refine Eq.trans ?_ (after_of (b0 m c) (t.val % 8) r.val _ r.isLt (nxtG m c t (ix4 0 0 0 f))
    (fun q => at2 (b0 m c) (1024 * (t.val % 8) + q) (col t f 0)) (nxtG_at m c t f) fun _ _ => rfl)
  by_cases h : r.val = 1023
  · rw [dif_pos h, if_pos h]
  · rw [dif_neg h, if_neg h, curG_at]

theorem tu2_at : tu2 m c t (ix2 r f) = at2 (b0 m c) (row t r + 1) (col t f 1) := by
  unfold tu2
  rw [pay14_at _ (t.val % 8) (coords t) (Nat.mod_lt _ (by norm_num))]
  refine Eq.trans ?_ (after_of (b0 m c) (t.val % 8) r.val _ r.isLt (nxtU m c t (ix4 0 0 0 f))
    (fun q => at2 (b0 m c) (1024 * (t.val % 8) + q) (col t f 1)) (nxtU_at m c t f) fun _ _ => rfl)
  by_cases h : r.val = 1023
  · rw [dif_pos h, if_pos h]
  · rw [dif_neg h, if_neg h, curU_at]

/-- A load of one half of the taps or the bias. -/
theorem ld_lead {a r n : ℕ} (X : (⟨4, ![a, 1, r, n]⟩ : Shape).Idx → EReal) (z : Fin a)
    (inb : ∀ x, (![z.val, 0, 0, 0] : Fin 4 → ℕ) x + (![1, 1, r, n] : Fin 4 → ℕ) x ≤ (⟨4, ![a, 1, r, n]⟩ : Shape).size x) (q : Fin r) (f : Fin n) :
    View.ld (Val := Elt Ideal) (e' := .f32) X (Rect.unit (s := ⟨4, ![a, 1, r, n]⟩) ![z.val, 0, 0, 0] ![1, 1, r, n] inb) (ix4 0 0 q f) = X (ix4 z 0 q f) := by
  refine View.ld_unit_apply_of (Val := Elt Ideal) (e := .f32) (S := ⟨4, ![a, 1, r, n]⟩) X _ _ inb (ix4 0 0 q f) (ix4 z 0 q f) fun x => ?_
  match x with
  | ⟨0, _⟩ => rfl
  | ⟨1, _⟩ => rfl
  | ⟨2, _⟩ => exact (Nat.zero_add _).symm
  | ⟨3, _⟩ => exact (Nat.zero_add _).symm

theorem cwG_at (k : Fin 3) : cwG m c t (ix4 0 0 k f) = at2 (b1 m c) k.val (col t f 0) :=
  (ld_lead (iblk m c 3 t) 0 _ k f).trans (w_at m c t 0 k f)
theorem cwU_at (k : Fin 3) : cwU m c t (ix4 0 0 k f) = at2 (b1 m c) k.val (col t f 1) :=
  (ld_lead (iblk m c 3 t) 1 _ k f).trans (w_at m c t 1 k f)
theorem cbG_at : cbG m c t (ix4 0 0 0 f) = at1 (b2 m c) (col t f 0) :=
  (ld_lead (iblk m c 4 t) 0 _ 0 f).trans (bias_at m c t 0 f)
theorem cbU_at : cbU m c t (ix4 0 0 0 f) = at1 (b2 m c) (col t f 1) :=
  (ld_lead (iblk m c 4 t) 1 _ 0 f).trans (bias_at m c t 1 f)

theorem pay16_at (a b d : Vec Ideal S1024x704 .f32) (w : Vec Ideal S1x1x3x704 .f32) (e : Vec Ideal S1x1x1x704 .f32) :
    k0_pay16 a b d (k0_pay15 w) e (ix2 r f)
      = e (ix4 0 0 0 f) + (w (ix4 0 0 0 f) * b (ix2 r f) + w (ix4 0 0 1 f) * a (ix2 r f) + w (ix4 0 0 2 f) * d (ix2 r f)) := by
  pointwise [k0_pay16, k0_pay15]

theorem pay17_at (a b d : Vec Ideal S1024x704 .f32) (w : Vec Ideal S1x1x3x704 .f32) (e : Vec Ideal S1x1x1x704 .f32) :
    k0_pay17 a b d w e (ix2 r f)
      = e (ix4 0 0 0 f) + (w (ix4 0 0 0 f) * b (ix2 r f) + w (ix4 0 0 1 f) * a (ix2 r f) + w (ix4 0 0 2 f) * d (ix2 r f)) := by
  pointwise [k0_pay17]

theorem pay18_at (a b d : Vec Ideal S1024x704 .f32) (w : Vec Ideal S1x1x3x704 .f32) (e : Vec Ideal S1x1x1x704 .f32) :
    k0_pay18 a b d (k0_pay15 w) e (ix2 r f) = 1 + Ideal.exp (-(k0_pay16 a b d (k0_pay15 w) e (ix2 r f))) := by
  unfold k0_pay18
  generalize k0_pay16 a b d (k0_pay15 w) e = g
  pointwise
  rw [zero_sub]

theorem gpre_at : gpre m c t (ix2 r f) = cv (b0 m c) (b1 m c) (b2 m c) (row t r) (col t f 0) := by
  unfold gpre
  rw [pay16_at, tg0_at, tg1_at, tg2_at, cwG_at, cwG_at, cwG_at, cbG_at]
  rfl

theorem upre_at : upre m c t (ix2 r f) = cv (b0 m c) (b1 m c) (b2 m c) (row t r) (col t f 1) := by
  unfold upre
  rw [pay17_at, tu0_at, tu1_at, tu2_at, cwU_at, cwU_at, cwU_at, cbU_at]
  rfl

/-- What `gpre` divides. -/
theorem den_at : den m c t (ix2 r f) = 1 + Ideal.exp (-(cv (b0 m c) (b1 m c) (b2 m c) (row t r) (col t f 0))) := by
  rw [← gpre_at]
  exact pay18_at r f _ _ _ _ _

end Columns

end Cert.FfnDownBwdIdeal.Point

end
-- ==== Proof.DownAcc.lean ====
/-
  The gradients of the gate, the convolution and the down projection: what the kernel's points add up to, as sums over
  the rows of the whole arrays.
-/
module

public import proofs.«01_k».proof.Proof.Down

@[expose] public section

set_option maxRecDepth 16384

noncomputable section

namespace Cert.FfnDownBwdIdeal.Point

open Cert.FfnDownBwdIdeal Cert.FfnDownBwdIdeal.Gen Cert.FfnDownBwdIdeal.Value Cert.Common
open Cert.FfnUpBwdXIdeal.Point (at2 at2_val at2_mk)
open Idealize.ShloMosaic Idealize.ShloMosaic.TcCoe Idealize.SL.Sem

/-- The logistic function. -/
def sg (g : EReal) : EReal := Ideal.div 1 (1 + Ideal.exp (-g))

section Maths
variable (x : Vec Ideal S8192x5632 .f32) (w : Vec Ideal S3x5632 .f32) (b : Vec Ideal S5632 .f32) (u : Vec Ideal S2816x1024 .f32)
  (y : Vec Ideal S8192x1024 .f32)

/-- What the gate leaves. -/
def act (r j : ℕ) : EReal := cv x w b r j * sg (cv x w b r j) * cv x w b r (2816 + j)
/-- The gradient by what the gate leaves. -/
def dact (r j : ℕ) : EReal := ∑ d : Fin 1024, at2 y r d.val * at2 u j d.val
/-- The gradient by the gated half, as the kernel computes it. -/
def dg (r j : ℕ) : EReal :=
  dact u y r j * cv x w b r (2816 + j) * sg (cv x w b r j) * (1 + cv x w b r j * (1 - sg (cv x w b r j)))
/-- The gradient by the other half. -/
def du (r j : ℕ) : EReal := dact u y r j * (cv x w b r j * sg (cv x w b r j))
/-- The gradient by either half. -/
def dz (z r j : ℕ) : EReal := match z with
  | 0 => dg x w b u y r j
  | _ + 1 => du x w b u y r j
/-- The row a tap multiplies. -/
def tap (k r j : ℕ) : EReal := match k with
  | 0 => before x r j
  | 1 => at2 x r j
  | _ + 2 => at2 x (r + 1) j

end Maths

section Pays
variable (g v dn : FVec Ideal S1024x704 .f32) (y : Vec Ideal S1024x1024 .f32) (u : Vec Ideal S704x1024 .bf16)

theorem pay22_at (r : Fin 1024) (f : Fin 704) : k0_pay22 y u (ix2 r f) = ∑ d : Fin 1024, y (ix2 r d) * u (ix2 f d) := by
  pointwise [k0_pay22]

theorem pay24_at (r : Fin 1024) (f : Fin 704) : k0_pay24 g v y dn k0_pay19 u (ix2 r f)
    = (∑ d : Fin 1024, y (ix2 r d) * u (ix2 f d)) * v (ix2 r f) * Ideal.div 1 (dn (ix2 r f))
      * (1 + g (ix2 r f) * (1 - Ideal.div 1 (dn (ix2 r f)))) := by
  rw [← pay22_at]
  unfold k0_pay24
  generalize k0_pay22 y u = q
  pointwise [k0_pay20, k0_pay19]

theorem pay25_at (r : Fin 1024) (f : Fin 704) : k0_pay25 g y dn k0_pay19 u (ix2 r f)
    = (∑ d : Fin 1024, y (ix2 r d) * u (ix2 f d)) * (g (ix2 r f) * Ideal.div 1 (dn (ix2 r f))) := by
  rw [← pay22_at]
  unfold k0_pay25
  generalize k0_pay22 y u = q
  pointwise [k0_pay21, k0_pay20, k0_pay19]

theorem pay23_at (acc : Vec Ideal S704x1024 .f32) (f : Fin 704) (d : Fin 1024) : k0_pay23 g v y dn k0_pay19 acc (ix2 f d)
    = acc (ix2 f d) + ∑ k : Fin 1024, g (ix2 k f) * Ideal.div 1 (dn (ix2 k f)) * v (ix2 k f) * y (ix2 k d) := by
  pointwise [k0_pay23, k0_pay21, k0_pay20, k0_pay19]

theorem pay29_at (a : Vec Ideal S1x1x1x704 .f32) (f : Fin 704) :
    k0_pay29 (k0_pay28 g v y dn k0_pay19 u a) (ix4 0 0 0 f) = a (ix4 0 0 0 f) + ∑ k : Fin 1024, k0_pay24 g v y dn k0_pay19 u (ix2 k f) := by
  unfold k0_pay28
  generalize k0_pay24 g v y dn k0_pay19 u = q
  pointwise [k0_pay29]

variable (a : Vec Ideal S1x1x1x704 .f32) (f : Fin 704)

theorem pay34_at : k0_pay34 g a (ix4 0 0 0 f) = a (ix4 0 0 0 f) + ∑ k : Fin 1024, g (ix2 k f) := by
  pointwise [k0_pay34]
theorem pay30_at : k0_pay30 v g a (ix4 0 0 0 f) = a (ix4 0 0 0 f) + ∑ k : Fin 1024, g (ix2 k f) * v (ix2 k f) := by
  pointwise [k0_pay30]
theorem pay31_at : k0_pay31 v g a (ix4 0 0 0 f) = a (ix4 0 0 0 f) + ∑ k : Fin 1024, g (ix2 k f) * v (ix2 k f) := by
  pointwise [k0_pay31]
theorem pay33_at : k0_pay33 (k0_pay32 v g a) (ix4 0 0 0 f) = a (ix4 0 0 0 f) + ∑ k : Fin 1024, g (ix2 k f) * v (ix2 k f) := by
  pointwise [k0_pay33, k0_pay32]
theorem pay35_at : k0_pay35 v g a (ix4 0 0 0 f) = a (ix4 0 0 0 f) + ∑ k : Fin 1024, g (ix2 k f) * v (ix2 k f) := by
  pointwise [k0_pay35]
theorem pay36_at : k0_pay36 v g a (ix4 0 0 0 f) = a (ix4 0 0 0 f) + ∑ k : Fin 1024, g (ix2 k f) * v (ix2 k f) := by
  pointwise [k0_pay36]
theorem pay1_at : k0_pay1 v g a (ix4 0 0 0 f) = a (ix4 0 0 0 f) + ∑ k : Fin 1024, g (ix2 k f) * v (ix2 k f) := by
  pointwise [k0_pay1]

theorem pay26_at (r : Fin 1024) : k0_pay26 g v y dn k0_pay19 u (ix4 0 0 r f) = k0_pay24 g v y dn k0_pay19 u (ix2 r f) := by
  unfold k0_pay26
  generalize k0_pay24 g v y dn k0_pay19 u = q
  pointwise
theorem pay27_at (r : Fin 1024) : k0_pay27 g y dn k0_pay19 u (ix4 0 0 r f) = k0_pay25 g y dn k0_pay19 u (ix2 r f) := by
  unfold k0_pay27
  generalize k0_pay25 g y dn k0_pay19 u = q
  pointwise

theorem pay2_zero (i : S704x1024.Idx) : k0_pay2 (F := Ideal) i = 0 := by
  idx_vars i; pointwise [k0_pay2]
theorem pay3_zero (i : S2x1x3x704.Idx) : k0_pay3 (F := Ideal) i = 0 := by
  idx_vars i; pointwise [k0_pay3]
theorem pay4_zero (i : S2x1x1x704.Idx) : k0_pay4 (F := Ideal) i = 0 := by
  idx_vars i; pointwise [k0_pay4]

end Pays

/-- The row of an accumulator that a load reads. -/
theorem ld_row {n : ℕ} (X : (⟨4, ![2, 1, n, 704]⟩ : Shape).Idx → EReal) (z : Fin 2) (k : Fin n)
    (inb : ∀ x, (![z.val, 0, k.val, 0] : Fin 4 → ℕ) x + (![1, 1, 1, 704] : Fin 4 → ℕ) x ≤ (⟨4, ![2, 1, n, 704]⟩ : Shape).size x) (f : Fin 704) :
    View.ld (Val := Elt Ideal) (e' := .f32) X (Rect.unit (s := ⟨4, ![2, 1, n, 704]⟩) ![z.val, 0, k.val, 0] ![1, 1, 1, 704] inb) (ix4 0 0 0 f) = X (ix4 z 0 k f) := by
  refine View.ld_unit_apply_of (Val := Elt Ideal) (e := .f32) (S := ⟨4, ![2, 1, n, 704]⟩) X _ _ inb (ix4 0 0 0 f) (ix4 z 0 k f) fun x => ?_
  match x with
  | ⟨0, _⟩ => rfl
  | ⟨1, _⟩ => rfl
  | ⟨2, _⟩ => rfl
  | ⟨3, _⟩ => exact (Nat.zero_add _).symm

/-- A value reset at the first row block and added to at each after it is a sum over the row blocks. -/
theorem acc_of (A : (n : ℕ) → n < cfg0.N → EReal) (T : ℕ → ℕ → EReal)
    (h0 : ∀ t : Fin cfg0.N, t.val % 8 = 0 → A t.val t.isLt = 0 + ∑ k : Fin 1024, T (t.val / 8) (1024 * (t.val % 8) + k.val))
    (h1 : ∀ t : Fin cfg0.N, ¬t.val % 8 = 0 → A t.val t.isLt
      = A (t.val - 1) (Nat.lt_of_le_of_lt (Nat.sub_le _ _) t.isLt) + ∑ k : Fin 1024, T (t.val / 8) (1024 * (t.val % 8) + k.val))
    (n : ℕ) (hn : n < cfg0.N) : A n hn = ∑ R ∈ Finset.range (n % 8 + 1), ∑ k : Fin 1024, T (n / 8) (1024 * R + k.val) := by
  induction n with
  | zero => rw [h0 ⟨0, hn⟩ rfl, zero_add]; simp
  | succ n ih =>
    by_cases h : (n + 1) % 8 = 0
    · rw [h0 ⟨n + 1, hn⟩ h, zero_add]
      simp only [h, zero_add, Finset.sum_range_one]
    · rw [h1 ⟨n + 1, hn⟩ h]
      show A n _ + _ = _
      rw [ih, show (n + 1) % 8 = n % 8 + 1 by omega, show (n + 1) / 8 = n / 8 by omega, Finset.sum_range_succ _ (n % 8 + 1)]

/-- At the last row block the sum is over all the rows. -/
theorem whole (T : ℕ → EReal) : ∑ R ∈ Finset.range 8, ∑ k : Fin 1024, T (1024 * R + k.val) = ∑ r : Fin 8192, T r.val := by
  rw [Finset.sum_range]
  refine Fin.sum_mul_add_congr (S := 8) (n := 1024) fun s k hl => ?_
  rw [Nat.mul_comm 1024]

variable (m : (ℓ : Loc nD τ sig) → Buf (Elt Ideal) ℓ)

section Point
variable (c : Dev nD) (t : Fin grid0.N) (r : Fin 1024) (f : Fin 704)

/-- The column within a half that a chunk's column is. -/
abbrev hcol : ℕ := 704 * (t.val / 8) + f.val

theorem col0 : col t f 0 = hcol t f := by unfold col hcol; omega
theorem col1 : col t f 1 = 2816 + hcol t f := by unfold col hcol; omega

theorem dgT_at : dgT m c t (ix2 r f) = dg (b0 m c) (b1 m c) (b2 m c) (b3 m c) (b4 m c) (row t r) (hcol t f) := by
  unfold dgT
  rw [pay24_at, gpre_at, upre_at, den_at, col0, col1]
  unfold dg dact sg
  simp only [u_at, y_at]

theorem duT_at : duT m c t (ix2 r f) = du (b0 m c) (b1 m c) (b2 m c) (b3 m c) (b4 m c) (row t r) (hcol t f) := by
  unfold duT
  rw [pay25_at, gpre_at, den_at, col0]
  unfold du dact sg
  simp only [u_at, y_at]

theorem both_at (z : Fin 2) : both m c t (ix4 0 z r f) = dz (b0 m c) (b1 m c) (b2 m c) (b3 m c) (b4 m c) z.val (row t r) (hcol t f) := by
  match z with
  | 0 => exact (both0 m c t r f).trans ((pay26_at _ _ _ _ _ f r).trans (dgT_at m c t r f))
  | 1 => exact (both1 m c t r f).trans ((pay27_at _ _ _ _ f r).trans (duT_at m c t r f))

theorem stepW_at (acc : Vec Ideal S704x1024 .f32) (d : Fin 1024) : stepW m c t acc (ix2 f d)
    = acc (ix2 f d) + ∑ k : Fin 1024, act (b0 m c) (b1 m c) (b2 m c) (1024 * (t.val % 8) + k.val) (hcol t f) * at2 (b4 m c) (1024 * (t.val % 8) + k.val) d.val := by
  unfold stepW
  rw [pay23_at]
  simp only [gpre_at, upre_at, den_at, col0, col1, y_at]
  rfl

theorem stepB0_at (a : Vec Ideal S1x1x1x704 .f32) : stepB0 m c t a (ix4 0 0 0 f)
    = a (ix4 0 0 0 f) + ∑ k : Fin 1024, dz (b0 m c) (b1 m c) (b2 m c) (b3 m c) (b4 m c) 0 (1024 * (t.val % 8) + k.val) (hcol t f) := by
  unfold stepB0
  rw [pay29_at]
  exact congrArg _ (Finset.sum_congr rfl fun k _ => dgT_at m c t k f)

theorem stepB1_at (a : Vec Ideal S1x1x1x704 .f32) : k0_pay34 (duT m c t) a (ix4 0 0 0 f)
    = a (ix4 0 0 0 f) + ∑ k : Fin 1024, dz (b0 m c) (b1 m c) (b2 m c) (b3 m c) (b4 m c) 1 (1024 * (t.val % 8) + k.val) (hcol t f) := by
  rw [pay34_at]
  exact congrArg _ (Finset.sum_congr rfl fun k _ => duT_at m c t k f)

end Point

theorem w_at_end (c : Dev nD) (n : ℕ) (hn : n < cfg0.N) (f : Fin 704) (d : Fin 1024) :
    (outsAt0 m c n hn).2.1 (ix2 f d)
      = ∑ R ∈ Finset.range (n % 8 + 1), ∑ k : Fin 1024,
          act (b0 m c) (b1 m c) (b2 m c) (1024 * R + k.val) (704 * (n / 8) + f.val) * at2 (b4 m c) (1024 * R + k.val) d.val :=
  acc_of (fun n hn => (outsAt0 m c n hn).2.1 (ix2 f d))
    (fun q r => act (b0 m c) (b1 m c) (b2 m c) r (704 * q + f.val) * at2 (b4 m c) r d.val)
    (fun t h => by show (outsAt0 m c t.val t.isLt).2.1 (ix2 f d) = _; rw [w_first m c t h, stepW_at, pay2_zero])
    (fun t h => by show (outsAt0 m c t.val t.isLt).2.1 (ix2 f d) = _; rw [w_next m c t h, stepW_at]) n hn

theorem b_at_end (c : Dev nD) (n : ℕ) (hn : n < cfg0.N) (z : Fin 2) (f : Fin 704) :
    (outsAt0 m c n hn).2.2.2 (ix4 z 0 0 f)
      = ∑ R ∈ Finset.range (n % 8 + 1), ∑ k : Fin 1024,
          dz (b0 m c) (b1 m c) (b2 m c) (b3 m c) (b4 m c) z.val (1024 * R + k.val) (704 * (n / 8) + f.val) := by
  refine acc_of (fun n hn => (outsAt0 m c n hn).2.2.2 (ix4 z 0 0 f))
    (fun q r => dz (b0 m c) (b1 m c) (b2 m c) (b3 m c) (b4 m c) z.val r (704 * q + f.val)) ?_ ?_ n hn
  · intro t h
    match z with
    | 0 => exact (b_first00 m c t h f).trans ((stepB0_at m c t f _).trans (congrArg (· + _) ((ld_row _ 0 0 _ f).trans (pay4_zero _))))
    | 1 => exact (b_first10 m c t h f).trans ((stepB1_at m c t f _).trans (congrArg (· + _) ((ld_row _ 1 0 _ f).trans (pay4_zero _))))
  · intro t h
    match z with
    | 0 => exact (b_next00 m c t h f).trans ((stepB0_at m c t f _).trans (congrArg (· + _) (ld_row _ 0 0 _ f)))
    | 1 => exact (b_next10 m c t h f).trans ((stepB1_at m c t f _).trans (congrArg (· + _) (ld_row _ 1 0 _ f)))

/-- A half's column of the whole arrays. -/
theorem prod_at (c : Dev nD) (t : Fin grid0.N) (f : Fin 704) (z k : ℕ) (g v : FVec Ideal S1024x704 .f32) (a : EReal)
    (hg : ∀ r, g (ix2 r f) = dz (b0 m c) (b1 m c) (b2 m c) (b3 m c) (b4 m c) z (row t r) (hcol t f))
    (hv : ∀ r, v (ix2 r f) = tap (b0 m c) k (row t r) (col t f z)) :
    a + ∑ r : Fin 1024, g (ix2 r f) * v (ix2 r f)
      = a + ∑ r : Fin 1024, dz (b0 m c) (b1 m c) (b2 m c) (b3 m c) (b4 m c) z (1024 * (t.val % 8) + r.val) (704 * (t.val / 8) + f.val)
          * tap (b0 m c) k (1024 * (t.val % 8) + r.val) (2816 * z + 704 * (t.val / 8) + f.val) :=
  congrArg _ (Finset.sum_congr rfl fun r _ => congrArg₂ (· * ·) (hg r) (hv r))

theorem c_at_end (c : Dev nD) (n : ℕ) (hn : n < cfg0.N) (z : Fin 2) (k : Fin 3) (f : Fin 704) :
    (outsAt0 m c n hn).2.2.1 (ix4 z 0 k f)
      = ∑ R ∈ Finset.range (n % 8 + 1), ∑ r : Fin 1024,
          dz (b0 m c) (b1 m c) (b2 m c) (b3 m c) (b4 m c) z.val (1024 * R + r.val) (704 * (n / 8) + f.val)
            * tap (b0 m c) k.val (1024 * R + r.val) (2816 * z.val + 704 * (n / 8) + f.val) := by
  refine acc_of (fun n hn => (outsAt0 m c n hn).2.2.1 (ix4 z 0 k f))
    (fun q r => dz (b0 m c) (b1 m c) (b2 m c) (b3 m c) (b4 m c) z.val r (704 * q + f.val)
      * tap (b0 m c) k.val r (2816 * z.val + 704 * q + f.val)) ?_ ?_ n hn
  · intro t h
    have e (z : Fin 2) (k : Fin 3) inb : View.ld (Val := Elt Ideal) (e' := .f32) (k0_pay3 (F := Ideal))
        (Rect.unit (s := ⟨4, ![2, 1, 3, 704]⟩) ![z.val, 0, k.val, 0] ![1, 1, 1, 704] inb) (ix4 0 0 0 f) = 0 := (ld_row _ z k _ f).trans (pay3_zero _)
    match z, k with
    | 0, 0 => exact (c_first00 m c t h f).trans ((pay30_at _ _ _ f).trans ((congrArg (· + _) (e 0 0 _)).trans
        (prod_at m c t f 0 0 _ _ _ (fun r => dgT_at m c t r f) (fun r => tg0_at m c t r f))))
    | 0, 1 => exact (c_first01 m c t h f).trans ((pay31_at _ _ _ f).trans ((congrArg (· + _) (e 0 1 _)).trans
        (prod_at m c t f 0 1 _ _ _ (fun r => dgT_at m c t r f) (fun r => tg1_at m c t r f))))
    | 0, 2 => exact (c_first02 m c t h f).trans ((pay33_at _ _ _ f).trans ((congrArg (· + _) (e 0 2 _)).trans
        (prod_at m c t f 0 2 _ _ _ (fun r => dgT_at m c t r f) (fun r => tg2_at m c t r f))))
    | 1, 0 => exact (c_first10 m c t h f).trans ((pay35_at _ _ _ f).trans ((congrArg (· + _) (e 1 0 _)).trans
        (prod_at m c t f 1 0 _ _ _ (fun r => duT_at m c t r f) (fun r => tu0_at m c t r f))))
    | 1, 1 => exact (c_first11 m c t h f).trans ((pay36_at _ _ _ f).trans ((congrArg (· + _) (e 1 1 _)).trans
        (prod_at m c t f 1 1 _ _ _ (fun r => duT_at m c t r f) (fun r => tu1_at m c t r f))))
    | 1, 2 => exact (c_first12 m c t h f).trans ((pay1_at _ _ _ f).trans ((congrArg (· + _) (e 1 2 _)).trans
        (prod_at m c t f 1 2 _ _ _ (fun r => duT_at m c t r f) (fun r => tu2_at m c t r f))))
  · intro t h
    match z, k with
    | 0, 0 => exact (c_next00 m c t h f).trans ((pay30_at _ _ _ f).trans ((congrArg (· + _) (ld_row _ 0 0 _ f)).trans
        (prod_at m c t f 0 0 _ _ _ (fun r => dgT_at m c t r f) (fun r => tg0_at m c t r f))))
    | 0, 1 => exact (c_next01 m c t h f).trans ((pay31_at _ _ _ f).trans ((congrArg (· + _) (ld_row _ 0 1 _ f)).trans
        (prod_at m c t f 0 1 _ _ _ (fun r => dgT_at m c t r f) (fun r => tg1_at m c t r f))))
    | 0, 2 => exact (c_next02 m c t h f).trans ((pay33_at _ _ _ f).trans ((congrArg (· + _) (ld_row _ 0 2 _ f)).trans
        (prod_at m c t f 0 2 _ _ _ (fun r => dgT_at m c t r f) (fun r => tg2_at m c t r f))))
    | 1, 0 => exact (c_next10 m c t h f).trans ((pay35_at _ _ _ f).trans ((congrArg (· + _) (ld_row _ 1 0 _ f)).trans
        (prod_at m c t f 1 0 _ _ _ (fun r => duT_at m c t r f) (fun r => tu0_at m c t r f))))
    | 1, 1 => exact (c_next11 m c t h f).trans ((pay36_at _ _ _ f).trans ((congrArg (· + _) (ld_row _ 1 1 _ f)).trans
        (prod_at m c t f 1 1 _ _ _ (fun r => duT_at m c t r f) (fun r => tu1_at m c t r f))))
    | 1, 2 => exact (c_next12 m c t h f).trans ((pay1_at _ _ _ f).trans ((congrArg (· + _) (ld_row _ 1 2 _ f)).trans
        (prod_at m c t f 1 2 _ _ _ (fun r => duT_at m c t r f) (fun r => tu2_at m c t r f))))

end Cert.FfnDownBwdIdeal.Point

end
-- ==== Proof.DownRef.lean ====
/-
  What the reference of the gradients of the gate, the convolution and the down projection computes, element by element.
-/
module

public import proofs.«01_k».proof.Proof.DownAcc

@[expose] public section

set_option maxRecDepth 16384

noncomputable section

namespace Cert.FfnDownBwdIdeal.Point

open Cert.FfnDownGradIdeal Cert.FfnDownGradIdeal.Read Cert.Common
open Cert.FfnUpBwdXIdeal.Point (at2 at2_val at2_mk IsR isR_coe isR_at2)
open Idealize.ShloMosaic Idealize.ShloMosaic.TcCoe Idealize.SL.Sem

variable (x0 : Vec Ideal S8192x5632 .f32) (x1 : Vec Ideal S3x5632 .f32) (x2 : Vec Ideal S5632 .f32)
  (x3 : Vec Ideal S2816x1024 .f32) (x4 : Vec Ideal S8192x1024 .f32)

theorem v5_at (r : Fin 8192) (j : Fin 5632) : val_main_v5 (F := Ideal) x0 (ix2 r j) = before x0 r.val j.val := by
  pointwise [val_main_v5, val_main_v2, val_main_v1, val_main_v0, val_main_cst, val_main_cst_0]
  unfold before
  by_cases h : r.val = 0
  · rw [dif_pos (by omega), if_pos h]
  · rw [dif_neg (by omega), dif_pos (by omega), if_neg h, at2_mk x0 _ _ (by omega) j.isLt]

theorem v14_at (r : Fin 8192) (j : Fin 5632) : val_main_v14 (F := Ideal) x0 (ix2 r j) = at2 x0 r.val j.val := by
  pointwise [val_main_v14, val_main_v2, val_main_v1, val_main_v0, val_main_cst, val_main_cst_0]
  exact (at2_val x0 r j).symm

theorem v21_at (r : Fin 8192) (j : Fin 5632) : val_main_v21 (F := Ideal) x0 (ix2 r j) = at2 x0 (r.val + 1) j.val := by
  pointwise [val_main_v21, val_main_v2, val_main_v1, val_main_v0, val_main_cst, val_main_cst_0]
  rw [dif_neg (by omega)]
  by_cases h : r.val + 1 < 8192
  · rw [dif_pos (by omega), at2_mk x0 _ _ h j.isLt]
    exact congrArg (fun q => x0 (ix2 q j)) (Fin.ext (show 2 + r.val - 1 = r.val + 1 by omega))
  · rw [dif_neg (by omega), at2, dif_neg (by omega)]

theorem v27_at (r : Fin 8192) (j : Fin 5632) : val_main_v27 (F := Ideal) x0 x1 x2 (ix2 r j) = cv x0 x1 x2 r.val j.val := by
  have h5 := v5_at x0
  have h14 := v14_at x0
  have h21 := v21_at x0
  unfold val_main_v27 val_main_v26 val_main_v20 val_main_v19 val_main_v13 val_main_v10
  generalize val_main_v5 (F := Ideal) x0 = p at h5 ⊢
  generalize val_main_v14 (F := Ideal) x0 = q at h14 ⊢
  generalize val_main_v21 (F := Ideal) x0 = s at h21 ⊢
  pointwise [val_main_v9, val_main_v8, val_main_v7, val_main_v6, val_main_v12, val_main_v11, val_main_v18, val_main_v17,
    val_main_v16, val_main_v15, val_main_v25, val_main_v24, val_main_v23, val_main_v22]
  rw [h5, h14, h21]
  unfold cv
  have e0 : at2 x1 0 j.val = x1 (ix2 0 j) := at2_val x1 0 j
  have e1 : at2 x1 1 j.val = x1 (ix2 1 j) := at2_val x1 1 j
  have e2 : at2 x1 2 j.val = x1 (ix2 2 j) := at2_val x1 2 j
  rw [e0, e1, e2, at1_mk x2 j.val j.isLt, mul_comm (x1 _), mul_comm (x1 _), mul_comm (x1 _), add_comm (_ * _) (x2 _), add_assoc, add_assoc,
    add_assoc]

theorem v30_2_at (r : Fin 8192) (j : Fin 2816) : val_main_v30_2 (F := Ideal) x0 x1 x2 (ix2 r j) = sg (cv x0 x1 x2 r.val j.val) := by
  have h := v27_at x0 x1 x2
  unfold val_main_v30_2 val_main_call0_v3 val_main_call0_v1 val_main_call0_v0 val_main_v28
  generalize val_main_v27 (F := Ideal) x0 x1 x2 = p at h ⊢
  pointwise [val_main_call0_v4, val_main_call0_cst_0, val_main_call0_v2, val_main_call0_cst]
  rw [h]
  rfl

theorem v35_at (r : Fin 8192) (j : Fin 2816) : val_main_v35 (F := Ideal) x3 x4 (ix2 r j) = dact x3 x4 r.val j.val := by
  pointwise [val_main_v35]
  unfold dact
  exact Finset.sum_congr rfl fun d _ => by rw [at2_val x4 r d, at2_val x3 j d]

theorem v31_at (r : Fin 8192) (j : Fin 2816) : val_main_v31 (F := Ideal) x0 x1 x2 (ix2 r j) = act x0 x1 x2 r.val j.val := by
  have h := v27_at x0 x1 x2
  have h2 := v30_2_at x0 x1 x2
  unfold val_main_v31 val_main_v30_0 val_main_v28 val_main_v29
  generalize val_main_v27 (F := Ideal) x0 x1 x2 = p at h ⊢
  generalize val_main_v30_2 (F := Ideal) x0 x1 x2 = q at h2 ⊢
  pointwise
  rw [h, h2, h]
  rfl

theorem v36_at (r : Fin 8192) (j : Fin 2816) : val_main_v36 (F := Ideal) x0 x1 x2 x3 x4 (ix2 r j) = du x0 x1 x2 x3 x4 r.val j.val := by
  have h := v27_at x0 x1 x2
  have h2 := v30_2_at x0 x1 x2
  have h3 := v35_at x3 x4
  unfold val_main_v36 val_main_v30_0 val_main_v28
  generalize val_main_v27 (F := Ideal) x0 x1 x2 = p at h ⊢
  generalize val_main_v30_2 (F := Ideal) x0 x1 x2 = q at h2 ⊢
  generalize val_main_v35 (F := Ideal) x3 x4 = s at h3 ⊢
  pointwise
  rw [h, h2, h3, mul_comm]
  rfl

/-- The row of the taps' gradient that a tap's products add up to. -/
theorem v71_at (j : Fin 5632) : val_main_v71 (F := Ideal) x0 x1 x2 x3 x4 (ix2 0 j)
    = ∑ r : Fin 8192, val_main_v5 (F := Ideal) x0 (ix2 r j) * val_main_v41 (F := Ideal) x0 x1 x2 x3 x4 (ix2 r j) := by
  unfold val_main_v71 val_main_v70 val_main_v67 val_main_v66 val_main_v65
  generalize val_main_v41 (F := Ideal) x0 x1 x2 x3 x4 = p
  generalize val_main_v5 (F := Ideal) x0 = a
  pointwise [val_main_cst_15, val_main_cst_16]
  rw [Fin.sum_univ_one]

theorem v57_at (j : Fin 5632) : val_main_v57 (F := Ideal) x0 x1 x2 x3 x4 (ix2 0 j)
    = ∑ r : Fin 8192, val_main_v14 (F := Ideal) x0 (ix2 r j) * val_main_v41 (F := Ideal) x0 x1 x2 x3 x4 (ix2 r j) := by
  unfold val_main_v57 val_main_v56 val_main_v53 val_main_v52 val_main_v51
  generalize val_main_v41 (F := Ideal) x0 x1 x2 x3 x4 = p
  generalize val_main_v14 (F := Ideal) x0 = a
  pointwise [val_main_cst_9, val_main_cst_10]
  rw [Fin.sum_univ_one]

theorem v48_at (j : Fin 5632) : val_main_v48 (F := Ideal) x0 x1 x2 x3 x4 (ix2 0 j)
    = ∑ r : Fin 8192, val_main_v21 (F := Ideal) x0 (ix2 r j) * val_main_v41 (F := Ideal) x0 x1 x2 x3 x4 (ix2 r j) := by
  unfold val_main_v48 val_main_v47 val_main_v44 val_main_v43 val_main_v42
  generalize val_main_v41 (F := Ideal) x0 x1 x2 x3 x4 = p
  generalize val_main_v21 (F := Ideal) x0 = a
  pointwise [val_main_cst_5, val_main_cst_6]
  rw [Fin.sum_univ_one]

/-- One of three rows, by their places. -/
theorem pick (k : Fin 3) (s q p : Fin 1 → EReal) :
    (((if h : 2 ≤ k.val ∧ k.val - 2 < 1 then s ⟨k.val - 2, h.2⟩ else 0) + if h : 1 ≤ k.val ∧ k.val - 1 < 1 then q ⟨k.val - 1, h.2⟩ else 0)
      + if h : k.val < 1 then p ⟨k.val, h⟩ else 0)
    = match k with
      | 0 => p 0
      | 1 => q 0
      | 2 => s 0 := by
  match k with
  | 0 => simp
  | 1 => simp
  | 2 => simp

/-- The taps' gradient, one row of it from each of the three sums. -/
theorem v73_at (k : Fin 3) (j : Fin 5632) : val_main_v73 (F := Ideal) x0 x1 x2 x3 x4 (ix2 k j)
    = match k with
      | 0 => val_main_v71 (F := Ideal) x0 x1 x2 x3 x4 (ix2 0 j)
      | 1 => val_main_v57 (F := Ideal) x0 x1 x2 x3 x4 (ix2 0 j)
      | 2 => val_main_v48 (F := Ideal) x0 x1 x2 x3 x4 (ix2 0 j) := by
  unfold val_main_v73 val_main_v72 val_main_v59 val_main_v58 val_main_v49
  generalize val_main_v71 (F := Ideal) x0 x1 x2 x3 x4 = p
  generalize val_main_v57 (F := Ideal) x0 x1 x2 x3 x4 = q
  generalize val_main_v48 (F := Ideal) x0 x1 x2 x3 x4 = s
  pointwise [val_main_cst_7, val_main_cst_11, val_main_cst_17]
  exact pick k (fun a => s (ix2 a j)) (fun a => q (ix2 a j)) (fun a => p (ix2 a j))

/-- The two forms of the gate's derivative, over the reals. -/
theorem gate_eq {a g s : EReal} (ha : IsR a) (hg : IsR g) (hs : IsR s) : a * s + g * a * (s * (1 - s)) = a * s * (1 + g * (1 - s)) := by
  rw [← ha, ← hg, ← hs, ← EReal.coe_one, ← EReal.coe_sub, ← EReal.coe_mul, ← EReal.coe_mul, ← EReal.coe_mul, ← EReal.coe_mul, ← EReal.coe_add,
    ← EReal.coe_mul, ← EReal.coe_add, ← EReal.coe_mul]
  exact congrArg _ (by ring)

theorem isR_sg {g : EReal} (hg : IsR g) : IsR (sg g) := by
  have h : (1 : ℝ) + Real.exp (-g.toReal) ≠ 0 := (by positivity : (0 : ℝ) < 1 + Real.exp (-g.toReal)).ne'
  unfold sg
  rw [← hg, ← EReal.coe_neg, Ideal.exp_coe, ← EReal.coe_one, ← EReal.coe_add, Ideal.div_coe h, ← EReal.coe_mul]
  exact isR_coe _

variable {x0 x1 x2 x3 x4}

theorem isR_at1 {a : ℕ} {x : (⟨1, ![a]⟩ : Shape).Idx → EReal} (h : ∀ i, IsR (x i)) (k : ℕ) : IsR (at1 x k) := by
  unfold at1
  split
  · exact h _
  · exact isR_coe 0

theorem isR_cv (h0 : ∀ i, IsR (x0 i)) (h1 : ∀ i, IsR (x1 i)) (h2 : ∀ i, IsR (x2 i)) (r j : ℕ) : IsR (cv x0 x1 x2 r j) := by
  refine (isR_at1 h2 _).add (((IsR.mul (isR_at2 h1 _ _) ?_).add (IsR.mul (isR_at2 h1 _ _) (isR_at2 h0 _ _))).add
    (IsR.mul (isR_at2 h1 _ _) (isR_at2 h0 _ _)))
  unfold before
  split
  · exact isR_coe 0
  · exact isR_at2 h0 _ _

theorem isR_dact (h3 : ∀ i, IsR (x3 i)) (h4 : ∀ i, IsR (x4 i)) (r j : ℕ) : IsR (dact x3 x4 r j) :=
  Cert.FfnUpBwdXIdeal.Point.IsR.sum fun _ => IsR.mul (isR_at2 h4 _ _) (isR_at2 h3 _ _)

variable (h0 : ∀ i, IsR (x0 i)) (h1 : ∀ i, IsR (x1 i)) (h2 : ∀ i, IsR (x2 i)) (h3 : ∀ i, IsR (x3 i)) (h4 : ∀ i, IsR (x4 i))
include h0 h1 h2 h3 h4

theorem v38_at (r : Fin 8192) (j : Fin 2816) : val_main_v38 (F := Ideal) x0 x1 x2 x3 x4 (ix2 r j) = dg x0 x1 x2 x3 x4 r.val j.val := by
  have e1 := v27_at x0 x1 x2
  have e2 := v30_2_at x0 x1 x2
  have e3 := v35_at x3 x4
  unfold val_main_v38 val_main_call1_v2 val_main_call1_v1 val_main_call1_v0 val_main_v37 val_main_v28 val_main_v29 val_main_v30_1
    val_main_call0_v7
  generalize val_main_v27 (F := Ideal) x0 x1 x2 = p at e1 ⊢
  generalize val_main_v30_2 (F := Ideal) x0 x1 x2 = q at e2 ⊢
  generalize val_main_v35 (F := Ideal) x3 x4 = s at e3 ⊢
  pointwise [val_main_call0_v6, val_main_call0_cst_1]
  rw [e1, e2, e3, e1]
  exact gate_eq ((isR_dact h3 h4 _ _).mul (isR_cv h0 h1 h2 _ _)) (isR_cv h0 h1 h2 _ _) (isR_sg (isR_cv h0 h1 h2 _ _))

theorem v41_lo (r : Fin 8192) (k : Fin 5632) (hk : k.val < 2816) :
    val_main_v41 (F := Ideal) x0 x1 x2 x3 x4 (ix2 r k) = dg x0 x1 x2 x3 x4 r.val k.val := by
  have eg := v38_at h0 h1 h2 h3 h4
  unfold val_main_v41 val_main_v40 val_main_v39
  generalize val_main_v36 (F := Ideal) x0 x1 x2 x3 x4 = p
  generalize val_main_v38 (F := Ideal) x0 x1 x2 x3 x4 = q at eg ⊢
  pointwise [val_main_cst_3, val_main_cst_4]
  refine (congrArg₂ (· + ·) (dif_neg (show ¬(2816 ≤ k.val ∧ k.val - 2816 < 2816) by omega)) (dif_pos hk)).trans ((zero_add _).trans ?_)
  exact eg r ⟨k.val, hk⟩

theorem v41_hi (r : Fin 8192) (k : Fin 5632) (hk : 2816 ≤ k.val) :
    val_main_v41 (F := Ideal) x0 x1 x2 x3 x4 (ix2 r k) = du x0 x1 x2 x3 x4 r.val (k.val - 2816) := by
  have eu := v36_at x0 x1 x2 x3 x4
  unfold val_main_v41 val_main_v40 val_main_v39
  generalize val_main_v36 (F := Ideal) x0 x1 x2 x3 x4 = p at eu ⊢
  generalize val_main_v38 (F := Ideal) x0 x1 x2 x3 x4 = q
  pointwise [val_main_cst_3, val_main_cst_4]
  refine (congrArg₂ (· + ·) (dif_pos (show 2816 ≤ k.val ∧ k.val - 2816 < 2816 by omega)) (dif_neg (show ¬k.val < 2816 by omega))).trans
    ((add_zero _).trans ?_)
  exact eu r ⟨k.val - 2816, by omega⟩

/-- The same, at a half's column. -/
theorem v41_of (r : Fin 8192) (z : Fin 2) (q : Fin 4) (f : Fin 704) (k : Fin 5632) (hk : k.val = z.val * 2816 + q.val * 704 + f.val) :
    val_main_v41 (F := Ideal) x0 x1 x2 x3 x4 (ix2 r k) = dz x0 x1 x2 x3 x4 z.val r.val (704 * q.val + f.val) := by
  have hz : z = 0 ∨ z = 1 := by omega
  rcases hz with rfl | rfl
  · have hk' : k.val = 0 * 2816 + q.val * 704 + f.val := hk
    refine (v41_lo h0 h1 h2 h3 h4 r k (by omega)).trans ?_
    rw [show k.val = 704 * q.val + f.val by omega]
    rfl
  · have hk' : k.val = 1 * 2816 + q.val * 704 + f.val := hk
    refine (v41_hi h0 h1 h2 h3 h4 r k (by omega)).trans ?_
    rw [show k.val - 2816 = 704 * q.val + f.val by omega]
    rfl

theorem v80_at (q : Fin 4) (z : Fin 2) (r : Fin 8192) (f : Fin 704) :
    val_main_v80 (F := Ideal) x0 x1 x2 x3 x4 (ix4 q z r f) = dz x0 x1 x2 x3 x4 z.val r.val (704 * q.val + f.val) := by
  have e := v41_of h0 h1 h2 h3 h4
  unfold val_main_v80 val_main_v79
  generalize val_main_v41 (F := Ideal) x0 x1 x2 x3 x4 = p at e ⊢
  pointwise
  exact e r z q f _ rfl

theorem v83_at (z : Fin 2) (q : Fin 4) (f : Fin 704) :
    val_main_v83 (F := Ideal) x0 x1 x2 x3 x4 (ix4 z q 0 f) = ∑ r : Fin 8192, dz x0 x1 x2 x3 x4 z.val r.val (704 * q.val + f.val) := by
  have e := v41_of h0 h1 h2 h3 h4
  unfold val_main_v83 val_main_v64 val_main_v63 val_main_v62
  generalize val_main_v41 (F := Ideal) x0 x1 x2 x3 x4 = p at e ⊢
  pointwise [val_main_cst_13, val_main_cst_14]
  rw [Fin.sum_univ_one]
  exact Finset.sum_congr rfl fun r _ => e r z q f _ rfl

theorem v82_at (z : Fin 2) (q : Fin 4) (k : Fin 3) (f : Fin 704) :
    val_main_v82 (F := Ideal) x0 x1 x2 x3 x4 (ix4 z q k f)
      = ∑ r : Fin 8192, dz x0 x1 x2 x3 x4 z.val r.val (704 * q.val + f.val) * tap x0 k.val r.val (2816 * z.val + 704 * q.val + f.val) := by
  have e := v73_at x0 x1 x2 x3 x4
  unfold val_main_v82 val_main_v81
  generalize val_main_v73 (F := Ideal) x0 x1 x2 x3 x4 = p at e ⊢
  pointwise
  have hc : 2816 * z.val + 704 * q.val + f.val = z.val * 2816 + q.val * 704 + f.val := by omega
  rw [hc, e]
  clear e
  match k with
  | 0 => exact (v71_at x0 x1 x2 x3 x4 _).trans (Finset.sum_congr rfl fun r _ =>
      (congrArg₂ (· * ·) (v5_at x0 r _) (v41_of h0 h1 h2 h3 h4 r z q f _ rfl)).trans (mul_comm _ _))
  | 1 => exact (v57_at x0 x1 x2 x3 x4 _).trans (Finset.sum_congr rfl fun r _ =>
      (congrArg₂ (· * ·) (v14_at x0 r _) (v41_of h0 h1 h2 h3 h4 r z q f _ rfl)).trans (mul_comm _ _))
  | 2 => exact (v48_at x0 x1 x2 x3 x4 _).trans (Finset.sum_congr rfl fun r _ =>
      (congrArg₂ (· * ·) (v21_at x0 r _) (v41_of h0 h1 h2 h3 h4 r z q f _ rfl)).trans (mul_comm _ _))

omit h0 h1 h2 h3 h4

theorem v34_at (j : Fin 2816) (d : Fin 1024) : val_main_v34 (F := Ideal) x0 x1 x2 x4 (ix2 j d)
    = ∑ r : Fin 8192, act x0 x1 x2 r.val j.val * at2 x4 r.val d.val := by
  have h := v31_at x0 x1 x2
  unfold val_main_v34 val_main_v33
  generalize val_main_v31 (F := Ideal) x0 x1 x2 = p at h ⊢
  pointwise
  exact Finset.sum_congr rfl fun r _ => by rw [h, at2_val x4 r d, mul_comm]

end Cert.FfnDownBwdIdeal.Point

end
-- ==== Proof.Finite.lean ====
/-
  What a precondition's test says of an element: it is a real.
-/
module

public import Idealize.ShloMosaic.Lib.Pipeline.ValueKit
public import Idealize.ShloMosaic.Lib.ReduceAll

@[expose] public section

noncomputable section

namespace Finite

open Idealize.ShloMosaic

/-- An extended real less than infinity in absolute value is a real. -/
theorem real_of_lt {x : EReal} (h : Ideal.cmp .olt (max x (-x)) (Ideal.ofBits .f32 0x7F800000#32) = 1#1) : ((x.toReal : ℝ) : EReal) = x := by
  have e : Ideal.ofBits .f32 0x7F800000#32 = (⊤ : EReal) := by simp [Ideal.ofBits, Ideal.ieee, -EReal.coe_mul]
  rw [e] at h
  have hl : max x (-x) < ⊤ := by
    by_contra hn
    simp [Ideal.cmp, hn] at h
  induction x with
  | bot => simp at hl
  | top => simp at hl
  | coe r => rfl

/-- The test of a whole array: every element is a real. -/
theorem real_of_all {s : Shape} {axes : List (Fin s.rank)} (x : Vec Ideal s .f32) (b : Vec Ideal s .f32) (init : IVec ⟨0, ![]⟩ 1)
    (hr : s.ReducesTo axes ⟨0, ![]⟩) (hu) (hb : b = fun _ => Ideal.ofBits .f32 0x7F800000#32)
    (j : (⟨0, ![]⟩ : Shape).Idx)
    (h : Host.reduce IntOp.andi (cmpf (F := Ideal) (φ := .f32) .olt (Host.absf (F := Ideal) (φ := .f32) x) b) init hr hu j = 1#1) (i : s.Idx) :
    (((x i : EReal).toReal : ℝ) : EReal) = x i := by
  haveI : Subsingleton (⟨0, ![]⟩ : Shape).Idx := ⟨fun a b => funext fun c => c.elim0⟩
  subst hb
  exact real_of_lt (Host.reduce_andi_all _ _ hr hu j h i)

end Finite

end
-- ==== Proof.DownTie.lean ====
/-
  The four results of the kernel, each set beside the reference's.
-/
module

public import proofs.«01_k».proof.Proof.DownRef
public import proofs.«01_k».proof.Proof.Finite
public import proofs.«01_k».proof.Proof.Gen.Pre_down_finite

@[expose] public section

set_option maxRecDepth 16384

noncomputable section

namespace Cert.FfnDownBwdIdeal.Point

open Cert.FfnDownBwdIdeal Cert.FfnDownBwdIdeal.Gen Cert.FfnDownBwdIdeal.Value Cert.Common
open Cert.FfnUpBwdXIdeal.Point (at2 at2_val at2_mk IsR)
open Cert.FfnDownGradIdeal.Read (val_main_v80 val_main_v34 val_main_v82 val_main_v83)
open Idealize.ShloMosaic Idealize.ShloMosaic.TcCoe Idealize.SL.Sem

variable (m : (ℓ : Loc nD τ sig) → Buf (Elt Ideal) ℓ)

theorem index_out : ∀ t : Fin grid0.N, win0_7.index t = ![t.val / 8, 0, t.val % 8, 0]
    ∧ win0_8.index t = ![t.val / 8, 0]
    ∧ win0_9.index t = ![0, t.val / 8, 0, 0]
    ∧ win0_10.index t = ![0, t.val / 8, 0, 0] := by decide +kernel

/-- The accumulators leave at the last row block. -/
theorem last_of : ∀ t : Fin grid0.N, ((cfg0.win 8).flush t = true → t.val % 8 = 7) ∧ ((cfg0.win 9).flush t = true → t.val % 8 = 7)
    ∧ ((cfg0.win 10).flush t = true → t.val % 8 = 7) := by decide +kernel

def G7 (c : Dev nD) : Vec Ideal S4x2x8192x704 .f32 := fun i =>
  dz (b0 m c) (b1 m c) (b2 m c) (b3 m c) (b4 m c) (i 1).val (i 2).val (704 * (i 0).val + (i 3).val)

def G8 (c : Dev nD) : Vec Ideal S2816x1024 .f32 := fun i =>
  ∑ r : Fin 8192, act (b0 m c) (b1 m c) (b2 m c) r.val (i 0).val * at2 (b4 m c) r.val (i 1).val

def G9 (c : Dev nD) : Vec Ideal S2x4x3x704 .f32 := fun i =>
  ∑ r : Fin 8192, dz (b0 m c) (b1 m c) (b2 m c) (b3 m c) (b4 m c) (i 0).val r.val (704 * (i 1).val + (i 3).val)
    * tap (b0 m c) (i 2).val r.val (2816 * (i 0).val + 704 * (i 1).val + (i 3).val)

def G10 (c : Dev nD) : Vec Ideal S2x4x1x704 .f32 := fun i =>
  ∑ r : Fin 8192, dz (b0 m c) (b1 m c) (b2 m c) (b3 m c) (b4 m c) (i 0).val r.val (704 * (i 1).val + (i 3).val)

theorem arr7 (c : Dev nD) : (dats m 0 c).arrAt 7 cfg0.N = G7 m c := by
  refine (dats m 0 c).arrAt_eq_of_covers 7 _ (by decide +kernel) fun t hf y => ?_
  have e := (index_out t).1
  have ht : t.val < 32 := t.isLt
  blk_simp
  rw [after0_7, out7]
  revert y
  show ∀ y : S1x2x1024x704.Idx, both m c t y = G7 m c ((win0_7.blk t).view.emb y)
  intro i
  idx_vars i
  obtain rfl : i0 = 0 := Subsingleton.elim _ _
  rw [both_at]
  have hy : (win0_7.blk t).view.emb (ix4 0 i1 i2 i3 : S1x2x1024x704.Idx)
      = (ix4 ⟨t.val / 8, by omega⟩ i1 ⟨1024 * (t.val % 8) + i2.val, by omega⟩ i3 : S4x2x8192x704.Idx) := by
    blk_ext [e]
  rw [hy]
  rfl

theorem arr8 (c : Dev nD) : (dats m 0 c).arrAt 8 cfg0.N = G8 m c := by
  refine (dats m 0 c).arrAt_eq_of_covers 8 _ (by decide +kernel) fun t hf y => ?_
  have h7 := (last_of t).1 hf
  have e := (index_out t).2.1
  have ht : t.val < 32 := t.isLt
  blk_simp
  rw [after0_8]
  revert y
  show ∀ y : S704x1024.Idx, (outsAt0 m c t.val t.isLt).2.1 y = G8 m c ((win0_8.blk t).view.emb y)
  intro i
  idx_vars i
  rw [w_at_end, h7]
  refine (whole (fun r => act (b0 m c) (b1 m c) (b2 m c) r (704 * (t.val / 8) + i0.val) * at2 (b4 m c) r i1.val)).trans ?_
  have hy : (win0_8.blk t).view.emb (ix2 i0 i1 : S704x1024.Idx) = (ix2 ⟨704 * (t.val / 8) + i0.val, by omega⟩ i1 : S2816x1024.Idx) := by
    blk_ext [e]
  rw [hy]
  rfl

theorem arr9 (c : Dev nD) : (dats m 0 c).arrAt 9 cfg0.N = G9 m c := by
  refine (dats m 0 c).arrAt_eq_of_covers 9 _ (by decide +kernel) fun t hf y => ?_
  have h7 := (last_of t).2.1 hf
  have e := (index_out t).2.2.1
  have ht : t.val < 32 := t.isLt
  blk_simp
  rw [after0_9]
  revert y
  show ∀ y : S2x1x3x704.Idx, (outsAt0 m c t.val t.isLt).2.2.1 y = G9 m c ((win0_9.blk t).view.emb y)
  intro i
  idx_vars i
  obtain rfl : i1 = 0 := Subsingleton.elim _ _
  rw [c_at_end, h7]
  refine (whole (fun r => dz (b0 m c) (b1 m c) (b2 m c) (b3 m c) (b4 m c) i0.val r (704 * (t.val / 8) + i3.val)
    * tap (b0 m c) i2.val r (2816 * i0.val + 704 * (t.val / 8) + i3.val))).trans ?_
  have hy : (win0_9.blk t).view.emb (ix4 i0 0 i2 i3 : S2x1x3x704.Idx) = (ix4 i0 ⟨t.val / 8, by omega⟩ i2 i3 : S2x4x3x704.Idx) := by
    blk_ext [e]
  rw [hy]
  rfl

theorem arr10 (c : Dev nD) : (dats m 0 c).arrAt 10 cfg0.N = G10 m c := by
  refine (dats m 0 c).arrAt_eq_of_covers 10 _ (by decide +kernel) fun t hf y => ?_
  have h7 := (last_of t).2.2 hf
  have e := (index_out t).2.2.2
  have ht : t.val < 32 := t.isLt
  blk_simp
  rw [after0_10]
  revert y
  show ∀ y : S2x1x1x704.Idx, (outsAt0 m c t.val t.isLt).2.2.2 y = G10 m c ((win0_10.blk t).view.emb y)
  intro i
  idx_vars i
  obtain rfl : i1 = 0 := Subsingleton.elim _ _
  obtain rfl : i2 = 0 := Subsingleton.elim _ _
  rw [b_at_end, h7]
  refine (whole (fun r => dz (b0 m c) (b1 m c) (b2 m c) (b3 m c) (b4 m c) i0.val r (704 * (t.val / 8) + i3.val))).trans ?_
  have hy : (win0_10.blk t).view.emb (ix4 i0 0 0 i3 : S2x1x1x704.Idx) = (ix4 i0 ⟨t.val / 8, by omega⟩ 0 i3 : S2x4x1x704.Idx) := by
    blk_ext [e]
  rw [hy]
  rfl

theorem result7 (c : Dev nD) (h0 : ∀ i, IsR (b0 m c i)) (h1 : ∀ i, IsR (b1 m c i)) (h2 : ∀ i, IsR (b2 m c i))
    (h3 : ∀ i, IsR (b3 m c i)) (h4 : ∀ i, IsR (b4 m c i)) :
    G7 m c = val_main_v80 (F := Ideal) (b0 m c) (b1 m c) (b2 m c) (b3 m c) (b4 m c) := by
  funext i
  idx_vars i
  exact (v80_at h0 h1 h2 h3 h4 i0 i1 i2 i3).symm

theorem result8 (c : Dev nD) : G8 m c = val_main_v34 (F := Ideal) (b0 m c) (b1 m c) (b2 m c) (b4 m c) := by
  funext i
  idx_vars i
  exact (v34_at i0 i1).symm

theorem result9 (c : Dev nD) (h0 : ∀ i, IsR (b0 m c i)) (h1 : ∀ i, IsR (b1 m c i)) (h2 : ∀ i, IsR (b2 m c i))
    (h3 : ∀ i, IsR (b3 m c i)) (h4 : ∀ i, IsR (b4 m c i)) :
    G9 m c = val_main_v82 (F := Ideal) (b0 m c) (b1 m c) (b2 m c) (b3 m c) (b4 m c) := by
  funext i
  idx_vars i
  exact (v82_at h0 h1 h2 h3 h4 i0 i1 i2 i3).symm

theorem result10 (c : Dev nD) (h0 : ∀ i, IsR (b0 m c i)) (h1 : ∀ i, IsR (b1 m c i)) (h2 : ∀ i, IsR (b2 m c i))
    (h3 : ∀ i, IsR (b3 m c i)) (h4 : ∀ i, IsR (b4 m c i)) :
    G10 m c = val_main_v83 (F := Ideal) (b0 m c) (b1 m c) (b2 m c) (b3 m c) (b4 m c) := by
  funext i
  idx_vars i
  obtain rfl : i2 = 0 := Subsingleton.elim _ _
  exact (v83_at h0 h1 h2 h3 h4 i0 i1 i3).symm

/-- The kernel's run, with its results as sums over the whole arrays. -/
theorem run (ρ : Dev nD → PrngReg) : θ_run defs (onTc (τ := τ) (main (F := Ideal))) ⟨m, fun _ => 0, ρ⟩ fun r => ∀ c : Dev nD,
      r.2.mem ((c : Thread nD τ).loc main_v6_0) = G7 m c
      ∧ r.2.mem ((c : Thread nD τ).loc main_v6_1) = G8 m c
      ∧ r.2.mem ((c : Thread nD τ).loc main_v6_2) = G9 m c
      ∧ r.2.mem ((c : Thread nD τ).loc main_v6_3) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.FfnDownBwdIdeal.Value.run_blocks (F := Ideal) m ρ)
  obtain ⟨q7, q8, q9, q10, q⟩ := h c
  exact ⟨q7.trans (arr7 m c), q8.trans (arr8 m c), q9.trans (arr9 m c), q10.trans (arr10 m c), q⟩

section Pre
variable [Cert.Pre_down_finite.Facts]

/-- The precondition says that every element it tests is a real. -/
theorem finite_of (x0 : Vec Ideal S8192x5632 .f32) (x1 : Vec Ideal S3x5632 .f32) (x2 : Vec Ideal S5632 .f32)
    (x3 : Vec Ideal S2816x1024 .f32) (x4 : Vec Ideal S8192x1024 .f32)
    (h : Cert.Pre_down_finite.fn (F := Ideal) x0 x1 x2 x3 x4 = fun _ => 1#1) :
    (∀ i, IsR (x0 i)) ∧ (∀ i, IsR (x1 i)) ∧ (∀ i, IsR (x2 i)) ∧ (∀ i, IsR (x3 i)) ∧ ∀ i, IsR (x4 i) := by
  have h' := congrFun h (fun a => a.elim0)
  unfold Cert.Pre_down_finite.fn Cert.Pre_down_finite.fn_part1 at h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  exact ⟨Finite.real_of_all _ _ _ _ _ rfl _ h0, Finite.real_of_all _ _ _ _ _ rfl _ h1, Finite.real_of_all _ _ _ _ _ rfl _ h2,
    Finite.real_of_all _ _ _ _ _ rfl _ h3, Finite.real_of_all _ _ _ _ _ rfl _ h4⟩

end Pre

end Cert.FfnDownBwdIdeal.Point

end
-- ==== Proof.UpW.lean ====
/-
  The gradient of the FFN's up weight: the kernel's four row tiles of each of the eight column blocks add up to the
  reference's one product over all 8192 rows. Sums are re-blocked and products commuted; nothing need be finite.
-/
module

public import proofs.«01_k».proof.Proof.Common
public import proofs.«01_k».proof.Proof.Gen.FfnUpBwdWIdeal.Value
public import proofs.«01_k».proof.Proof.Gen.FfnUpGradWIdeal.Read

@[expose] public section

set_option maxRecDepth 16384

noncomputable section

namespace Cert.FfnUpBwdWIdeal.Sum

open Cert.FfnUpBwdWIdeal Cert.FfnUpBwdWIdeal.Gen Cert.FfnUpBwdWIdeal.Value Cert.Common
open Idealize.ShloMosaic Idealize.ShloMosaic.TcCoe Idealize.SL.Sem

/-- The mean square of a row, plus epsilon. -/
abbrev msq {n : ℕ} (x : Vec Ideal ⟨2, ![n, 1024]⟩ .f32) (r : Fin n) : EReal :=
  (∑ k : Fin 1024, x (ix2 r k) * x (ix2 r k)) * Ideal.ofBits .f32 0x3A800000#32 + Ideal.ofBits .f32 0x358637BD#32

/-- One tile's term: the normalised rows, transposed, times the gradient's rows. -/
def term (x : Vec Ideal S2048x1024 .f32) (g : Vec Ideal S1x1024 .f32) (d : Vec Ideal S1x2048x704 .bf16)
    (i : S1x1024x704.Idx) : EReal :=
  ∑ k : Fin 2048, x (ix2 k (i 1)) * Ideal.rsqrt (msq x k) * g (ix2 0 (i 1)) * d (ix3 0 k (i 2))

theorem pay2 (acc : Vec Ideal S1x1024x704 .f32) (x : Vec Ideal S2048x1024 .f32) (g : Vec Ideal S1x1024 .f32)
    (d : Vec Ideal S1x2048x704 .bf16) (i : S1x1024x704.Idx) :
    k0_pay2 acc x g d i = acc i + term x g d i := by
  idx_vars i
  obtain rfl : i0 = 0 := Subsingleton.elim _ _
  pointwise [k0_pay2, term, msq]

theorem pay1 (i : S1x1024x704.Idx) : k0_pay1 (F := Ideal) i = 0 := by
  idx_vars i
  pointwise [k0_pay1]

variable (m : (ℓ : Loc nD τ sig) → Buf (Elt Ideal) ℓ)

theorem index : ∀ t : Fin grid0.N, win0_0.index t = ![t.val % 4, 0] ∧ win0_1.index t = ![0, 0]
    ∧ win0_2.index t = ![t.val / 4, t.val % 4, 0] := by decide +kernel

/-- What the kernel leaves at an index of the result is what the reference computes there. -/
theorem result (c : Dev nD) (i : S8x1024x704.Idx) :
    G3 m c i = Cert.FfnUpGradWIdeal.Read.val_main_v18 (F := Ideal) (m ((c : Thread nD τ).loc main_arg0))
      (m ((c : Thread nD τ).loc main_arg1)) (m ((c : Thread nD τ).loc main_arg2)) i := by
  idx_vars i
  have hN : cfg0.N = 32 := N_0
  have hq : run3Of (ix3 i0 i1 i2 : S8x1024x704.Idx) = i0.val := by
    show 1 * (i0.val / 1 - 0) + 1 * (i1.val / 1024 - 0) + 1 * (i2.val / 704 - 0) = i0.val
    omega
  unfold G3
  rw [dif_pos (by rw [hq]; omega),
    accAt_sum (reset3 m c) (step3 m c) (fun t => term (iblk m c 0 t) (iblk m c 1 t) (iblk m c 2 t)) _ 3 _ _
      (fun hb i => by unfold reset3; rw [pay2, pay1, zero_add]) (fun n hn acc i _ => by unfold step3; rw [pay2]),
    ← Cert.FfnUpGradWIdeal.Read.val_main_v18_eq]
  unfold term
  pointwise [msq]
  refine Fin.sum_mul_add_congr (S := 4) (n := 2048) fun s k hl => ?_
  rw [div_1024, mul_comm]
  obtain ⟨e0, e1, e2⟩ := index ⟨4 * run3Of (ix3 i0 i1 i2 : S8x1024x704.Idx) + s.val, by rw [hq]; have := i0.isLt; have := s.isLt; show _ < cfg0.N; omega⟩
  simp only [hq] at e0 e1 e2
  blk_point [iblk, V, e0, e1, e2, hq]
  all_goals exact Nat.mod_eq_of_lt i1.isLt

end Cert.FfnUpBwdWIdeal.Sum

end
-- ==== Proof.InPoint.lean ====
/-
  What the kernel of the input projection's backward pass leaves in its buffers at each grid point, and what the blocks
  it reads hold of the arguments.
-/
module

public import proofs.«01_k».proof.Proof.UpX
public import proofs.«01_k».proof.Proof.Gen.InProjBwdIdeal.Value
public import Idealize.ShloMosaic.Lib.Pipeline.ReadBack

@[expose] public section

set_option maxRecDepth 16384

noncomputable section

namespace Cert.InProjBwdIdeal.Point

open Cert.InProjBwdIdeal Cert.InProjBwdIdeal.Gen Cert.InProjBwdIdeal.Value
open Cert.FfnUpBwdXIdeal.Point (at2 at2_val at2_mk rs back)
open Idealize.ShloMosaic Idealize.ShloMosaic.TcCoe Idealize.ShloMosaic.Tactic Idealize.SL.Sem

section Points
variable {F : FTy → Type} [FloatOps F]
variable (m : (ℓ : Loc nD τ sig) → Buf (Elt F) ℓ)

/-- The gradient's rows by the projection, the four pieces side by side. -/
def dpT (c : Dev nD) (t : Fin cfg0.N) : FVec F S512x1536 .f32 := k0_pay8 (iblk m c 4 t) (iblk m c 5 t) (iblk m c 6 t) (iblk m c 7 t)

/-- The weight's gradient after point `t`, over what the buffer held. -/
def stepW (c : Dev nD) (t : Fin cfg0.N) (acc : Vec F S1024x1536 .f32) : FVec F S1024x1536 .f32 :=
  k0_pay9 (iblk m c 0 t) (iblk m c 1 t) (iblk m c 4 t) (iblk m c 5 t) (iblk m c 6 t) (iblk m c 7 t) acc

/-- What the point before left. -/
abbrev prev (c : Dev nD) (t : Fin cfg0.N) := outsAt0 m c (t.val - 1) (Nat.lt_of_le_of_lt (Nat.sub_le _ _) t.isLt)

theorem x_out (c : Dev nD) (t : Fin cfg0.N) :
    (outsAt0 m c t.val t.isLt).1 = k0_pay3 (iblk m c 0 t) (k0_pay7 (iblk m c 1 t)) (dpT m c t) (iblk m c 2 t) (iblk m c 3 t) := by
  by_cases h0 : t.val % 16 = 0
  · rw [outsAt0_A m c t h0]
    frame_out
    rfl
  · rw [outsAt0_B m c t h0]
    frame_out
    rfl

theorem w_first (c : Dev nD) (t : Fin cfg0.N) (h0 : t.val % 16 = 0) : (outsAt0 m c t.val t.isLt).2.1 = stepW m c t (k0_pay5 (F := F)) := by
  rw [outsAt0_A m c t h0]
  frame_out
  rfl

theorem w_next (c : Dev nD) (t : Fin cfg0.N) (h0 : ¬t.val % 16 = 0) : (outsAt0 m c t.val t.isLt).2.1 = stepW m c t (prev m c t).2.1 := by
  rw [outsAt0_B m c t h0]
  frame_out
  rfl

theorem g_first (c : Dev nD) (t : Fin cfg0.N) (h0 : t.val % 16 = 0) :
    (outsAt0 m c t.val t.isLt).2.2 = k0_pay4 (iblk m c 0 t) (dpT m c t) (iblk m c 2 t) (k0_pay6 (F := F)) := by
  rw [outsAt0_A m c t h0]
  frame_out
  rfl

theorem g_next (c : Dev nD) (t : Fin cfg0.N) (h0 : ¬t.val % 16 = 0) :
    (outsAt0 m c t.val t.isLt).2.2 = k0_pay4 (iblk m c 0 t) (dpT m c t) (iblk m c 2 t) (prev m c t).2.2 := by
  rw [outsAt0_B m c t h0]
  frame_out
  rfl

end Points

section Maths
variable (x : Vec Ideal S8192x1024 .f32) (g : Vec Ideal S1024 .f32) (w : Vec Ideal S1024x1440 .f32)
  (a b y : Vec Ideal S8192x512 .f32) (p : Vec Ideal S8192x416 .f32)

/-- The gradient by the projection. -/
def dp (r k : ℕ) : EReal :=
  if k < 512 then at2 a r k + at2 b r k else if k < 1024 then at2 y r (k - 512) else at2 p r (k - 1024)

/-- The gradient by the normalised rows. -/
def dh (r e : ℕ) : EReal := ∑ k : Fin 1440, dp a b y p r k.val * at2 w e k.val

/-- A row of the argument, and its normalisation. -/
def xrow (r : ℕ) (k : Fin 1024) : EReal := at2 x r k.val
def nrm (r : ℕ) (e : Fin 1024) : EReal := at2 x r e.val * rs (xrow x r) * g (ix1 e)

/-- Past the projection's columns the weight is zero. -/
theorem dh_wide (r e : ℕ) (W : Fin 1536 → EReal) (h : ∀ k, W k = at2 w e k.val) :
    ∑ k : Fin 1536, dp a b y p r k.val * W k = dh w a b y p r e := by
  unfold dh
  simp only [h]
  rw [← Finset.sum_range (fun k => dp a b y p r k * at2 w e k), ← Finset.sum_range (fun k => dp a b y p r k * at2 w e k)]
  refine (Finset.sum_subset (Finset.range_mono (by norm_num)) fun k _ hk => ?_).symm
  rw [Finset.mem_range] at hk
  rw [at2, dif_neg (by omega), mul_zero]

end Maths

section Pays
variable (x : Vec Ideal S512x1024 .f32) (g : FVec Ideal S1x1024 .f32) (d : FVec Ideal S512x1536 .f32) (w : Vec Ideal S1024x1536 .bf16)

theorem pay1_at (r : Fin 512) (e : Fin 1024) : k0_pay1 d w (ix2 r e) = ∑ k : Fin 1536, d (ix2 r k) * w (ix2 e k) := by
  pointwise [k0_pay1]

theorem pay3_at (y : Vec Ideal S512x1024 .f32) (r : Fin 512) (e : Fin 1024) : k0_pay3 x g d w y (ix2 r e)
    = back (fun k => x (ix2 r k)) (fun k => g (ix2 0 k)) (fun k => k0_pay1 d w (ix2 r k)) (y (ix2 r e)) e := by
  unfold k0_pay3
  generalize k0_pay1 d w = q
  pointwise [k0_pay2, back, rs]

theorem pay4_at (acc : Vec Ideal S1x1024 .f32) (e : Fin 1024) : k0_pay4 x d w acc (ix2 0 e)
    = acc (ix2 0 e) + ∑ r : Fin 512, k0_pay1 d w (ix2 r e) * x (ix2 r e) * rs (fun k => x (ix2 r k)) := by
  unfold k0_pay4
  generalize k0_pay1 d w = q
  pointwise [k0_pay2, rs]

theorem pay7_at (v : Vec Ideal S1x1024 .f32) (e : Fin 1024) : k0_pay7 v (ix2 0 e) = v (ix2 0 e) := by
  pointwise [k0_pay7]

theorem pay9_at (v : Vec Ideal S1x1024 .f32) (a b c q : Vec Ideal S512x512 .f32) (acc : Vec Ideal S1024x1536 .f32) (e : Fin 1024) (k : Fin 1536) :
    k0_pay9 x v a b c q acc (ix2 e k)
      = acc (ix2 e k) + ∑ r : Fin 512, x (ix2 r e) * rs (fun k => x (ix2 r k)) * v (ix2 0 e) * k0_pay8 a b c q (ix2 r k) := by
  unfold k0_pay9
  generalize k0_pay8 a b c q = z
  pointwise [k0_pay7, rs]

theorem pay5_zero (i : S1024x1536.Idx) : k0_pay5 (F := Ideal) i = 0 := by
  idx_vars i; pointwise [k0_pay5]
theorem pay6_zero (i : S1x1024.Idx) : k0_pay6 (F := Ideal) i = 0 := by
  idx_vars i; pointwise [k0_pay6]

theorem pay8_at (a b c q : Vec Ideal S512x512 .f32) (r : Fin 512) (k : Fin 1536) : k0_pay8 a b c q (ix2 r k)
    = if k.val < 512 then at2 a r.val k.val + at2 b r.val k.val else if k.val < 1024 then at2 c r.val (k.val - 512) else at2 q r.val (k.val - 1024) := by
  pointwise [k0_pay8]
  have hr := r.isLt
  have hk := k.isLt
  by_cases h1 : k.val < 512
  · rw [dif_pos h1, if_pos h1, at2_mk _ _ _ hr h1, at2_mk _ _ _ hr h1]
  · rw [dif_neg h1, if_neg h1]
    by_cases h2 : k.val < 1024
    · rw [dif_pos (by omega), if_pos h2, at2_mk _ _ _ hr (by omega)]
    · rw [dif_neg (by omega), if_neg h2, at2_mk _ _ _ hr (by omega)]
      exact congrArg (fun z => q (ix2 r z)) (Fin.ext (show k.val - 512 - 512 = k.val - 1024 by omega))

end Pays

variable (m : (ℓ : Loc nD τ sig) → Buf (Elt Ideal) ℓ)

theorem index : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] := by decide +kernel

abbrev b0 (c : Dev nD) : Vec Ideal S8192x1024 .f32 := m ((c : Thread nD τ).loc main_arg0)
abbrev b1 (c : Dev nD) : Vec Ideal S1024 .f32 := m ((c : Thread nD τ).loc main_arg1)
abbrev b2 (c : Dev nD) : Vec Ideal S1024x1440 .f32 := m ((c : Thread nD τ).loc main_arg2)
abbrev b3 (c : Dev nD) : Vec Ideal S8192x1024 .f32 := m ((c : Thread nD τ).loc main_arg3)
abbrev b4 (c : Dev nD) : Vec Ideal S8192x512 .f32 := m ((c : Thread nD τ).loc main_arg4)
abbrev b5 (c : Dev nD) : Vec Ideal S8192x512 .f32 := m ((c : Thread nD τ).loc main_arg5)
abbrev b6 (c : Dev nD) : Vec Ideal S8192x512 .f32 := m ((c : Thread nD τ).loc main_arg6)
abbrev b7 (c : Dev nD) : Vec Ideal S8192x416 .f32 := m ((c : Thread nD τ).loc main_arg7)

theorem V2 (c : Dev nD) (r : Fin 1024) (k : Fin 1536) : V m c main_v2 (ix2 r k) = at2 (b2 m c) r.val k.val := by
  entry_read
  pointwise
  have hr := r.isLt
  by_cases h : k.val < 1440
  · rw [dif_pos h, at2_mk _ _ _ hr h]
  · rw [dif_neg h, at2, dif_neg (by omega)]

theorem V4 (c : Dev nD) (r : Fin 8192) (k : Fin 512) : V m c main_v4 (ix2 r k) = at2 (b7 m c) r.val k.val := by
  entry_read
  pointwise
  have hr := r.isLt
  by_cases h : k.val < 416
  · rw [dif_pos h, at2_mk _ _ _ hr h]
  · rw [dif_neg h, at2, dif_neg (by omega)]

theorem V5 (c : Dev nD) (k : Fin 1024) : V m c main_v5 (ix2 0 k) = b1 m c (ix1 k) := by
  entry_read
  pointwise

section Blocks
variable (c : Dev nD) (t : Fin grid0.N) (r : Fin 512)

/-- The row of the whole array that row `r` of point `t`'s tile is. -/
abbrev row : ℕ := 512 * t.val + r.val

theorem x_at (e : Fin 1024) : iblk m c 0 t (ix2 r e) = at2 (b0 m c) (row t r) e.val := by
  have ht : t.val < 16 := t.isLt
  have hi := (index t).1
  refine (show _ = V m c main_arg0 (ix2 ⟨512 * t.val + r.val, by omega⟩ e) by blk_ext [iblk, hi]).trans ?_
  rw [at2_mk _ _ _ (by unfold row; omega) e.isLt]
  rfl

theorem g_at (e : Fin 1024) : iblk m c 1 t (ix2 0 e) = b1 m c (ix1 e) := by
  have hi := (index t).2.1
  refine (show _ = V m c main_v5 (ix2 0 e) by blk_ext [iblk, hi]).trans ?_
  rw [V5]

theorem w_at (e : Fin 1024) (k : Fin 1536) : iblk m c 2 t (ix2 e k) = at2 (b2 m c) e.val k.val := by
  have hi := (index t).2.2.1
  refine (show _ = V m c main_v2 (ix2 e k) by blk_ext [iblk, hi]).trans ?_
  rw [V2]

theorem y_at (e : Fin 1024) : iblk m c 3 t (ix2 r e) = at2 (b3 m c) (row t r) e.val := by
  have ht : t.val < 16 := t.isLt
  have hi := (index t).2.2.2.1
  refine (show _ = V m c main_arg3 (ix2 ⟨512 * t.val + r.val, by omega⟩ e) by blk_ext [iblk, hi]).trans ?_
  rw [at2_mk _ _ _ (by unfold row; omega) e.isLt]
  rfl

theorem a_at (k : Fin 512) : iblk m c 4 t (ix2 r k) = at2 (b4 m c) (row t r) k.val := by
  have ht : t.val < 16 := t.isLt
  have hi := (index t).2.2.2.2.1
  refine (show _ = V m c main_arg4 (ix2 ⟨512 * t.val + r.val, by omega⟩ k) by blk_ext [iblk, hi]).trans ?_
  rw [at2_mk _ _ _ (by unfold row; omega) k.isLt]
  rfl

theorem b_at (k : Fin 512) : iblk m c 5 t (ix2 r k) = at2 (b5 m c) (row t r) k.val := by
  have ht : t.val < 16 := t.isLt
  have hi := (index t).2.2.2.2.2.1
  refine (show _ = V m c main_arg5 (ix2 ⟨512 * t.val + r.val, by omega⟩ k) by blk_ext [iblk, hi]).trans ?_
  rw [at2_mk _ _ _ (by unfold row; omega) k.isLt]
  rfl

theorem c_at (k : Fin 512) : iblk m c 6 t (ix2 r k) = at2 (b6 m c) (row t r) k.val := by
  have ht : t.val < 16 := t.isLt
  have hi := (index t).2.2.2.2.2.2.1
  refine (show _ = V m c main_arg6 (ix2 ⟨512 * t.val + r.val, by omega⟩ k) by blk_ext [iblk, hi]).trans ?_
  rw [at2_mk _ _ _ (by unfold row; omega) k.isLt]
  rfl

theorem p_at (k : Fin 512) : iblk m c 7 t (ix2 r k) = at2 (b7 m c) (row t r) k.val := by
  have ht : t.val < 16 := t.isLt
  have hi := (index t).2.2.2.2.2.2.2
  refine (show _ = V m c main_v4 (ix2 ⟨512 * t.val + r.val, by omega⟩ k) by blk_ext [iblk, hi]).trans ?_
  rw [V4]

theorem dpT_at (k : Fin 1536) : dpT m c t (ix2 r k) = dp (b4 m c) (b5 m c) (b6 m c) (b7 m c) (row t r) k.val := by
  unfold dpT dp
  rw [pay8_at]
  have hk := k.isLt
  split
  · rename_i h
    rw [at2_mk _ _ _ r.isLt h, at2_mk _ _ _ r.isLt h]
    exact congrArg₂ (· + ·) (a_at m c t r ⟨k.val, h⟩) (b_at m c t r ⟨k.val, h⟩)
  · split
    · rw [at2_mk _ _ _ r.isLt (by omega)]
      exact c_at m c t r ⟨k.val - 512, by omega⟩
    · rw [at2_mk _ _ _ r.isLt (by omega)]
      exact p_at m c t r ⟨k.val - 1024, by omega⟩

end Blocks

end Cert.InProjBwdIdeal.Point

end
-- ==== Proof.InRef.lean ====
/-
  What the reference of the gradients by the first norm and the input projection computes, element by element.
-/
module

public import proofs.«01_k».proof.Proof.InPoint
public import proofs.«01_k».proof.Proof.UpXRef
public import proofs.«01_k».proof.Proof.Gen.InProjGradIdeal.Read

@[expose] public section

set_option maxRecDepth 16384

noncomputable section

namespace Cert.InProjBwdIdeal.Point

open Cert.InProjGradIdeal Cert.InProjGradIdeal.Read Cert.Common
open Cert.FfnUpBwdXIdeal.Point (at2 at2_val at2_mk rs ms via)
open Idealize.ShloMosaic Idealize.ShloMosaic.TcCoe Idealize.SL.Sem

variable (x0 : Vec Ideal S8192x1024 .f32) (x1 : Vec Ideal S1024 .f32) (x2 : Vec Ideal S1024x1440 .f32) (x3 : Vec Ideal S8192x1024 .f32)
  (x4 x5 x6 : Vec Ideal S8192x512 .f32) (x7 : Vec Ideal S8192x416 .f32)

theorem v25_at (r : Fin 8192) (k : Fin 1440) : val_main_v25 (F := Ideal) x4 x5 x6 x7 (ix2 r k) = dp x4 x5 x6 x7 r.val k.val := by
  pointwise [val_main_v25, val_main_v24, val_main_v23, val_main_v22, val_main_v21, val_main_v20, val_main_cst_3, val_main_cst_4, val_main_cst_5]
  have hk := k.isLt
  unfold dp
  by_cases h1 : k.val < 512
  · rw [dif_neg (by omega), dif_neg (by omega), dif_pos h1, if_pos h1, at2_mk _ _ _ r.isLt h1, at2_mk _ _ _ r.isLt h1, zero_add, zero_add]
  · by_cases h2 : k.val < 1024
    · rw [dif_neg (by omega), dif_pos (by omega), dif_neg h1, if_neg h1, if_pos h2, at2_mk _ _ _ r.isLt (by omega), zero_add, add_zero]
    · rw [dif_pos (by omega), dif_neg (by omega), dif_neg h1, if_neg h1, if_neg h2, at2_mk _ _ _ r.isLt (by omega), add_zero, add_zero]

theorem v7_at (r : Fin 8192) (e : Fin 1) : val_main_v7 (F := Ideal) x0 (ix2 r e) = rs (xrow x0 r.val) := by
  pointwise [val_main_v7, val_main_v6, val_main_v5, val_main_v4, val_main_v3, val_main_v2, val_main_v1, val_main_v0,
    val_main_cst, val_main_cst_0, val_main_cst_1]
  rw [div_1024]
  simp only [rs, xrow, at2_val x0 r]

theorem v6_at (r : Fin 8192) (e : Fin 1) : val_main_v6 (F := Ideal) x0 (ix2 r e) = ms (xrow x0 r.val) := by
  pointwise [val_main_v6, val_main_v5, val_main_v4, val_main_v3, val_main_v2, val_main_v1, val_main_v0,
    val_main_cst, val_main_cst_0, val_main_cst_1]
  rw [div_1024]
  simp only [ms, xrow, at2_val x0 r]

theorem v15_at (r : Fin 8192) (e : Fin 1024) : val_main_v15 (F := Ideal) x0 x1 (ix2 r e) = nrm x0 x1 r.val e := by
  pointwise [val_main_v15, val_main_v14, val_main_v13, val_main_v12, val_main_v11]
  rw [v7_at, nrm, at2_val x0 r e]

theorem v26_at (k : Fin 1440) (e : Fin 1024) : val_main_v26 (F := Ideal) x0 x1 x4 x5 x6 x7 (ix2 k e)
    = ∑ r : Fin 8192, dp x4 x5 x6 x7 r.val k.val * nrm x0 x1 r.val e := by
  have h := v25_at x4 x5 x6 x7
  have h' := v15_at x0 x1
  unfold val_main_v26
  generalize val_main_v25 (F := Ideal) x4 x5 x6 x7 = v at h ⊢
  generalize val_main_v15 (F := Ideal) x0 x1 = v' at h' ⊢
  pointwise
  simp only [h, h']

theorem v51_at (e : Fin 1024) (k : Fin 1536) : val_main_v51 (F := Ideal) x0 x1 x4 x5 x6 x7 (ix2 e k)
    = ∑ r : Fin 8192, nrm x0 x1 r.val e * dp x4 x5 x6 x7 r.val k.val := by
  have h := v26_at x0 x1 x4 x5 x6 x7
  unfold val_main_v51 val_main_v27
  generalize val_main_v26 (F := Ideal) x0 x1 x4 x5 x6 x7 = v at h ⊢
  pointwise [val_main_v50, val_main_cst_11]
  by_cases hk : k.val < 1440
  · rw [dif_pos hk, h]
    exact Finset.sum_congr rfl fun r _ => mul_comm _ _
  · rw [dif_neg hk]
    refine (Finset.sum_eq_zero fun r _ => ?_).symm
    rw [dp, if_neg (by omega), if_neg (by omega), at2, dif_neg (by omega), mul_zero]

theorem v28_at (r : Fin 8192) (e : Fin 1024) : val_main_v28 (F := Ideal) x2 x4 x5 x6 x7 (ix2 r e) = dh x2 x4 x5 x6 x7 r.val e.val := by
  have h := v25_at x4 x5 x6 x7
  unfold val_main_v28
  generalize val_main_v25 (F := Ideal) x4 x5 x6 x7 = v at h ⊢
  unfold dh
  pointwise
  exact Finset.sum_congr rfl fun k _ => by rw [h, at2_val x2 e k]

theorem v44_at (r : Fin 8192) (e : Fin 1024) : val_main_v44 (F := Ideal) x0 x1 x2 x4 x5 x6 x7 (ix2 r e)
    = via (xrow x0 r.val) (fun k => x1 (ix1 k)) (fun k => dh x2 x4 x5 x6 x7 r.val k.val) := by
  pointwise [val_main_v44, val_main_v43, val_main_v42, val_main_v41, val_main_v40, val_main_v37, val_main_v36, val_main_v35, val_main_v33,
    val_main_v32, val_main_v13, val_main_v10, val_main_v9, val_main_v8, val_main_cst_2, val_main_cst_8, val_main_cst_9, val_main_cst_10, val_main_cst_11]
  rw [Fin.sum_univ_one]
  have e7 := v7_at x0 r
  have e6 := v6_at x0 r
  simp only [e7, e6, v28_at, via, xrow, at2_val x0 r]

theorem v49_at (r : Fin 8192) (e : Fin 1024) : val_main_v49 (F := Ideal) x0 x1 x2 x3 x4 x5 x6 x7 (ix2 r e)
    = x3 (ix2 r e) + (dh x2 x4 x5 x6 x7 r.val e.val * x1 (ix1 e) * rs (xrow x0 r.val)
      + xrow x0 r.val e * via (xrow x0 r.val) (fun k => x1 (ix1 k)) (fun k => dh x2 x4 x5 x6 x7 r.val k.val)
      + via (xrow x0 r.val) (fun k => x1 (ix1 k)) (fun k => dh x2 x4 x5 x6 x7 r.val k.val) * xrow x0 r.val e) := by
  pointwise [val_main_v49, val_main_v48, val_main_v47, val_main_v46, val_main_v45, val_main_v39, val_main_v38, val_main_v33, val_main_v32, val_main_v13]
  rw [v44_at, v28_at, v7_at, xrow, at2_val x0 r e]

theorem v52_at (e : Fin 1024) : val_main_v52 (F := Ideal) x0 x2 x4 x5 x6 x7 (ix2 0 e)
    = ∑ r : Fin 8192, dh x2 x4 x5 x6 x7 r.val e.val * at2 x0 r.val e.val * rs (xrow x0 r.val) := by
  pointwise [val_main_v52, val_main_v34, val_main_v31, val_main_v30, val_main_v29, val_main_v12, val_main_v11, val_main_cst_6, val_main_cst_7]
  rw [Fin.sum_univ_one]
  refine Finset.sum_congr rfl fun r _ => ?_
  rw [v28_at, v7_at, at2_val x0 r e, mul_assoc, mul_comm (dh _ _ _ _ _ _ _), mul_comm (rs _), mul_assoc]

end Cert.InProjBwdIdeal.Point

end
-- ==== Proof.InTie.lean ====
/-
  The gradients by the first norm's argument and gain and by the input projection's weight: what the kernel's points
  add up to, and the three results beside the reference's.
-/
module

public import proofs.«01_k».proof.Proof.InRef

@[expose] public section

set_option maxRecDepth 16384

noncomputable section

namespace Cert.InProjBwdIdeal.Point

open Cert.InProjBwdIdeal Cert.InProjBwdIdeal.Gen Cert.InProjBwdIdeal.Value Cert.Common
open Cert.FfnUpBwdXIdeal.Point (at2 at2_val at2_mk rs back back_eq)
open Cert.InProjGradIdeal.Read (val_main_v49 val_main_v51 val_main_v52)
open Idealize.ShloMosaic Idealize.ShloMosaic.TcCoe Idealize.SL.Sem

variable (m : (ℓ : Loc nD τ sig) → Buf (Elt Ideal) ℓ)

/-- The gradient by the projection, by the normalised rows, and a row's terms of the two accumulated gradients. -/
abbrev dpm (c : Dev nD) (r k : ℕ) : EReal := dp (b4 m c) (b5 m c) (b6 m c) (b7 m c) r k
abbrev dhm (c : Dev nD) (r e : ℕ) : EReal := dh (b2 m c) (b4 m c) (b5 m c) (b6 m c) (b7 m c) r e
def wterm (c : Dev nD) (e : Fin 1024) (k r : ℕ) : EReal := nrm (b0 m c) (b1 m c) r e * dpm m c r k
def gterm (c : Dev nD) (e r : ℕ) : EReal := dhm m c r e * at2 (b0 m c) r e * rs (xrow (b0 m c) r)

section Point
variable (c : Dev nD) (t : Fin grid0.N) (r : Fin 512)

theorem dhT_at (e : Fin 1024) : k0_pay1 (dpT m c t) (iblk m c 2 t) (ix2 r e) = dhm m c (row t r) e.val := by
  rw [pay1_at]
  simp only [dpT_at]
  exact dh_wide _ _ _ _ _ _ _ _ fun k => w_at m c t e k

theorem x_out_at (e : Fin 1024) : (outsAt0 m c t.val t.isLt).1 (ix2 r e)
    = back (xrow (b0 m c) (row t r)) (fun k => b1 m c (ix1 k)) (fun k => dhm m c (row t r) k.val) (at2 (b3 m c) (row t r) e.val) e := by
  rw [x_out, pay3_at, y_at]
  simp only [dhT_at, pay7_at, g_at, x_at]
  rfl

theorem stepW_at (acc : Vec Ideal S1024x1536 .f32) (e : Fin 1024) (k : Fin 1536) : stepW m c t acc (ix2 e k)
    = acc (ix2 e k) + ∑ r : Fin 512, wterm m c e k.val (row t r) := by
  unfold stepW
  rw [pay9_at]
  refine congrArg _ (Finset.sum_congr rfl fun r _ => congrArg₂ (· * ·) ?_ (dpT_at m c t r k))
  simp only [x_at, g_at]
  rfl

theorem stepG_at (acc : Vec Ideal S1x1024 .f32) (e : Fin 1024) : k0_pay4 (iblk m c 0 t) (dpT m c t) (iblk m c 2 t) acc (ix2 0 e)
    = acc (ix2 0 e) + ∑ r : Fin 512, gterm m c e.val (row t r) := by
  rw [pay4_at]
  simp only [dhT_at, x_at]
  rfl

end Point

/-- A value set at the first point and added to at each after it is a sum over the points. -/
theorem acc_of (A : (n : ℕ) → n < cfg0.N → EReal) (T : ℕ → EReal)
    (h0 : ∀ t : Fin cfg0.N, t.val % 16 = 0 → A t.val t.isLt = 0 + ∑ k : Fin 512, T (512 * t.val + k.val))
    (h1 : ∀ t : Fin cfg0.N, ¬t.val % 16 = 0 → A t.val t.isLt
      = A (t.val - 1) (Nat.lt_of_le_of_lt (Nat.sub_le _ _) t.isLt) + ∑ k : Fin 512, T (512 * t.val + k.val))
    (n : ℕ) (hn : n < cfg0.N) : A n hn = ∑ R ∈ Finset.range (n + 1), ∑ k : Fin 512, T (512 * R + k.val) := by
  have hN : cfg0.N = 16 := N_0
  induction n with
  | zero => rw [h0 ⟨0, hn⟩ rfl, zero_add]; simp
  | succ n ih =>
    rw [h1 ⟨n + 1, hn⟩ (by show ¬(n + 1) % 16 = 0; omega)]
    show A n _ + _ = _
    rw [ih, Finset.sum_range_succ _ (n + 1)]

/-- After the last point the sum is over all the rows. -/
theorem whole (T : ℕ → EReal) : ∑ R ∈ Finset.range 16, ∑ k : Fin 512, T (512 * R + k.val) = ∑ r : Fin 8192, T r.val := by
  rw [Finset.sum_range]
  refine Fin.sum_mul_add_congr (S := 16) (n := 512) fun s k hl => ?_
  rw [Nat.mul_comm 512]

theorem w_sum (c : Dev nD) (n : ℕ) (hn : n < cfg0.N) (e : Fin 1024) (k : Fin 1536) : (outsAt0 m c n hn).2.1 (ix2 e k)
    = ∑ R ∈ Finset.range (n + 1), ∑ r : Fin 512, wterm m c e k.val (512 * R + r.val) :=
  acc_of (fun n hn => (outsAt0 m c n hn).2.1 (ix2 e k)) (wterm m c e k.val)
    (fun t h => by show (outsAt0 m c t.val t.isLt).2.1 (ix2 e k) = _; rw [w_first m c t h, stepW_at, pay5_zero])
    (fun t h => by show (outsAt0 m c t.val t.isLt).2.1 (ix2 e k) = _; rw [w_next m c t h, stepW_at]) n hn

theorem g_sum (c : Dev nD) (n : ℕ) (hn : n < cfg0.N) (e : Fin 1024) : (outsAt0 m c n hn).2.2 (ix2 0 e)
    = ∑ R ∈ Finset.range (n + 1), ∑ r : Fin 512, gterm m c e.val (512 * R + r.val) :=
  acc_of (fun n hn => (outsAt0 m c n hn).2.2 (ix2 0 e)) (gterm m c e.val)
    (fun t h => by show (outsAt0 m c t.val t.isLt).2.2 (ix2 0 e) = _; rw [g_first m c t h, stepG_at, pay6_zero])
    (fun t h => by show (outsAt0 m c t.val t.isLt).2.2 (ix2 0 e) = _; rw [g_next m c t h, stepG_at]) n hn

theorem index_out : ∀ t : Fin grid0.N, win0_8.index t = ![t.val, 0] ∧ win0_9.index t = ![0, 0] ∧ win0_10.index t = ![0, 0] := by
  decide +kernel

/-- The accumulators leave at the last point. -/
theorem last_of : ∀ t : Fin grid0.N, ((cfg0.win 9).flush t = true → t.val = 15) ∧ ((cfg0.win 10).flush t = true → t.val = 15) := by
  decide +kernel

def G8 (c : Dev nD) : Vec Ideal S8192x1024 .f32 := fun i =>
  back (xrow (b0 m c) (i 0).val) (fun k => b1 m c (ix1 k)) (fun k => dhm m c (i 0).val k.val) (at2 (b3 m c) (i 0).val (i 1).val) (i 1)

def G9 (c : Dev nD) : Vec Ideal S1024x1536 .f32 := fun i => ∑ r : Fin 8192, wterm m c (i 0) (i 1).val r.val

def G10 (c : Dev nD) : Vec Ideal S1x1024 .f32 := fun i => ∑ r : Fin 8192, gterm m c (i 1).val r.val

theorem arr8 (c : Dev nD) : (dats m 0 c).arrAt 8 cfg0.N = G8 m c := by
  refine (dats m 0 c).arrAt_eq_of_covers 8 _ (by decide +kernel) fun t hf y => ?_
  have e := (index_out t).1
  have ht : t.val < 16 := t.isLt
  blk_simp
  rw [after0_8]
  revert y
  show ∀ y : S512x1024.Idx, (outsAt0 m c t.val t.isLt).1 y = G8 m c ((win0_8.blk t).view.emb y)
  intro i
  idx_vars i
  rw [x_out_at]
  have hy : (win0_8.blk t).view.emb (ix2 i0 i1 : S512x1024.Idx) = (ix2 ⟨512 * t.val + i0.val, by omega⟩ i1 : S8192x1024.Idx) := by
    blk_ext [e]
  rw [hy]
  rfl

theorem arr9 (c : Dev nD) : (dats m 0 c).arrAt 9 cfg0.N = G9 m c := by
  refine (dats m 0 c).arrAt_eq_of_covers 9 _ (by decide +kernel) fun t hf y => ?_
  have hl := (last_of t).1 hf
  have e := (index_out t).2.1
  blk_simp
  rw [after0_9]
  revert y
  show ∀ y : S1024x1536.Idx, (outsAt0 m c t.val t.isLt).2.1 y = G9 m c ((win0_9.blk t).view.emb y)
  intro i
  idx_vars i
  rw [w_sum, hl]
  refine (whole (wterm m c i0 i1.val)).trans ?_
  have hy : (win0_9.blk t).view.emb (ix2 i0 i1 : S1024x1536.Idx) = (ix2 i0 i1 : S1024x1536.Idx) := by
    blk_ext [e]
  rw [hy]
  rfl

theorem arr10 (c : Dev nD) : (dats m 0 c).arrAt 10 cfg0.N = G10 m c := by
  refine (dats m 0 c).arrAt_eq_of_covers 10 _ (by decide +kernel) fun t hf y => ?_
  have hl := (last_of t).2 hf
  have e := (index_out t).2.2
  blk_simp
  rw [after0_10]
  revert y
  show ∀ y : S1x1024.Idx, (outsAt0 m c t.val t.isLt).2.2 y = G10 m c ((win0_10.blk t).view.emb y)
  intro i
  idx_vars i
  obtain rfl : i0 = 0 := Subsingleton.elim _ _
  rw [g_sum, hl]
  refine (whole (gterm m c i1.val)).trans ?_
  have hy : (win0_10.blk t).view.emb (ix2 0 i1 : S1x1024.Idx) = (ix2 0 i1 : S1x1024.Idx) := by
    blk_ext [e]
  rw [hy]
  rfl

theorem result8 (c : Dev nD) :
    G8 m c = val_main_v49 (F := Ideal) (b0 m c) (b1 m c) (b2 m c) (b3 m c) (b4 m c) (b5 m c) (b6 m c) (b7 m c) := by
  funext i
  idx_vars i
  rw [v49_at]
  refine (back_eq _ _ _ _ _).trans ?_
  exact congrArg (· + _) (at2_val (b3 m c) i0 i1)

theorem result9 (c : Dev nD) : G9 m c = val_main_v51 (F := Ideal) (b0 m c) (b1 m c) (b4 m c) (b5 m c) (b6 m c) (b7 m c) := by
  funext i
  idx_vars i
  exact (v51_at _ _ _ _ _ _ i0 i1).symm

theorem result10 (c : Dev nD) : G10 m c = val_main_v52 (F := Ideal) (b0 m c) (b2 m c) (b4 m c) (b5 m c) (b6 m c) (b7 m c) := by
  funext i
  idx_vars i
  obtain rfl : i0 = 0 := Subsingleton.elim _ _
  exact (v52_at _ _ _ _ _ _ i1).symm

/-- The kernel's run, with its results as sums over the whole arrays. -/
theorem run (ρ : Dev nD → PrngReg) : θ_run defs (onTc (τ := τ) (main (F := Ideal))) ⟨m, fun _ => 0, ρ⟩ fun r => ∀ c : Dev nD,
      r.2.mem ((c : Thread nD τ).loc main_v6_0) = G8 m c
      ∧ r.2.mem ((c : Thread nD τ).loc main_v6_1) = G9 m c
      ∧ r.2.mem ((c : Thread nD τ).loc main_v6_2) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Cert.InProjBwdIdeal.Value.run_blocks (F := Ideal) m ρ)
  obtain ⟨q8, q9, q10, q⟩ := h c
  exact ⟨q8.trans (arr8 m c), q9.trans (arr9 m c), q10.trans (arr10 m c), q⟩

end Cert.InProjBwdIdeal.Point

end
-- ==== Proof.FlashRun.lean ====
/- The body of the attention gradient's kernel, run once: what one grid point leaves in the three result
   blocks, from what it found in its nine blocks. Four cases, by whether the point is the first of its key
   block (the dk and dv blocks are cleared) and whether the key block is the first of its head pair (the rows of
   dq the point works on are cleared). -/
module

public import proofs.«01_k».proof.Proof.Gen.FlashBwdIdeal.Frame
public import proofs.«01_k».proof.Proof.Gen.FlashBwdIdeal.Skeleton
public import Idealize.ShloMosaic.Lib.VecWindow
public import Idealize.ShloMosaic.Lib.WritesUnit

@[expose] public section

set_option maxRecDepth 16384

noncomputable section

namespace Cert.FlashBwdIdeal.Hand

open Cert.FlashBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The point is the first of its key block. -/
abbrev firstQ (i : grid0.Coords) : Prop :=
  (Scalar.cmpi .ne (Scalar.extui (Scalar.cmpi .eq (BitVec.ofNat 32 (i 2).val) 0#32)) 0#32) = 1#1
/-- The point's key block is the first of its head pair. -/
abbrev firstK (i : grid0.Coords) : Prop := k0_cond2 i = 1#1

section Left
variable (i : grid0.Coords) (x0 : Vec F S2048x256 .bf16) (x1 : Vec F S1024x256 .bf16) (x2 : Vec F S1024x128 .bf16)
  (x3 : Vec F S2048x128 .f32) (x4 x5 : Vec F S1x2x2048 .f32)

/-- The left and the right head's columns of the query block and of the key block. -/
abbrev qL : Vec F S2048x128 .bf16 := VecWindow.window x0 ![0, 0] S2048x128.size inb_S2048x256_S2048x128_0_0
abbrev qR : Vec F S2048x128 .bf16 := VecWindow.window x0 ![0, 128] S2048x128.size inb_S2048x256_S2048x128_0_128
abbrev kL : Vec F S1024x128 .bf16 := VecWindow.window x1 ![0, 0] S1024x128.size inb_S1024x256_S1024x128_0_0
abbrev kR : Vec F S1024x128 .bf16 := VecWindow.window x1 ![0, 128] S1024x128.size inb_S1024x256_S1024x128_0_128
/-- The lanes' numbers. -/
abbrev lanes : IVec S2048x128 32 := iota .tc S2048x128 32 [1] iota_S2048x128_d1_w32

/-- The blocks of v, of the output's gradient, of the row statistics and of delta, loaded whole. -/
abbrev vB : Vec F S1024x128 .bf16 := VecWindow.window x2 ![0, 0] S1024x128.size inb_S1024x128_S1024x128_0_0
abbrev doB : Vec F S2048x128 .f32 := VecWindow.window x3 ![0, 0] S2048x128.size inb_S2048x128_S2048x128_0_0
abbrev lvlB : Vec F S1x2x2048 .f32 := VecWindow.window x4 ![0, 0, 0] S1x2x2048.size inb_S1x2x2048_S1x2x2048_0_0_0
abbrev deltaB : Vec F S1x2x2048 .f32 := VecWindow.window x5 ![0, 0, 0] S1x2x2048.size inb_S1x2x2048_S1x2x2048_0_0_0

/-- What the point adds up to in the left half of dk, from what the half held. -/
abbrev dkL (w : Vec F S1024x128 .f32) : Vec F S1024x128 .f32 :=
  k0_pay22 (k0_pay10 (vB x2)) (k0_pay12 (deltaB x5)) (k0_pay14 (qL x0)) (k0_pay16 (doB x3)) (k0_pay17 (qL x0) (kL x1)) (k0_pay18 (lvlB x4)) w
/-- The right half of dk. -/
abbrev dkR (w : Vec F S1024x128 .f32) : Vec F S1024x128 .f32 :=
  k0_pay4 (k0_pay10 (vB x2)) (k0_pay11 (lvlB x4)) (k0_pay12 (deltaB x5)) (k0_pay24 (qR x0)) (k0_pay25 (kR x1)) (k0_pay26 (doB x3) lanes) w
/-- The left half of the point's rows of dq. -/
abbrev dqL (w : Vec F S2048x128 .f32) : Vec F S2048x128 .f32 :=
  k0_pay23 (k0_pay10 (vB x2)) (k0_pay12 (deltaB x5)) (k0_pay15 (kL x1)) (k0_pay16 (doB x3)) (k0_pay17 (qL x0) (kL x1)) (k0_pay18 (lvlB x4)) w
/-- The right half of the point's rows of dq. -/
abbrev dqR (w : Vec F S2048x128 .f32) : Vec F S2048x128 .f32 :=
  k0_pay5 (k0_pay10 (vB x2)) (k0_pay11 (lvlB x4)) (k0_pay12 (deltaB x5)) (k0_pay24 (qR x0)) (k0_pay25 (kR x1)) (k0_pay26 (doB x3) lanes) w
/-- dv. -/
abbrev dvB (w : Vec F S1024x128 .f32) : Vec F S1024x128 .f32 :=
  k0_pay6 (k0_pay11 (lvlB x4)) (k0_pay21 (k0_pay13 (F := F)) (k0_pay16 (doB x3)) (k0_pay17 (qL x0) (kL x1)) (k0_pay18 (lvlB x4))) (k0_pay24 (qR x0))
    (k0_pay25 (kR x1)) (k0_pay26 (doB x3) lanes) w

/-- The dk block after the point, from the dk block it adds to. -/
def dkAdd (Z : Vec F S1024x256 .f32) : Vec F S1024x256 .f32 :=
  VecWindow.put (VecWindow.put Z ![0, 0] S1024x128.size (dkL x0 x1 x2 x3 x4 x5 (VecWindow.window Z ![0, 0] S1024x128.size inb_S1024x256_S1024x128_0_0)))
    ![0, 128] S1024x128.size (dkR x0 x1 x2 x3 x4 x5 (VecWindow.window Z ![0, 128] S1024x128.size inb_S1024x256_S1024x128_0_128))
/-- The dq block after the point, from the dq block it adds to. -/
def dqAdd (Z : Vec F S8192x256 .f32) : Vec F S8192x256 .f32 :=
  VecWindow.put (VecWindow.put Z (k0_off2 i) S2048x128.size (dqL x0 x1 x2 x3 x4 x5 (VecWindow.window Z (k0_off2 i) S2048x128.size (k0_off2_inb i))))
    (k0_off3 i) S2048x128.size (dqR x0 x1 x2 x3 x4 x5 (VecWindow.window Z (k0_off3 i) S2048x128.size (k0_off3_inb i)))

/-- The dv block after the point, from the dv block it adds to. -/
def dvAdd (Z : Vec F S1024x128 .f32) : Vec F S1024x128 .f32 :=
  VecWindow.put Z ![0, 0] S1024x128.size (dvB x0 x1 x3 x4 (VecWindow.window Z ![0, 0] S1024x128.size inb_S1024x128_S1024x128_0_0))

/-- The dq block the point adds to: the rows it works on cleared at a head pair's first key block. -/
def dqFrom (Y : Vec F S8192x256 .f32) : Vec F S8192x256 .f32 :=
  if firstK i then VecWindow.put Y (k0_off1 i) S2048x256.size (k0_pay9 (F := F)) else Y
/-- The dk block the point adds to: zero at a key block's first point. -/
def dkFrom (Y : Vec F S1024x256 .f32) : Vec F S1024x256 .f32 := if firstQ i then k0_pay7 (F := F) else Y
/-- The dv block the point adds to: zero at a key block's first point. -/
def dvFrom (Y : Vec F S1024x128 .f32) : Vec F S1024x128 .f32 := if firstQ i then k0_pay8 (F := F) else Y

/-- The three blocks after the point, from the three it found. -/
def dqOut (Y : Vec F S8192x256 .f32) : Vec F S8192x256 .f32 := dqAdd i x0 x1 x2 x3 x4 x5 (dqFrom i Y)
def dkOut (Y : Vec F S1024x256 .f32) : Vec F S1024x256 .f32 := dkAdd x0 x1 x2 x3 x4 x5 (dkFrom i Y)
def dvOut (Y : Vec F S1024x128 .f32) : Vec F S1024x128 .f32 := dvAdd x0 x1 x3 x4 (dvFrom i Y)

end Left

section Reads
variable {sp : Space} {s : Shape} {e : EltTy}

theorem readAt_win (v : View sig .tc sp s e) (f : v.ty.Contents (Elt F)) {off size : Fin s.rank → ℕ} (inb : ∀ a, off a + size a ≤ s.size a) :
    v.readAt (Elt F) (Rect.unit off size inb).toLoadRect f = VecWindow.window (v.read (Elt F) f) off size inb := rfl

theorem read_put (v : View sig .tc sp s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L))
      = VecWindow.put (v.read (Elt F) (v.writes (Elt F) f L)) off size w := View.read_writes_cons_put v f inb w L rfl

theorem readCov_win (v : View sig .tc sp s e) (L : List (View.Piece (Elt F) s e)) {off size : Fin s.rank → ℕ} (inb : ∀ a, off a + size a ≤ s.size a) :
    v.readCov L (Rect.unit off size inb).toLoadRect = VecWindow.window (v.read (Elt F) (v.writes (Elt F) v.junk L)) off size inb := rfl

theorem put_dk {α : Type} (x w : S1024x256.Idx → α) : VecWindow.put (s := S1024x256) x ![0, 0] ![1024, 256] w = w := by
  funext y
  have h : ∀ a, (![0, 0] : Fin 2 → ℕ) a ≤ (y a).val ∧ (y a).val < (![0, 0] : Fin 2 → ℕ) a + (![1024, 256] : Fin 2 → ℕ) a := fun a => by
    have := (y a).isLt
    fin_cases a <;> exact ⟨Nat.zero_le _, by simpa using this⟩
  refine (dif_pos h).trans (congrArg w (funext fun a => Fin.ext ?_))
  fin_cases a <;> rfl

theorem put_dv {α : Type} (x w : S1024x128.Idx → α) : VecWindow.put (s := S1024x128) x ![0, 0] ![1024, 128] w = w := by
  funext y
  have h : ∀ a, (![0, 0] : Fin 2 → ℕ) a ≤ (y a).val ∧ (y a).val < (![0, 0] : Fin 2 → ℕ) a + (![1024, 128] : Fin 2 → ℕ) a := fun a => by
    have := (y a).isLt
    fin_cases a <;> exact ⟨Nat.zero_le _, by simpa using this⟩
  refine (dif_pos h).trans (congrArg w (funext fun a => Fin.ext ?_))
  fin_cases a <;> rfl

/-- The right half read after a store into the left half. -/
theorem window_right {α : Type} (x : S1024x256.Idx → α) (w : ((a : Fin 2) → Fin ((![1024, 128] : Fin 2 → ℕ) a)) → α) (inb) :
    VecWindow.window (s := S1024x256) (VecWindow.put (s := S1024x256) x ![0, 0] ![1024, 128] w) ![0, 128] ![1024, 128] inb
      = VecWindow.window (s := S1024x256) x ![0, 128] ![1024, 128] inb :=
  VecWindow.window_put_of_disjoint (s := S1024x256) x ![0, 0] ![1024, 128] ![0, 128] ![1024, 128] inb w 1 (Or.inr (by decide))

/-- The right half of the point's rows of dq read after a store into their left half. -/
theorem window_right_dq {α : Type} (i : grid0.Coords) (x : S8192x256.Idx → α) (w : ((a : Fin 2) → Fin ((![2048, 128] : Fin 2 → ℕ) a)) → α) (inb) :
    VecWindow.window (s := S8192x256) (VecWindow.put (s := S8192x256) x (k0_off2 i) ![2048, 128] w) (k0_off3 i) ![2048, 128] inb
      = VecWindow.window (s := S8192x256) x (k0_off3 i) ![2048, 128] inb :=
  VecWindow.window_put_of_disjoint (s := S8192x256) x (k0_off2 i) ![2048, 128] (k0_off3 i) ![2048, 128] inb w 1 (Or.inr (Nat.le_refl 128))

theorem left_inside (i : grid0.Coords) (a : Fin 2) :
    k0_off1 i a ≤ k0_off2 i a ∧ k0_off2 i a + (![2048, 128] : Fin 2 → ℕ) a ≤ k0_off1 i a + (![2048, 256] : Fin 2 → ℕ) a := by
  have h : k0_off2 i a = k0_off1 i a := rfl
  rw [h]
  refine ⟨le_rfl, Nat.add_le_add_left ?_ _⟩
  fin_cases a <;> decide

theorem right_inside (i : grid0.Coords) (a : Fin 2) :
    k0_off1 i a ≤ k0_off3 i a ∧ k0_off3 i a + (![2048, 128] : Fin 2 → ℕ) a ≤ k0_off1 i a + (![2048, 256] : Fin 2 → ℕ) a := by
  fin_cases a
  · exact ⟨le_rfl, le_rfl⟩
  · exact ⟨Nat.zero_le _, le_rfl⟩

/-- A half of the point's rows read after they are cleared: what was there before does not matter. -/
theorem window_cleared_left {α : Type} (i : grid0.Coords) (x : S8192x256.Idx → α) (w : ((a : Fin 2) → Fin ((![2048, 256] : Fin 2 → ℕ) a)) → α) (inb) :
    VecWindow.window (s := S8192x256) (VecWindow.put (s := S8192x256) x (k0_off1 i) ![2048, 256] w) (k0_off2 i) ![2048, 128] inb
      = VecWindow.window (s := ⟨2, ![2048, 256]⟩) w (fun a => k0_off2 i a - k0_off1 i a) ![2048, 128]
          (fun a => by have := left_inside i a; show k0_off2 i a - k0_off1 i a + (![2048, 128] : Fin 2 → ℕ) a ≤ (![2048, 256] : Fin 2 → ℕ) a; omega) :=
  VecWindow.window_put_of_inside (s := S8192x256) x (k0_off1 i) ![2048, 256] (k0_off2 i) ![2048, 128] inb w (left_inside i)

theorem window_cleared_right {α : Type} (i : grid0.Coords) (x : S8192x256.Idx → α) (w : ((a : Fin 2) → Fin ((![2048, 256] : Fin 2 → ℕ) a)) → α) (inb) :
    VecWindow.window (s := S8192x256) (VecWindow.put (s := S8192x256) x (k0_off1 i) ![2048, 256] w) (k0_off3 i) ![2048, 128] inb
      = VecWindow.window (s := ⟨2, ![2048, 256]⟩) w (fun a => k0_off3 i a - k0_off1 i a) ![2048, 128]
          (fun a => by have := right_inside i a; show k0_off3 i a - k0_off1 i a + (![2048, 128] : Fin 2 → ℕ) a ≤ (![2048, 256] : Fin 2 → ℕ) a; omega) :=
  VecWindow.window_put_of_inside (s := S8192x256) x (k0_off1 i) ![2048, 256] (k0_off3 i) ![2048, 128] inb w (right_inside i)

end Reads

set_option maxHeartbeats 4000000 in
/-- The first point of a head pair. -/
theorem runA (c : Dev nD) (i : grid0.Coords)
    (arg3 : Memref sig .tc .vmem S2048x256 .bf16) (harg3 : arg3.IsWhole)
    (arg4 : Memref sig .tc .vmem S1024x256 .bf16) (harg4 : arg4.IsWhole)
    (arg5 : Memref sig .tc .vmem S1024x128 .bf16) (harg5 : arg5.IsWhole)
    (arg6 : Memref sig .tc .vmem S2048x128 .f32) (harg6 : arg6.IsWhole)
    (arg7 : Memref sig .tc .vmem S1x2x2048 .f32) (harg7 : arg7.IsWhole)
    (arg8 : Memref sig .tc .vmem S1x2x2048 .f32) (harg8 : arg8.IsWhole)
    (arg9 : Memref sig .tc .vmem S8192x256 .f32) (harg9 : arg9.IsWhole)
    (arg10 : Memref sig .tc .vmem S1024x256 .f32) (harg10 : arg10.IsWhole)
    (arg11 : Memref sig .tc .vmem S1024x128 .f32) (harg11 : arg11.IsWhole)
    (hc1 : firstQ i) (hc2 : firstK i)
    (x0 : Vec F S2048x256 .bf16) (x1 : Vec F S1024x256 .bf16) (x2 : Vec F S1024x128 .bf16) (x3 : Vec F S2048x128 .f32) (x4 : Vec F S1x2x2048 .f32) (x5 : Vec F S1x2x2048 .f32) (x6 : Vec F S8192x256 .f32) (x7 : Vec F S1024x256 .f32) (x8 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (dqOut i x0 x1 x2 x3 x4 x5 x6) ∗ owns (c : Thread nD τ) arg10 fullShare (dkOut i x0 x1 x2 x3 x4 x5 x7) ∗ owns (c : Thread nD τ) arg11 fullShare (dvOut i x0 x1 x3 x4 x8)) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11) K := by
  simp only [cc0_flash_bwd_eq_skeleton, k0_part1_eq_skeleton, k0_part2_eq_skeleton]; unfold cc0_flash_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _
    isplitr; swap; iexact H6
    ipureintro
    delta runA.sl.v10 runA.sl.v13 runA.sl.v15 runA.sl.v18 runA.sl.v20 runA.sl.v28 runA.sl.v29 runA.sl.v30 runA.sl.v89 runA.sl.v95 runA.sl.r_1 runA.sl.r_2 runA.sl.r_3 runA.sl.r_4 runA.sl.r runA.sl.v27 runA.sl.H7_2 runA.sl.H7_1 runA.sl.H8_1 runA.sl.v101 runA.sl.v47 runA.sl.H6_2 runA.sl.H6_1 runA.sl.v53
    simp only [dqOut, dqAdd, dqFrom, if_pos hc2, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl
  isplitl [H7]
  · iexists _
    isplitr; swap; iexact H7
    ipureintro
    delta runA.sl.v10 runA.sl.v13 runA.sl.v15 runA.sl.v18 runA.sl.v20 runA.sl.v28 runA.sl.v29 runA.sl.v30 runA.sl.v89 runA.sl.v95 runA.sl.r_1 runA.sl.r_2 runA.sl.r_3 runA.sl.r_4 runA.sl.r runA.sl.v27 runA.sl.H7_2 runA.sl.H7_1 runA.sl.H8_1 runA.sl.v101 runA.sl.v47 runA.sl.H6_2 runA.sl.H6_1 runA.sl.v53
    simp only [dkOut, dkAdd, dkFrom, if_pos hc1, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl
  · iexists _
    isplitr; swap; iexact H8
    ipureintro
    delta runA.sl.v10 runA.sl.v13 runA.sl.v15 runA.sl.v18 runA.sl.v20 runA.sl.v28 runA.sl.v29 runA.sl.v30 runA.sl.v89 runA.sl.v95 runA.sl.r_1 runA.sl.r_2 runA.sl.r_3 runA.sl.r_4 runA.sl.r runA.sl.v27 runA.sl.H7_2 runA.sl.H7_1 runA.sl.H8_1 runA.sl.v101 runA.sl.v47 runA.sl.H6_2 runA.sl.H6_1 runA.sl.v53
    simp only [dvOut, dvAdd, dvFrom, if_pos hc1, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl

set_option maxHeartbeats 4000000 in
/-- The first point of a later key block. -/
theorem runB (c : Dev nD) (i : grid0.Coords)
    (arg3 : Memref sig .tc .vmem S2048x256 .bf16) (harg3 : arg3.IsWhole)
    (arg4 : Memref sig .tc .vmem S1024x256 .bf16) (harg4 : arg4.IsWhole)
    (arg5 : Memref sig .tc .vmem S1024x128 .bf16) (harg5 : arg5.IsWhole)
    (arg6 : Memref sig .tc .vmem S2048x128 .f32) (harg6 : arg6.IsWhole)
    (arg7 : Memref sig .tc .vmem S1x2x2048 .f32) (harg7 : arg7.IsWhole)
    (arg8 : Memref sig .tc .vmem S1x2x2048 .f32) (harg8 : arg8.IsWhole)
    (arg9 : Memref sig .tc .vmem S8192x256 .f32) (harg9 : arg9.IsWhole)
    (arg10 : Memref sig .tc .vmem S1024x256 .f32) (harg10 : arg10.IsWhole)
    (arg11 : Memref sig .tc .vmem S1024x128 .f32) (harg11 : arg11.IsWhole)
    (hc1 : firstQ i) (hc2 : ¬ firstK i)
    (x0 : Vec F S2048x256 .bf16) (x1 : Vec F S1024x256 .bf16) (x2 : Vec F S1024x128 .bf16) (x3 : Vec F S2048x128 .f32) (x4 : Vec F S1x2x2048 .f32) (x5 : Vec F S1x2x2048 .f32) (x6 : Vec F S8192x256 .f32) (x7 : Vec F S1024x256 .f32) (x8 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (dqOut i x0 x1 x2 x3 x4 x5 x6) ∗ owns (c : Thread nD τ) arg10 fullShare (dkOut i x0 x1 x2 x3 x4 x5 x7) ∗ owns (c : Thread nD τ) arg11 fullShare (dvOut i x0 x1 x3 x4 x8)) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11) K := by
  simp only [cc0_flash_bwd_eq_skeleton, k0_part1_eq_skeleton, k0_part2_eq_skeleton]; unfold cc0_flash_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _
    isplitr; swap; iexact H6
    ipureintro
    delta runB.sl.v10 runB.sl.v13 runB.sl.v15 runB.sl.v18 runB.sl.v20 runB.sl.v28 runB.sl.v29 runB.sl.v30 runB.sl.v89 runB.sl.v95 runB.sl.r_1 runB.sl.r_2 runB.sl.r_3 runB.sl.r_4 runB.sl.r runB.sl.v27 runB.sl.H7_2 runB.sl.H7_1 runB.sl.H8_1 runB.sl.v101 runB.sl.v47
    simp only [dqOut, dqAdd, dqFrom, if_neg hc2, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl
  isplitl [H7]
  · iexists _
    isplitr; swap; iexact H7
    ipureintro
    delta runB.sl.v10 runB.sl.v13 runB.sl.v15 runB.sl.v18 runB.sl.v20 runB.sl.v28 runB.sl.v29 runB.sl.v30 runB.sl.v89 runB.sl.v95 runB.sl.r_1 runB.sl.r_2 runB.sl.r_3 runB.sl.r_4 runB.sl.r runB.sl.v27 runB.sl.H7_2 runB.sl.H7_1 runB.sl.H8_1 runB.sl.v101 runB.sl.v47
    simp only [dkOut, dkAdd, dkFrom, if_pos hc1, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl
  · iexists _
    isplitr; swap; iexact H8
    ipureintro
    delta runB.sl.v10 runB.sl.v13 runB.sl.v15 runB.sl.v18 runB.sl.v20 runB.sl.v28 runB.sl.v29 runB.sl.v30 runB.sl.v89 runB.sl.v95 runB.sl.r_1 runB.sl.r_2 runB.sl.r_3 runB.sl.r_4 runB.sl.r runB.sl.v27 runB.sl.H7_2 runB.sl.H7_1 runB.sl.H8_1 runB.sl.v101 runB.sl.v47
    simp only [dvOut, dvAdd, dvFrom, if_pos hc1, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl

set_option maxHeartbeats 4000000 in
/-- A later point of the first key block. -/
theorem runC (c : Dev nD) (i : grid0.Coords)
    (arg3 : Memref sig .tc .vmem S2048x256 .bf16) (harg3 : arg3.IsWhole)
    (arg4 : Memref sig .tc .vmem S1024x256 .bf16) (harg4 : arg4.IsWhole)
    (arg5 : Memref sig .tc .vmem S1024x128 .bf16) (harg5 : arg5.IsWhole)
    (arg6 : Memref sig .tc .vmem S2048x128 .f32) (harg6 : arg6.IsWhole)
    (arg7 : Memref sig .tc .vmem S1x2x2048 .f32) (harg7 : arg7.IsWhole)
    (arg8 : Memref sig .tc .vmem S1x2x2048 .f32) (harg8 : arg8.IsWhole)
    (arg9 : Memref sig .tc .vmem S8192x256 .f32) (harg9 : arg9.IsWhole)
    (arg10 : Memref sig .tc .vmem S1024x256 .f32) (harg10 : arg10.IsWhole)
    (arg11 : Memref sig .tc .vmem S1024x128 .f32) (harg11 : arg11.IsWhole)
    (hc1 : ¬ firstQ i) (hc2 : firstK i)
    (x0 : Vec F S2048x256 .bf16) (x1 : Vec F S1024x256 .bf16) (x2 : Vec F S1024x128 .bf16) (x3 : Vec F S2048x128 .f32) (x4 : Vec F S1x2x2048 .f32) (x5 : Vec F S1x2x2048 .f32) (x6 : Vec F S8192x256 .f32) (x7 : Vec F S1024x256 .f32) (x8 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (dqOut i x0 x1 x2 x3 x4 x5 x6) ∗ owns (c : Thread nD τ) arg10 fullShare (dkOut i x0 x1 x2 x3 x4 x5 x7) ∗ owns (c : Thread nD τ) arg11 fullShare (dvOut i x0 x1 x3 x4 x8)) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11) K := by
  simp only [cc0_flash_bwd_eq_skeleton, k0_part1_eq_skeleton, k0_part2_eq_skeleton]; unfold cc0_flash_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _
    isplitr; swap; iexact H6
    ipureintro
    delta runC.sl.v10 runC.sl.v13 runC.sl.v15 runC.sl.v18 runC.sl.v20 runC.sl.v28 runC.sl.v29 runC.sl.v30 runC.sl.v89 runC.sl.v95 runC.sl.r_1 runC.sl.r_2 runC.sl.r_3 runC.sl.r_4 runC.sl.r runC.sl.v27 runC.sl.H6_2 runC.sl.H6_1 runC.sl.v53
    simp only [dqOut, dqAdd, dqFrom, if_pos hc2, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl
  isplitl [H7]
  · iexists _
    isplitr; swap; iexact H7
    ipureintro
    delta runC.sl.v10 runC.sl.v13 runC.sl.v15 runC.sl.v18 runC.sl.v20 runC.sl.v28 runC.sl.v29 runC.sl.v30 runC.sl.v89 runC.sl.v95 runC.sl.r_1 runC.sl.r_2 runC.sl.r_3 runC.sl.r_4 runC.sl.r runC.sl.v27 runC.sl.H6_2 runC.sl.H6_1 runC.sl.v53
    simp only [dkOut, dkAdd, dkFrom, if_neg hc1, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl
  · iexists _
    isplitr; swap; iexact H8
    ipureintro
    delta runC.sl.v10 runC.sl.v13 runC.sl.v15 runC.sl.v18 runC.sl.v20 runC.sl.v28 runC.sl.v29 runC.sl.v30 runC.sl.v89 runC.sl.v95 runC.sl.r_1 runC.sl.r_2 runC.sl.r_3 runC.sl.r_4 runC.sl.r runC.sl.v27 runC.sl.H6_2 runC.sl.H6_1 runC.sl.v53
    simp only [dvOut, dvAdd, dvFrom, if_neg hc1, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl

set_option maxHeartbeats 4000000 in
/-- A later point of a later key block. -/
theorem runD (c : Dev nD) (i : grid0.Coords)
    (arg3 : Memref sig .tc .vmem S2048x256 .bf16) (harg3 : arg3.IsWhole)
    (arg4 : Memref sig .tc .vmem S1024x256 .bf16) (harg4 : arg4.IsWhole)
    (arg5 : Memref sig .tc .vmem S1024x128 .bf16) (harg5 : arg5.IsWhole)
    (arg6 : Memref sig .tc .vmem S2048x128 .f32) (harg6 : arg6.IsWhole)
    (arg7 : Memref sig .tc .vmem S1x2x2048 .f32) (harg7 : arg7.IsWhole)
    (arg8 : Memref sig .tc .vmem S1x2x2048 .f32) (harg8 : arg8.IsWhole)
    (arg9 : Memref sig .tc .vmem S8192x256 .f32) (harg9 : arg9.IsWhole)
    (arg10 : Memref sig .tc .vmem S1024x256 .f32) (harg10 : arg10.IsWhole)
    (arg11 : Memref sig .tc .vmem S1024x128 .f32) (harg11 : arg11.IsWhole)
    (hc1 : ¬ firstQ i) (hc2 : ¬ firstK i)
    (x0 : Vec F S2048x256 .bf16) (x1 : Vec F S1024x256 .bf16) (x2 : Vec F S1024x128 .bf16) (x3 : Vec F S2048x128 .f32) (x4 : Vec F S1x2x2048 .f32) (x5 : Vec F S1x2x2048 .f32) (x6 : Vec F S8192x256 .f32) (x7 : Vec F S1024x256 .f32) (x8 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (dqOut i x0 x1 x2 x3 x4 x5 x6) ∗ owns (c : Thread nD τ) arg10 fullShare (dkOut i x0 x1 x2 x3 x4 x5 x7) ∗ owns (c : Thread nD τ) arg11 fullShare (dvOut i x0 x1 x3 x4 x8)) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11) K := by
  simp only [cc0_flash_bwd_eq_skeleton, k0_part1_eq_skeleton, k0_part2_eq_skeleton]; unfold cc0_flash_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _
    isplitr; swap; iexact H6
    ipureintro
    delta runD.sl.v10 runD.sl.v13 runD.sl.v15 runD.sl.v18 runD.sl.v20 runD.sl.v28 runD.sl.v29 runD.sl.v30 runD.sl.v89 runD.sl.v95 runD.sl.r_1 runD.sl.r_2 runD.sl.r_3 runD.sl.r_4 runD.sl.r runD.sl.v27
    simp only [dqOut, dqAdd, dqFrom, if_neg hc2, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl
  isplitl [H7]
  · iexists _
    isplitr; swap; iexact H7
    ipureintro
    delta runD.sl.v10 runD.sl.v13 runD.sl.v15 runD.sl.v18 runD.sl.v20 runD.sl.v28 runD.sl.v29 runD.sl.v30 runD.sl.v89 runD.sl.v95 runD.sl.r_1 runD.sl.r_2 runD.sl.r_3 runD.sl.r_4 runD.sl.r runD.sl.v27
    simp only [dkOut, dkAdd, dkFrom, if_neg hc1, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl
  · iexists _
    isplitr; swap; iexact H8
    ipureintro
    delta runD.sl.v10 runD.sl.v13 runD.sl.v15 runD.sl.v18 runD.sl.v20 runD.sl.v28 runD.sl.v29 runD.sl.v30 runD.sl.v89 runD.sl.v95 runD.sl.r_1 runD.sl.r_2 runD.sl.r_3 runD.sl.r_4 runD.sl.r runD.sl.v27
    simp only [dvOut, dvAdd, dvFrom, if_neg hc1, read_put, readAt_win, readCov_win, put_dk, put_dv, window_right, window_right_dq, window_cleared_left, window_cleared_right, View.writes_nil,
      harg9.read_unread, harg10.read_unread, harg11.read_unread, harg3.read_unread, harg4.read_unread, harg5.read_unread, harg6.read_unread, harg7.read_unread, harg8.read_unread]
    rfl

/-- The body at any point: the six read blocks as they were, the three result blocks as `dqOut`, `dkOut`, `dvOut` say. -/
theorem body_run (c : Dev nD) (i : grid0.Coords)
    (arg3 : Memref sig .tc .vmem S2048x256 .bf16) (harg3 : arg3.IsWhole)
    (arg4 : Memref sig .tc .vmem S1024x256 .bf16) (harg4 : arg4.IsWhole)
    (arg5 : Memref sig .tc .vmem S1024x128 .bf16) (harg5 : arg5.IsWhole)
    (arg6 : Memref sig .tc .vmem S2048x128 .f32) (harg6 : arg6.IsWhole)
    (arg7 : Memref sig .tc .vmem S1x2x2048 .f32) (harg7 : arg7.IsWhole)
    (arg8 : Memref sig .tc .vmem S1x2x2048 .f32) (harg8 : arg8.IsWhole)
    (arg9 : Memref sig .tc .vmem S8192x256 .f32) (harg9 : arg9.IsWhole)
    (arg10 : Memref sig .tc .vmem S1024x256 .f32) (harg10 : arg10.IsWhole)
    (arg11 : Memref sig .tc .vmem S1024x128 .f32) (harg11 : arg11.IsWhole)
    (x0 : Vec F S2048x256 .bf16) (x1 : Vec F S1024x256 .bf16) (x2 : Vec F S1024x128 .bf16) (x3 : Vec F S2048x128 .f32) (x4 : Vec F S1x2x2048 .f32) (x5 : Vec F S1x2x2048 .f32) (x6 : Vec F S8192x256 .f32) (x7 : Vec F S1024x256 .f32) (x8 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (dqOut i x0 x1 x2 x3 x4 x5 x6) ∗ owns (c : Thread nD τ) arg10 fullShare (dkOut i x0 x1 x2 x3 x4 x5 x7) ∗ owns (c : Thread nD τ) arg11 fullShare (dvOut i x0 x1 x3 x4 x8)) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11) K := by
  by_cases hc1 : firstQ i <;> by_cases hc2 : firstK i
  · exact runA c i arg3 harg3 arg4 harg4 arg5 harg5 arg6 harg6 arg7 harg7 arg8 harg8 arg9 harg9 arg10 harg10 arg11 harg11 hc1 hc2 x0 x1 x2 x3 x4 x5 x6 x7 x8 E K
  · exact runB c i arg3 harg3 arg4 harg4 arg5 harg5 arg6 harg6 arg7 harg7 arg8 harg8 arg9 harg9 arg10 harg10 arg11 harg11 hc1 hc2 x0 x1 x2 x3 x4 x5 x6 x7 x8 E K
  · exact runC c i arg3 harg3 arg4 harg4 arg5 harg5 arg6 harg6 arg7 harg7 arg8 harg8 arg9 harg9 arg10 harg10 arg11 harg11 hc1 hc2 x0 x1 x2 x3 x4 x5 x6 x7 x8 E K
  · exact runD c i arg3 harg3 arg4 harg4 arg5 harg5 arg6 harg6 arg7 harg7 arg8 harg8 arg9 harg9 arg10 harg10 arg11 harg11 hc1 hc2 x0 x1 x2 x3 x4 x5 x6 x7 x8 E K

end Cert.FlashBwdIdeal.Hand

end
-- ==== Proof.FlashTerm.lean ====
/-
  What a point of the attention gradient's kernel adds to each of its three result blocks, at an index: the two
  heads' halves of dk and dq, and dv, as sums of products over the block's rows.
-/
module

public import proofs.«01_k».proof.Proof.FlashRun
public import Idealize.ShloMosaic.Lib.Pipeline.ValueKit

@[expose] public section

set_option maxRecDepth 16384

noncomputable section

namespace Cert.FlashBwdIdeal.Hand

open Cert.FlashBwdIdeal Cert.FlashBwdIdeal.Gen
open Idealize.ShloMosaic Idealize.ShloMosaic.TcCoe Idealize.SL.Sem

variable (x0 : Vec Ideal S2048x256 .bf16) (x1 : Vec Ideal S1024x256 .bf16) (x2 : Vec Ideal S1024x128 .bf16)
  (x3 : Vec Ideal S2048x128 .f32) (x4 x5 : Vec Ideal S1x2x2048 .f32)

/-- Lane `l` of head `j` of a pair. -/
abbrev lane (j : Fin 2) (l : Fin 128) : Fin 256 := ⟨128 * j.val + l.val, by omega⟩

/-- A key's probability for a query, by head. -/
def pT (j : Fin 2) (k : Fin 1024) (q : Fin 2048) : EReal :=
  Ideal.exp2 (((∑ l : Fin 128, x1 (ix2 k (lane j l)) * x0 (ix2 q (lane j l))) - x4 (ix3 0 j q)) * Named.named (F := Ideal) κ "scale_log2e" (φ := .f32) 0x3E16C740#32)

/-- The output's gradient at the head's own half of the lanes, zero at the other. -/
def doT (j : Fin 2) (q : Fin 2048) (l : Fin 128) : EReal := if l.val / 64 = j.val then x3 (ix2 q l) else 0

/-- The gradient of a score, by head. -/
def dsT (j : Fin 2) (k : Fin 1024) (q : Fin 2048) : EReal :=
  pT x0 x1 x4 j k q * ((∑ l : Fin 128, x2 (ix2 k l) * doT x3 j q l) - x5 (ix3 0 j q)) * Ideal.ofBits .f32 0x3DD105EC#32

def dkT (k : Fin 1024) (j : Fin 2) (l : Fin 128) : EReal := ∑ q : Fin 2048, dsT x0 x1 x2 x3 x4 x5 j k q * x0 (ix2 q (lane j l))
def dqT (q : Fin 2048) (j : Fin 2) (l : Fin 128) : EReal := ∑ k : Fin 1024, dsT x0 x1 x2 x3 x4 x5 j k q * x1 (ix2 k (lane j l))
def dvT (k : Fin 1024) (l : Fin 128) : EReal := ∑ q : Fin 2048, pT x0 x1 x4 0 k q * doT x3 0 q l + ∑ q : Fin 2048, pT x0 x1 x4 1 k q * doT x3 1 q l

theorem qL_at (q : Fin 2048) (l : Fin 128) : qL x0 (ix2 q l) = x0 (ix2 q (lane 0 l)) :=
  congrArg x0 (funext fun a => Fin.ext (by fin_cases a <;> exact (ValueKit.rect_emb_unit_val _ _ _ _ _).trans (by simp [ix2])))
theorem qR_at (q : Fin 2048) (l : Fin 128) : qR x0 (ix2 q l) = x0 (ix2 q (lane 1 l)) :=
  congrArg x0 (funext fun a => Fin.ext (by fin_cases a <;> exact (ValueKit.rect_emb_unit_val _ _ _ _ _).trans (by simp [ix2])))
theorem kL_at (k : Fin 1024) (l : Fin 128) : kL x1 (ix2 k l) = x1 (ix2 k (lane 0 l)) :=
  congrArg x1 (funext fun a => Fin.ext (by fin_cases a <;> exact (ValueKit.rect_emb_unit_val _ _ _ _ _).trans (by simp [ix2])))
theorem kR_at (k : Fin 1024) (l : Fin 128) : kR x1 (ix2 k l) = x1 (ix2 k (lane 1 l)) :=
  congrArg x1 (funext fun a => Fin.ext (by fin_cases a <;> exact (ValueKit.rect_emb_unit_val _ _ _ _ _).trans (by simp [ix2])))
theorem vB_at (i : S1024x128.Idx) : vB x2 i = x2 i :=
  congrArg x2 (funext fun a => Fin.ext (by fin_cases a <;> exact (ValueKit.rect_emb_unit_val _ _ _ _ _).trans (Nat.zero_add _)))
theorem doB_at (i : S2048x128.Idx) : doB x3 i = x3 i :=
  congrArg x3 (funext fun a => Fin.ext (by fin_cases a <;> exact (ValueKit.rect_emb_unit_val _ _ _ _ _).trans (Nat.zero_add _)))
theorem lvlB_at (i : S1x2x2048.Idx) : lvlB x4 i = x4 i :=
  congrArg x4 (funext fun a => Fin.ext (by fin_cases a <;> exact (ValueKit.rect_emb_unit_val _ _ _ _ _).trans (Nat.zero_add _)))

/-- Which lanes a head's mask keeps. -/
theorem mask_left (l : Fin 128) : IntOp.andi (IntOp.cmpi CmpIPredicate.sge (BitVec.ofNat 32 l.val) 0#32)
    (IntOp.cmpi CmpIPredicate.slt (BitVec.ofNat 32 l.val) 64#32) = if l.val / 64 = 0 then 1#1 else 0#1 := by
  revert l; decide
theorem mask_right (l : Fin 128) : IntOp.andi (IntOp.cmpi CmpIPredicate.sge (BitVec.ofNat 32 l.val) 64#32)
    (IntOp.cmpi CmpIPredicate.slt (BitVec.ofNat 32 l.val) 128#32) = if l.val / 64 = 1 then 1#1 else 0#1 := by
  revert l; decide

theorem vB_eq : vB x2 = x2 := funext fun i => vB_at x2 i
theorem doB_eq : doB x3 = x3 := funext fun i => doB_at x3 i
theorem lvlB_eq : lvlB x4 = x4 := funext fun i => lvlB_at x4 i
theorem deltaB_eq : deltaB x5 = x5 := lvlB_eq x5

theorem pay19_at (k : Fin 1024) (q : Fin 2048) : k0_pay19 (k0_pay17 (qL x0) (kL x1)) (k0_pay18 (lvlB x4)) (ix2 k q) = pT x0 x1 x4 0 k q := by
  have hq := qL_at x0
  have hk := kL_at x1
  rw [lvlB_eq]
  generalize qL x0 = a at hq ⊢
  generalize kL x1 = b at hk ⊢
  pointwise [k0_pay19, k0_pay17, k0_pay18, k0_pay15, k0_pay14, k0_pay11, pT]
  simp only [hq, hk]
  rfl

theorem pay2_at (k : Fin 1024) (q : Fin 2048) : k0_pay2 (k0_pay11 (lvlB x4)) (k0_pay24 (qR x0)) (k0_pay25 (kR x1)) (ix2 k q) = pT x0 x1 x4 1 k q := by
  have hq := qR_at x0
  have hk := kR_at x1
  rw [lvlB_eq]
  generalize qR x0 = a at hq ⊢
  generalize kR x1 = b at hk ⊢
  pointwise [k0_pay2, k0_pay24, k0_pay25, k0_pay11, pT]
  simp only [hq, hk]
  rfl

theorem pay16_at (q : Fin 2048) (l : Fin 128) : k0_pay16 (doB x3) (ix2 q l) = doT x3 0 q l := by
  rw [doB_eq]
  pointwise [k0_pay16, doT]
  rw [mask_left]
  by_cases h : l.val / 64 = 0
  · rw [if_pos h, if_pos h]; rfl
  · rw [if_neg h, if_neg h]; rfl

theorem pay26_at (q : Fin 2048) (l : Fin 128) : k0_pay1 (k0_pay26 (doB x3) lanes) (ix2 q l) = doT x3 1 q l := by
  rw [doB_eq]
  pointwise [k0_pay1, k0_pay26, lanes, doT]
  rw [mask_right]
  by_cases h : l.val / 64 = 1
  · rw [if_pos h, if_pos h]; rfl
  · rw [if_neg h, if_neg h]; rfl

theorem pay20_at (k : Fin 1024) (q : Fin 2048) :
    k0_pay20 (k0_pay10 (vB x2)) (k0_pay12 (deltaB x5)) (k0_pay16 (doB x3)) (k0_pay17 (qL x0) (kL x1)) (k0_pay18 (lvlB x4)) (ix2 k q)
      = dsT x0 x1 x2 x3 x4 x5 0 k q := by
  pointwise [k0_pay20, k0_pay10, k0_pay12, dsT]
  rw [pay19_at, vB_eq, deltaB_eq]
  have hd := pay16_at x3
  generalize k0_pay16 (doB x3) = d at hd ⊢
  simp only [hd]

theorem pay3_at (k : Fin 1024) (q : Fin 2048) :
    k0_pay3 (k0_pay10 (vB x2)) (k0_pay11 (lvlB x4)) (k0_pay12 (deltaB x5)) (k0_pay24 (qR x0)) (k0_pay25 (kR x1)) (k0_pay26 (doB x3) lanes) (ix2 k q)
      = dsT x0 x1 x2 x3 x4 x5 1 k q := by
  pointwise [k0_pay3, k0_pay10, k0_pay12, dsT]
  rw [pay2_at, vB_eq, deltaB_eq]
  have hd := pay26_at x3
  generalize k0_pay1 (k0_pay26 (doB x3) lanes) = d at hd ⊢
  simp only [hd]

theorem dkL_at (w : Vec Ideal S1024x128 .f32) (k : Fin 1024) (l : Fin 128) :
    dkL x0 x1 x2 x3 x4 x5 w (ix2 k l) = w (ix2 k l) + dkT x0 x1 x2 x3 x4 x5 k 0 l := by
  have hs := pay20_at x0 x1 x2 x3 x4 x5
  have hq := qL_at x0
  unfold dkL k0_pay22 k0_pay14 dkT
  generalize k0_pay20 (k0_pay10 (vB x2)) (k0_pay12 (deltaB x5)) (k0_pay16 (doB x3)) (k0_pay17 (qL x0) (kL x1)) (k0_pay18 (lvlB x4)) = s at hs ⊢
  generalize qL x0 = a at hq ⊢
  pointwise []
  simp only [hs, hq]
theorem dkR_at (w : Vec Ideal S1024x128 .f32) (k : Fin 1024) (l : Fin 128) :
    dkR x0 x1 x2 x3 x4 x5 w (ix2 k l) = w (ix2 k l) + dkT x0 x1 x2 x3 x4 x5 k 1 l := by
  have hs := pay3_at x0 x1 x2 x3 x4 x5
  have hq := qR_at x0
  unfold dkR k0_pay4 dkT
  generalize k0_pay3 (k0_pay10 (vB x2)) (k0_pay11 (lvlB x4)) (k0_pay12 (deltaB x5)) (k0_pay24 (qR x0)) (k0_pay25 (kR x1)) (k0_pay26 (doB x3) lanes) = s at hs ⊢
  generalize qR x0 = a at hq ⊢
  pointwise [k0_pay24]
  simp only [hs, hq]
theorem dqL_at (w : Vec Ideal S2048x128 .f32) (q : Fin 2048) (l : Fin 128) :
    dqL x0 x1 x2 x3 x4 x5 w (ix2 q l) = w (ix2 q l) + dqT x0 x1 x2 x3 x4 x5 q 0 l := by
  have hs := pay20_at x0 x1 x2 x3 x4 x5
  have hk := kL_at x1
  unfold dqL k0_pay23 dqT
  generalize k0_pay20 (k0_pay10 (vB x2)) (k0_pay12 (deltaB x5)) (k0_pay16 (doB x3)) (k0_pay17 (qL x0) (kL x1)) (k0_pay18 (lvlB x4)) = s at hs ⊢
  generalize kL x1 = a at hk ⊢
  pointwise [k0_pay15]
  simp only [hs, hk]
theorem dqR_at (w : Vec Ideal S2048x128 .f32) (q : Fin 2048) (l : Fin 128) :
    dqR x0 x1 x2 x3 x4 x5 w (ix2 q l) = w (ix2 q l) + dqT x0 x1 x2 x3 x4 x5 q 1 l := by
  have hs := pay3_at x0 x1 x2 x3 x4 x5
  have hk := kR_at x1
  unfold dqR k0_pay5 dqT
  generalize k0_pay3 (k0_pay10 (vB x2)) (k0_pay11 (lvlB x4)) (k0_pay12 (deltaB x5)) (k0_pay24 (qR x0)) (k0_pay25 (kR x1)) (k0_pay26 (doB x3) lanes) = s at hs ⊢
  generalize kR x1 = a at hk ⊢
  pointwise [k0_pay25]
  simp only [hs, hk]
theorem dvB_at (w : Vec Ideal S1024x128 .f32) (k : Fin 1024) (l : Fin 128) :
    dvB x0 x1 x3 x4 w (ix2 k l) = w (ix2 k l) + dvT x0 x1 x3 x4 k l := by
  have h0 := pay19_at x0 x1 x4
  have h1 := pay2_at x0 x1 x4
  have d0 := pay16_at x3
  have d1 := pay26_at x3
  unfold dvB k0_pay6 k0_pay21 k0_pay13 dvT
  generalize k0_pay19 (k0_pay17 (qL x0) (kL x1)) (k0_pay18 (lvlB x4)) = a at h0 ⊢
  generalize k0_pay2 (k0_pay11 (lvlB x4)) (k0_pay24 (qR x0)) (k0_pay25 (kR x1)) = b at h1 ⊢
  generalize k0_pay16 (doB x3) = d at d0 ⊢
  generalize k0_pay1 (k0_pay26 (doB x3) lanes) = e at d1 ⊢
  pointwise []
  simp only [h0, h1, d0, d1]

end Cert.FlashBwdIdeal.Hand

end
-- ==== Proof.FlashFrame.lean ====
/- The launch of the attention gradient's kernel: its proof data (each block read is left as found; the three
   result blocks change from point to point as `dqOut`, `dkOut`, `dvOut` say), the body's obligation from
   `body_run`, and the frame: the argument arrays end unchanged and every semaphore counter at zero. -/
module

public import proofs.«01_k».proof.Proof.FlashRun
public import Idealize.ShloMosaic.Lib.Pipeline.ArrRel

@[expose] public section

set_option maxRecDepth 16384

noncomputable section

namespace Cert.FlashBwdIdeal.Hand

open Cert.FlashBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's proof data on core `c`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = dqOut (grid0.coords t) (iblk m c 0 t) (iblk m c 1 t) (iblk m c 2 t) (iblk m c 3 t) (iblk m c 4 t) (iblk m c 5 t) Y
    | ⟨7, _⟩ => fun Y X => X = dkOut (grid0.coords t) (iblk m c 0 t) (iblk m c 1 t) (iblk m c 2 t) (iblk m c 3 t) (iblk m c 4 t) (iblk m c 5 t) Y
    | ⟨8, _⟩ => fun Y X => X = dvOut (grid0.coords t) (iblk m c 0 t) (iblk m c 1 t) (iblk m c 3 t) (iblk m c 4 t) Y
  Φ _ := Pipeline.ΦA spec0 c
  q _ := fullShare
  owed _ := 0

theorem A_eq (c : Dev nD) (w : Fin cfg0.W) : (rdat m c).A w = V m c (Pipeline.arrRef spec0 w) := by
  dsimp only [rdat]

theorem after_0 (c : Dev nD) (t : Fin cfg0.N) (Y X) : (rdat m c).after 0 t Y X ↔ X = Y := by dsimp only [rdat]; exact Iff.rfl
theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => (after_0 m c t Y X).mp h) t Y h
  unfold RDat.fetched RDat.blockOf iblk; rw [A_eq]; try rfl

theorem after_1 (c : Dev nD) (t : Fin cfg0.N) (Y X) : (rdat m c).after 1 t Y X ↔ X = Y := by dsimp only [rdat]; exact Iff.rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => (after_1 m c t Y X).mp h) t Y h
  unfold RDat.fetched RDat.blockOf iblk; rw [A_eq]; try rfl

theorem after_2 (c : Dev nD) (t : Fin cfg0.N) (Y X) : (rdat m c).after 2 t Y X ↔ X = Y := by dsimp only [rdat]; exact Iff.rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => (after_2 m c t Y X).mp h) t Y h
  unfold RDat.fetched RDat.blockOf iblk; rw [A_eq]; try rfl

theorem after_3 (c : Dev nD) (t : Fin cfg0.N) (Y X) : (rdat m c).after 3 t Y X ↔ X = Y := by dsimp only [rdat]; exact Iff.rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun t Y X h => (after_3 m c t Y X).mp h) t Y h
  unfold RDat.fetched RDat.blockOf iblk; rw [A_eq]; try rfl

theorem after_4 (c : Dev nD) (t : Fin cfg0.N) (Y X) : (rdat m c).after 4 t Y X ↔ X = Y := by dsimp only [rdat]; exact Iff.rfl
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun t Y X h => (after_4 m c t Y X).mp h) t Y h
  unfold RDat.fetched RDat.blockOf iblk; rw [A_eq]; try rfl

theorem after_5 (c : Dev nD) (t : Fin cfg0.N) (Y X) : (rdat m c).after 5 t Y X ↔ X = Y := by dsimp only [rdat]; exact Iff.rfl
theorem finds_5 (c : Dev nD) (t : Fin cfg0.N) (Y) (h : (rdat m c).Finds 5 t Y) : Y = iblk m c 5 t := by
  obtain ⟨d, rfl⟩ := (rdat m c).finds_in_eq_fetched 5 rfl (fun _ _ _ => rfl) (fun t Y X h => (after_5 m c t Y X).mp h) t Y h
  unfold RDat.fetched RDat.blockOf iblk; rw [A_eq]; try rfl

theorem after_6 (c : Dev nD) (t : Fin cfg0.N) (Y X) : (rdat m c).after 6 t Y X ↔ X = dqOut (grid0.coords t) (iblk m c 0 t) (iblk m c 1 t) (iblk m c 2 t) (iblk m c 3 t) (iblk m c 4 t) (iblk m c 5 t) Y := by dsimp only [rdat]; exact Iff.rfl

theorem after_7 (c : Dev nD) (t : Fin cfg0.N) (Y X) : (rdat m c).after 7 t Y X ↔ X = dkOut (grid0.coords t) (iblk m c 0 t) (iblk m c 1 t) (iblk m c 2 t) (iblk m c 3 t) (iblk m c 4 t) (iblk m c 5 t) Y := by dsimp only [rdat]; exact Iff.rfl

theorem after_8 (c : Dev nD) (t : Fin cfg0.N) (Y X) : (rdat m c).after 8 t Y X ↔ X = dvOut (grid0.coords t) (iblk m c 0 t) (iblk m c 1 t) (iblk m c 3 t) (iblk m c 4 t) Y := by dsimp only [rdat]; exact Iff.rfl

/-- The body table's row at a point's slots is the body as `bodyAt0` spells it. -/
theorem row (t : Fin cfg0.N) : defs₀ (F := F) .tc cfg0.body (cfg0.bodyArgs t (cfg0.slots t)) = bodyAt0 t := by
  unfold defs₀; rw [Defs.onTc_tc]

def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5)
    ∗ owns (c : Thread nD τ) (win0_6.stage (cfg0.slots t 6)) fullShare (Y 6)
    ∗ owns (c : Thread nD τ) (win0_7.stage (cfg0.slots t 7)) fullShare (Y 7)
    ∗ owns (c : Thread nD τ) (win0_8.stage (cfg0.slots t 8)) fullShare (Y 8))

def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (win0_0.stage (cfg0.slots t 0)) fullShare X)
    ∗ (∃ X, ⌜(rdat m c).after 1 t (Y 1) X⌝ ∗ owns (c : Thread nD τ) (win0_1.stage (cfg0.slots t 1)) fullShare X)
    ∗ (∃ X, ⌜(rdat m c).after 2 t (Y 2) X⌝ ∗ owns (c : Thread nD τ) (win0_2.stage (cfg0.slots t 2)) fullShare X)
    ∗ (∃ X, ⌜(rdat m c).after 3 t (Y 3) X⌝ ∗ owns (c : Thread nD τ) (win0_3.stage (cfg0.slots t 3)) fullShare X)
    ∗ (∃ X, ⌜(rdat m c).after 4 t (Y 4) X⌝ ∗ owns (c : Thread nD τ) (win0_4.stage (cfg0.slots t 4)) fullShare X)
    ∗ (∃ X, ⌜(rdat m c).after 5 t (Y 5) X⌝ ∗ owns (c : Thread nD τ) (win0_5.stage (cfg0.slots t 5)) fullShare X)
    ∗ (∃ X, ⌜(rdat m c).after 6 t (Y 6) X⌝ ∗ owns (c : Thread nD τ) (win0_6.stage (cfg0.slots t 6)) fullShare X)
    ∗ (∃ X, ⌜(rdat m c).after 7 t (Y 7) X⌝ ∗ owns (c : Thread nD τ) (win0_7.stage (cfg0.slots t 7)) fullShare X)
    ∗ (∃ X, ⌜(rdat m c).after 8 t (Y 8) X⌝ ∗ owns (c : Thread nD τ) (win0_8.stage (cfg0.slots t 8)) fullShare X))

set_option maxHeartbeats 1600000 in
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  simp only [after_0, after_1, after_2, after_3, after_4, after_5, after_6, after_7, after_8]
  rw [finds_0 m c t (Y 0) (hY 0), finds_1 m c t (Y 1) (hY 1), finds_2 m c t (Y 2) (hY 2), finds_3 m c t (Y 3) (hY 3), finds_4 m c t (Y 4) (hY 4), finds_5 m c t (Y 5) (hY 5)]
  iintro ⟨HΦ, Ho, H0, H1, H2, H3, H4, H5, H6, H7, H8⟩
  iapply (body_run c (grid0.coords t) _ _ _ _ _ _ _ _ _ _ _ _ _ _ _ _ _ _ (iblk m c 0 t) (iblk m c 1 t) (iblk m c 2 t) (iblk m c 3 t) (iblk m c 4 t) (iblk m c 5 t) (Y 6) (Y 7) (Y 8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  iexists _; isplitr; · ipureintro; rfl
  iexact H8

theorem body_obligation (c : Dev nD) : (rdat (F := F) m c).BodyObligation (defs₀ (F := F)) Variants.none () Set.univ := fun t Y hY => by
  rw [bigSep_W0, bigSep_W0, row]
  exact triple_restated (sound_body m c t Y hY) rfl .rfl fun _ => .rfl

set_option backward.isDefEq.respectTransparency.types false in
/-- The run: each result array is in the relation the proof data say, every other array is as launched, every
    semaphore counter is zero. -/
theorem run_quiescent : θ_run defs (onTc (τ := τ) (main (F := F))) (s₀ m ρ) (fun r => RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (RDat.FramePost.arr_in h.1 c 3 rfl).trans ((A_eq m c 3).trans (V_main_arg3 m c))⟩, h.2⟩) (run_quiescent m ρ)

end Cert.FlashBwdIdeal.Hand

end
-- ==== Proof.FlashAcc.lean ====
/-
  What the attention gradient's kernel leaves in its three result arrays: dk and dv summed over a key block's four
  query blocks, dq over a query block's eight key blocks, point by point from the relational proof data.
-/
module

public import proofs.«01_k».proof.Proof.FlashTerm
public import proofs.«01_k».proof.Proof.FlashFrame

@[expose] public section

set_option maxRecDepth 16384

noncomputable section

namespace Cert.FlashBwdIdeal.Hand

open Cert.FlashBwdIdeal Cert.FlashBwdIdeal.Gen
open Idealize.ShloMosaic Idealize.ShloMosaic.TcCoe Idealize.SL.Sem
open Idealize.ShloMosaic.Pipeline (RDat)

section Blocks

variable (x0 : Vec Ideal S2048x256 .bf16) (x1 : Vec Ideal S1024x256 .bf16) (x2 : Vec Ideal S1024x128 .bf16)
  (x3 : Vec Ideal S2048x128 .f32) (x4 x5 : Vec Ideal S1x2x2048 .f32)

/-- A store into a rectangle read at an index: inside it the payload, outside what was there. -/
theorem put_in {a b a' b' : ℕ} {α : Type} (x : (⟨2, ![a, b]⟩ : Shape).Idx → α) (off : Fin 2 → ℕ)
    (w : (⟨2, ![a', b']⟩ : Shape).Idx → α) (r : Fin a) (s : Fin b) (r' : Fin a') (s' : Fin b')
    (h0 : r.val = off 0 + r'.val) (h1 : s.val = off 1 + s'.val) :
    VecWindow.put (s := ⟨2, ![a, b]⟩) x off ![a', b'] w (ix2 r s) = w (ix2 r' s') := by
  have h : ∀ c : Fin 2, off c ≤ ((ix2 r s : (⟨2, ![a, b]⟩ : Shape).Idx) c).val
      ∧ ((ix2 r s : (⟨2, ![a, b]⟩ : Shape).Idx) c).val < off c + (![a', b'] : Fin 2 → ℕ) c := fun c => by
    have := r'.isLt; have := s'.isLt
    fin_cases c
    · show off 0 ≤ r.val ∧ r.val < off 0 + a'; omega
    · show off 1 ≤ s.val ∧ s.val < off 1 + b'; omega
  refine (dif_pos h).trans (congrArg w (funext fun c => Fin.ext ?_))
  fin_cases c
  · show r.val - off 0 = r'.val; omega
  · show s.val - off 1 = s'.val; omega

theorem put_out {a b a' b' : ℕ} {α : Type} (x : (⟨2, ![a, b]⟩ : Shape).Idx → α) (off : Fin 2 → ℕ)
    (w : (⟨2, ![a', b']⟩ : Shape).Idx → α) (r : Fin a) (s : Fin b)
    (h : r.val < off 0 ∨ off 0 + a' ≤ r.val ∨ s.val < off 1 ∨ off 1 + b' ≤ s.val) :
    VecWindow.put (s := ⟨2, ![a, b]⟩) x off ![a', b'] w (ix2 r s) = x (ix2 r s) := by
  refine dif_neg fun h' => ?_
  have h0 : off 0 ≤ r.val ∧ r.val < off 0 + a' := h' 0
  have h1 : off 1 ≤ s.val ∧ s.val < off 1 + b' := h' 1
  omega

/-- A window read at an index. -/
theorem window_ix {a b a' b' : ℕ} {α : Type} (x : (⟨2, ![a, b]⟩ : Shape).Idx → α) (off : Fin 2 → ℕ) (inb)
    (r : Fin a) (s : Fin b) (r' : Fin a') (s' : Fin b') (h0 : r.val = off 0 + r'.val) (h1 : s.val = off 1 + s'.val) :
    VecWindow.window (s := ⟨2, ![a, b]⟩) x off ![a', b'] inb (ix2 r' s') = x (ix2 r s) := by
  refine congrArg x (funext fun c => Fin.ext ?_)
  refine (ValueKit.rect_emb_unit_val _ _ _ _ _).trans ?_
  fin_cases c
  · exact h0.symm
  · exact h1.symm

theorem dkAdd_at (Z : Vec Ideal S1024x256 .f32) (k : Fin 1024) (j : Fin 2) (l : Fin 128) :
    dkAdd x0 x1 x2 x3 x4 x5 Z (ix2 k (lane j l)) = Z (ix2 k (lane j l)) + dkT x0 x1 x2 x3 x4 x5 k j l := by
  unfold dkAdd
  have hl := l.isLt
  fin_cases j
  · refine (put_out _ _ _ _ _ (.inr (.inr (.inl ?_)))).trans ((put_in _ _ _ _ _ k l ?_ ?_).trans ((dkL_at x0 x1 x2 x3 x4 x5 _ k l).trans ?_))
    · show 128 * 0 + l.val < 128; omega
    · show k.val = 0 + k.val; omega
    · show 128 * 0 + l.val = 0 + l.val; omega
    · refine congrArg (· + _) (window_ix Z _ _ _ _ k l ?_ ?_)
      · show k.val = 0 + k.val; omega
      · show 128 * 0 + l.val = 0 + l.val; omega
  · refine (put_in _ _ _ _ _ k l ?_ ?_).trans ((dkR_at x0 x1 x2 x3 x4 x5 _ k l).trans ?_)
    · show k.val = 0 + k.val; omega
    · show 128 * 1 + l.val = 128 + l.val; omega
    · refine congrArg (· + _) (window_ix Z _ _ _ _ k l ?_ ?_)
      · show k.val = 0 + k.val; omega
      · show 128 * 1 + l.val = 128 + l.val; omega

theorem dvAdd_at (Z : Vec Ideal S1024x128 .f32) (k : Fin 1024) (l : Fin 128) :
    dvAdd x0 x1 x3 x4 Z (ix2 k l) = Z (ix2 k l) + dvT x0 x1 x3 x4 k l := by
  unfold dvAdd
  refine (put_in _ _ _ _ _ k l ?_ ?_).trans ((dvB_at x0 x1 x3 x4 _ k l).trans ?_)
  · show k.val = 0 + k.val; omega
  · show l.val = 0 + l.val; omega
  · refine congrArg (· + _) (window_ix Z _ _ _ _ k l ?_ ?_)
    · show k.val = 0 + k.val; omega
    · show l.val = 0 + l.val; omega

/-- Row `q` of query block `b`. -/
abbrev qrow (b : Fin 4) (q : Fin 2048) : Fin 8192 := ⟨2048 * b.val + q.val, by omega⟩

theorem dqAdd_at (i : grid0.Coords) (e0 : ℕ) (h2 : k0_off2 i = ![2048 * e0, 0]) (h3 : k0_off3 i = ![2048 * e0, 128])
    (Z : Vec Ideal S8192x256 .f32) (b : Fin 4) (q : Fin 2048) (j : Fin 2) (l : Fin 128) :
    dqAdd i x0 x1 x2 x3 x4 x5 Z (ix2 (qrow b q) (lane j l))
      = if b.val = e0 then Z (ix2 (qrow b q) (lane j l)) + dqT x0 x1 x2 x3 x4 x5 q j l else Z (ix2 (qrow b q) (lane j l)) := by
  unfold dqAdd
  have hl := l.isLt
  have hq := q.isLt
  have h20 : k0_off2 i 0 = 2048 * e0 := by rw [h2]; rfl
  have h21 : k0_off2 i 1 = 0 := by rw [h2]; rfl
  have h30 : k0_off3 i 0 = 2048 * e0 := by rw [h3]; rfl
  have h31 : k0_off3 i 1 = 128 := by rw [h3]; rfl
  by_cases hb : b.val = e0
  · rw [if_pos hb]
    fin_cases j
    · refine (put_out _ _ _ _ _ (.inr (.inr (.inl ?_)))).trans ((put_in _ _ _ _ _ q l ?_ ?_).trans ((dqL_at x0 x1 x2 x3 x4 x5 _ q l).trans ?_))
      · rw [h31]; show 128 * 0 + l.val < 128; omega
      · rw [h20]; show 2048 * b.val + q.val = _; omega
      · rw [h21]; show 128 * 0 + l.val = 0 + l.val; omega
      · refine congrArg (· + _) (window_ix Z _ _ _ _ q l ?_ ?_)
        · rw [h20]; show 2048 * b.val + q.val = _; omega
        · rw [h21]; show 128 * 0 + l.val = 0 + l.val; omega
    · refine (put_in _ _ _ _ _ q l ?_ ?_).trans ((dqR_at x0 x1 x2 x3 x4 x5 _ q l).trans ?_)
      · rw [h30]; show 2048 * b.val + q.val = _; omega
      · rw [h31]; show 128 * 1 + l.val = 128 + l.val; omega
      · refine congrArg (· + _) (window_ix Z _ _ _ _ q l ?_ ?_)
        · rw [h30]; show 2048 * b.val + q.val = _; omega
        · rw [h31]; show 128 * 1 + l.val = 128 + l.val; omega
  · rw [if_neg hb]
    refine (put_out _ _ _ _ _ ?_).trans (put_out _ _ _ _ _ ?_)
    · rw [h30]; show 2048 * b.val + q.val < _ ∨ _ ≤ 2048 * b.val + q.val ∨ _; omega
    · rw [h20]; show 2048 * b.val + q.val < _ ∨ _ ≤ 2048 * b.val + q.val ∨ _; omega

theorem dqFrom_at (i : grid0.Coords) (e0 : ℕ) (h1 : k0_off1 i = ![2048 * e0, 0]) (Y : Vec Ideal S8192x256 .f32) (b : Fin 4) (q : Fin 2048)
    (c : Fin 256) (hb : b.val = e0) : dqFrom i Y (ix2 (qrow b q) c) = if firstK i then 0 else Y (ix2 (qrow b q) c) := by
  unfold dqFrom
  split_ifs
  · refine (put_in _ _ _ _ _ q c ?_ ?_).trans ?_
    · rw [h1]; show 2048 * b.val + q.val = 2048 * e0 + q.val; omega
    · rw [h1]; show c.val = 0 + c.val; omega
    · pointwise [k0_pay9]
  · rfl

theorem dqFrom_off (i : grid0.Coords) (e0 : ℕ) (h1 : k0_off1 i = ![2048 * e0, 0]) (Y : Vec Ideal S8192x256 .f32) (b : Fin 4) (q : Fin 2048)
    (c : Fin 256) (hb : b.val ≠ e0) : dqFrom i Y (ix2 (qrow b q) c) = Y (ix2 (qrow b q) c) := by
  unfold dqFrom
  split_ifs
  · refine put_out _ _ _ _ _ ?_
    have := q.isLt
    rw [h1]; show 2048 * b.val + q.val < 2048 * e0 ∨ 2048 * e0 + 2048 ≤ 2048 * b.val + q.val ∨ _; omega
  · rfl

end Blocks

theorem point : ∀ t : Fin grid0.N, (firstQ (grid0.coords t) ↔ t.val % 4 = 0) ∧ (firstK (grid0.coords t) ↔ t.val / 4 % 8 = 0)
    ∧ k0_off1 (grid0.coords t) = ![2048 * (t.val % 4), 0] ∧ k0_off2 (grid0.coords t) = ![2048 * (t.val % 4), 0]
    ∧ k0_off3 (grid0.coords t) = ![2048 * (t.val % 4), 128] := by decide +kernel

variable (m : (ℓ : Loc nD τ sig) → Buf (Elt Ideal) ℓ) (c : Dev nD)

/-- A point's terms, zero past the grid. -/
def dkP (n : ℕ) (k : Fin 1024) (j : Fin 2) (l : Fin 128) : EReal := if h : n < cfg0.N then
  dkT (iblk m c 0 ⟨n, h⟩) (iblk m c 1 ⟨n, h⟩) (iblk m c 2 ⟨n, h⟩) (iblk m c 3 ⟨n, h⟩) (iblk m c 4 ⟨n, h⟩) (iblk m c 5 ⟨n, h⟩) k j l else 0
def dvP (n : ℕ) (k : Fin 1024) (l : Fin 128) : EReal := if h : n < cfg0.N then
  dvT (iblk m c 0 ⟨n, h⟩) (iblk m c 1 ⟨n, h⟩) (iblk m c 3 ⟨n, h⟩) (iblk m c 4 ⟨n, h⟩) k l else 0
def dqP (n : ℕ) (q : Fin 2048) (j : Fin 2) (l : Fin 128) : EReal := if h : n < cfg0.N then
  dqT (iblk m c 0 ⟨n, h⟩) (iblk m c 1 ⟨n, h⟩) (iblk m c 2 ⟨n, h⟩) (iblk m c 3 ⟨n, h⟩) (iblk m c 4 ⟨n, h⟩) (iblk m c 5 ⟨n, h⟩) q j l else 0

theorem fetch_out (w : Fin cfg0.W) (h : 6 ≤ w.val) (t : Fin cfg0.N) : (cfg0.win w).fetch t = false := by
  fin_cases w <;> first | rfl | (exfalso; revert h; decide)

theorem leaves7 : ∀ (n : ℕ) (h : n < cfg0.N) (X), (rdat m c).Leaves 7 ⟨n, h⟩ X → ∀ (k : Fin 1024) (j : Fin 2) (l : Fin 128),
    X (ix2 k (lane j l)) = ∑ s ∈ Finset.range (n % 4 + 1), dkP m c (n - n % 4 + s) k j l := by
  intro n
  induction n using Nat.strong_induction_on with
  | _ n ih =>
    intro h X ⟨Y, hY, hX⟩ k j l
    rw [after_7] at hX
    have hp := (point ⟨n, h⟩).1
    have e : X (ix2 k (lane j l)) = dkFrom (grid0.coords ⟨n, h⟩) Y (ix2 k (lane j l)) + dkP m c n k j l := by
      rw [hX]; unfold dkOut dkP; rw [dif_pos h]; exact dkAdd_at _ _ _ _ _ _ _ k j l
    rw [e]
    by_cases h0 : n % 4 = 0
    · have : dkFrom (F := Ideal) (grid0.coords ⟨n, h⟩) Y (ix2 k (lane j l)) = 0 := by
        unfold dkFrom; rw [if_pos (hp.mpr h0)]; pointwise [k0_pay7]
      rw [this, h0]; simp
    · have hn : n ≠ 0 := fun hn => h0 (by rw [hn])
      have : dkFrom (F := Ideal) (grid0.coords ⟨n, h⟩) Y = Y := by unfold dkFrom; rw [if_neg fun hq => h0 (hp.mp hq)]
      rw [this]
      rcases ((rdat m c).finds_of_pos (fetch_out 7 (by decide) ⟨n, h⟩) hn Y).mp hY with hf | hl
      · have := (flush0_7 _).mp hf
        simp only at this
        omega
      · rw [ih (n - 1) (by omega) (by omega) Y hl k j l, show n % 4 + 1 = ((n - 1) % 4 + 1) + 1 by omega, Finset.sum_range_succ _ ((n - 1) % 4 + 1),
          show n - 1 - (n - 1) % 4 = n - n % 4 by omega, show n - n % 4 + ((n - 1) % 4 + 1) = n by omega]

theorem leaves8 : ∀ (n : ℕ) (h : n < cfg0.N) (X), (rdat m c).Leaves 8 ⟨n, h⟩ X → ∀ (k : Fin 1024) (l : Fin 128),
    X (ix2 k l) = ∑ s ∈ Finset.range (n % 4 + 1), dvP m c (n - n % 4 + s) k l := by
  intro n
  induction n using Nat.strong_induction_on with
  | _ n ih =>
    intro h X ⟨Y, hY, hX⟩ k l
    rw [after_8] at hX
    have hp := (point ⟨n, h⟩).1
    have e : X (ix2 k l) = dvFrom (grid0.coords ⟨n, h⟩) Y (ix2 k l) + dvP m c n k l := by
      rw [hX]; unfold dvOut dvP; rw [dif_pos h]; exact dvAdd_at _ _ _ _ _ k l
    rw [e]
    by_cases h0 : n % 4 = 0
    · have : dvFrom (F := Ideal) (grid0.coords ⟨n, h⟩) Y (ix2 k l) = 0 := by
        unfold dvFrom; rw [if_pos (hp.mpr h0)]; pointwise [k0_pay8]
      rw [this, h0]; simp
    · have hn : n ≠ 0 := fun hn => h0 (by rw [hn])
      have : dvFrom (F := Ideal) (grid0.coords ⟨n, h⟩) Y = Y := by unfold dvFrom; rw [if_neg fun hq => h0 (hp.mp hq)]
      rw [this]
      rcases ((rdat m c).finds_of_pos (fetch_out 8 (by decide) ⟨n, h⟩) hn Y).mp hY with hf | hl
      · have := (flush0_8 _).mp hf
        simp only at this
        omega
      · rw [ih (n - 1) (by omega) (by omega) Y hl k l, show n % 4 + 1 = ((n - 1) % 4 + 1) + 1 by omega, Finset.sum_range_succ _ ((n - 1) % 4 + 1),
          show n - 1 - (n - 1) % 4 = n - n % 4 by omega, show n - n % 4 + ((n - 1) % 4 + 1) = n by omega]

/-- How many of a query block's key blocks the points of a head pair up to `n` have added. -/
def visits (n : ℕ) (b : Fin 4) : ℕ := if b.val ≤ n % 4 then n / 4 % 8 + 1 else n / 4 % 8

theorem leaves6 : ∀ (n : ℕ) (h : n < cfg0.N) (X), (rdat m c).Leaves 6 ⟨n, h⟩ X → ∀ (b : Fin 4) (q : Fin 2048) (j : Fin 2) (l : Fin 128),
    0 < visits n b → X (ix2 (qrow b q) (lane j l)) = ∑ s ∈ Finset.range (visits n b), dqP m c (32 * (n / 32) + 4 * s + b.val) q j l := by
  intro n
  induction n using Nat.strong_induction_on with
  | _ n ih =>
    intro h X ⟨Y, hY, hX⟩ b q j l hv
    rw [after_6] at hX
    obtain ⟨-, hk, h1, h2, h3⟩ := point ⟨n, h⟩
    simp only at hk h1 h2 h3
    have hb4 := b.isLt
    have e := dqAdd_at (iblk m c 0 ⟨n, h⟩) (iblk m c 1 ⟨n, h⟩) (iblk m c 2 ⟨n, h⟩) (iblk m c 3 ⟨n, h⟩) (iblk m c 4 ⟨n, h⟩) (iblk m c 5 ⟨n, h⟩)
      (grid0.coords ⟨n, h⟩) (n % 4) h2 h3 (dqFrom (grid0.coords ⟨n, h⟩) Y) b q j l
    rw [hX]; unfold dqOut; rw [e]
    -- what the block held before, by the points before
    have hY' : n ≠ 0 → n % 32 ≠ 0 → (rdat m c).Leaves 6 ⟨n - 1, by omega⟩ Y := fun hn h32 => by
      rcases ((rdat m c).finds_of_pos (fetch_out 6 (by decide) ⟨n, h⟩) hn Y).mp hY with hf | hl
      · have := (flush0_6 _).mp hf
        simp only at this
        omega
      · exact hl
    by_cases hb : b.val = n % 4
    · rw [if_pos hb, dqFrom_at _ _ h1 Y b q _ hb]
      have ev : visits n b = n / 4 % 8 + 1 := by unfold visits; rw [if_pos (by omega)]
      have et : dqT (iblk m c 0 ⟨n, h⟩) (iblk m c 1 ⟨n, h⟩) (iblk m c 2 ⟨n, h⟩) (iblk m c 3 ⟨n, h⟩) (iblk m c 4 ⟨n, h⟩) (iblk m c 5 ⟨n, h⟩) q j l
          = dqP m c (32 * (n / 32) + 4 * (n / 4 % 8) + b.val) q j l := by
        rw [show 32 * (n / 32) + 4 * (n / 4 % 8) + b.val = n by omega]; unfold dqP; rw [dif_pos h]
      rw [ev, Finset.sum_range_succ, et]
      refine congrArg (· + _) ?_
      by_cases h0 : n / 4 % 8 = 0
      · rw [if_pos (hk.mpr h0), h0]; simp
      · rw [if_neg fun hf => h0 (hk.mp hf)]
        have ev' : visits (n - 1) b = n / 4 % 8 := by unfold visits; split_ifs <;> omega
        rw [ih (n - 1) (by omega) (by omega) Y (hY' (by omega) (by omega)) b q j l (by omega), ev', show (n - 1) / 32 = n / 32 by omega]
    · rw [if_neg hb, dqFrom_off _ _ h1 Y b q _ hb]
      have h32 : n % 32 ≠ 0 := fun h32 => by unfold visits at hv; rw [if_neg (by omega)] at hv; omega
      have ev' : visits (n - 1) b = visits n b := by unfold visits; split_ifs <;> omega
      rw [ih (n - 1) (by omega) (by omega) Y (hY' (by omega) h32) b q j l (by omega), ev', show (n - 1) / 32 = n / 32 by omega]

theorem index_out : ∀ t : Fin grid0.N, win0_6.index t = ![0, t.val / 32] ∧ win0_7.index t = ![t.val / 4 % 8, t.val / 32]
    ∧ win0_8.index t = ![t.val / 4 % 8, t.val / 32] := by decide +kernel

/-- Row `k` of key block `b`. -/
abbrev krow (b : Fin 8) (k : Fin 1024) : Fin 8192 := ⟨1024 * b.val + k.val, by omega⟩
/-- Lane `l` of head `j` of pair `p`, heads padded to 128 lanes. -/
abbrev hlane (p : Fin 4) (j : Fin 2) (l : Fin 128) : Fin 1024 := ⟨256 * p.val + 128 * j.val + l.val, by omega⟩
/-- Lane `l` of pair `p` of the values, a head's lanes 64. -/
abbrev vlane (p : Fin 4) (l : Fin 128) : Fin 512 := ⟨128 * p.val + l.val, by omega⟩

variable {m c}

theorem array7 {after : (w' : Fin cfg0.W) → Fin cfg0.N → (cfg0.win w').block.Idx → Elt Ideal (cfg0.win w').elt}
    (hL : ∀ u : Fin cfg0.N, (cfg0.win 7).flush u = true → (rdat m c).Leaves 7 u (after 7 u)) (p : Fin 4) (b : Fin 8) (k : Fin 1024) (j : Fin 2) (l : Fin 128) :
    ((rdat m c).withAfter after).arrAt 7 cfg0.N (ix2 (krow b k) (hlane p j l)) = ∑ s ∈ Finset.range 4, dkP m c (32 * p.val + 4 * b.val + s) k j l := by
  refine ((rdat m c).withAfter after).arrAt_forall_of_covers 7 (fun i v => ∀ (p : Fin 4) (b : Fin 8) (k : Fin 1024) (j : Fin 2) (l : Fin 128),
    i = ix2 (krow b k) (hlane p j l) → v = ∑ s ∈ Finset.range 4, dkP m c (32 * p.val + 4 * b.val + s) k j l) (by decide +kernel) (fun t hf y p b k j l e => ?_)
    (ix2 (krow b k) (hlane p j l)) (Memref.isWhole_whole _) p b k j l rfl
  have h3 := (flush0_7 t).mp hf
  have ht : t.val < 128 := t.isLt.trans_eq N_0
  have hi := (index_out t).2.1
  have e0 : t.val / 4 % 8 * 1024 + (y 0).val = 1024 * b.val + k.val := by
    have := congrArg Fin.val (congrFun e 0); blk_simp [hi] at this; exact this
  have e1 : t.val / 32 * 256 + (y 1).val = 256 * p.val + 128 * j.val + l.val := by
    have := congrArg Fin.val (congrFun e 1); blk_simp [hi] at this; exact this
  blk_simp
  have y0 : (y 0).val < 1024 := (y 0).isLt
  have y1 : (y 1).val < 256 := (y 1).isLt
  have ey : y = ix2 k (lane j l) := by
    funext a; fin_cases a
    · exact Fin.ext (show (y 0).val = k.val by omega)
    · exact Fin.ext (show (y 1).val = 128 * j.val + l.val by omega)
  have hv := leaves7 m c t.val t.isLt _ (hL t hf) k j l
  rw [h3, show t.val - 3 = 32 * p.val + 4 * b.val by omega] at hv
  rw [ey]
  exact hv

theorem array8 {after : (w' : Fin cfg0.W) → Fin cfg0.N → (cfg0.win w').block.Idx → Elt Ideal (cfg0.win w').elt}
    (hL : ∀ u : Fin cfg0.N, (cfg0.win 8).flush u = true → (rdat m c).Leaves 8 u (after 8 u)) (p : Fin 4) (b : Fin 8) (k : Fin 1024) (l : Fin 128) :
    ((rdat m c).withAfter after).arrAt 8 cfg0.N (ix2 (krow b k) (vlane p l)) = ∑ s ∈ Finset.range 4, dvP m c (32 * p.val + 4 * b.val + s) k l := by
  refine ((rdat m c).withAfter after).arrAt_forall_of_covers 8 (fun i v => ∀ (p : Fin 4) (b : Fin 8) (k : Fin 1024) (l : Fin 128),
    i = ix2 (krow b k) (vlane p l) → v = ∑ s ∈ Finset.range 4, dvP m c (32 * p.val + 4 * b.val + s) k l) (by decide +kernel) (fun t hf y p b k l e => ?_)
    (ix2 (krow b k) (vlane p l)) (Memref.isWhole_whole _) p b k l rfl
  have h3 := (flush0_8 t).mp hf
  have ht : t.val < 128 := t.isLt.trans_eq N_0
  have hi := (index_out t).2.2
  have e0 : t.val / 4 % 8 * 1024 + (y 0).val = 1024 * b.val + k.val := by
    have := congrArg Fin.val (congrFun e 0); blk_simp [hi] at this; exact this
  have e1 : t.val / 32 * 128 + (y 1).val = 128 * p.val + l.val := by
    have := congrArg Fin.val (congrFun e 1); blk_simp [hi] at this; exact this
  blk_simp
  have y0 : (y 0).val < 1024 := (y 0).isLt
  have y1 : (y 1).val < 128 := (y 1).isLt
  have ey : y = ix2 k l := by
    funext a; fin_cases a
    · exact Fin.ext (show (y 0).val = k.val by omega)
    · exact Fin.ext (show (y 1).val = l.val by omega)
  have hv := leaves8 m c t.val t.isLt _ (hL t hf) k l
  rw [h3, show t.val - 3 = 32 * p.val + 4 * b.val by omega] at hv
  rw [ey]
  exact hv

theorem array6 {after : (w' : Fin cfg0.W) → Fin cfg0.N → (cfg0.win w').block.Idx → Elt Ideal (cfg0.win w').elt}
    (hL : ∀ u : Fin cfg0.N, (cfg0.win 6).flush u = true → (rdat m c).Leaves 6 u (after 6 u)) (p : Fin 4) (b : Fin 4) (q : Fin 2048) (j : Fin 2) (l : Fin 128) :
    ((rdat m c).withAfter after).arrAt 6 cfg0.N (ix2 (qrow b q) (hlane p j l)) = ∑ s ∈ Finset.range 8, dqP m c (32 * p.val + 4 * s + b.val) q j l := by
  refine ((rdat m c).withAfter after).arrAt_forall_of_covers 6 (fun i v => ∀ (p : Fin 4) (b : Fin 4) (q : Fin 2048) (j : Fin 2) (l : Fin 128),
    i = ix2 (qrow b q) (hlane p j l) → v = ∑ s ∈ Finset.range 8, dqP m c (32 * p.val + 4 * s + b.val) q j l) (by decide +kernel) (fun t hf y p b q j l e => ?_)
    (ix2 (qrow b q) (hlane p j l)) (Memref.isWhole_whole _) p b q j l rfl
  have h3 := (flush0_6 t).mp hf
  have ht : t.val < 128 := t.isLt.trans_eq N_0
  have hi := (index_out t).1
  have e0 : (y 0).val = 2048 * b.val + q.val := by
    have := congrArg Fin.val (congrFun e 0); blk_simp [hi] at this; exact this
  have e1 : t.val / 32 * 256 + (y 1).val = 256 * p.val + 128 * j.val + l.val := by
    have := congrArg Fin.val (congrFun e 1); blk_simp [hi] at this; exact this
  blk_simp
  have y0 : (y 0).val < 8192 := (y 0).isLt
  have y1 : (y 1).val < 256 := (y 1).isLt
  have ey : y = ix2 (qrow b q) (lane j l) := by
    funext a; fin_cases a
    · exact Fin.ext (show (y 0).val = 2048 * b.val + q.val by omega)
    · exact Fin.ext (show (y 1).val = 128 * j.val + l.val by omega)
  have ev : visits t.val b = 8 := by unfold visits; rw [if_pos (by omega)]; omega
  have hv := leaves6 m c t.val t.isLt _ (hL t hf) b q j l (by omega)
  rw [ev, show t.val / 32 = p.val by omega] at hv
  rw [ey]
  exact hv

variable (m)

/-- The run: each element of the three result arrays. -/
theorem run_sums (ρ : Dev nD → PrngReg) : θ_run defs (onTc (τ := τ) (main (F := Ideal))) ⟨m, fun _ => 0, ρ⟩ (fun r => ∀ c : Dev nD,
      (∀ p b q j l, r.2.mem ((c.tc : Thread nD τ).loc main_v35_0) (ix2 (qrow b q) (hlane p j l)) = ∑ s ∈ Finset.range 8, dqP m c (32 * p.val + 4 * s + b.val) q j l)
      ∧ (∀ p b k j l, r.2.mem ((c.tc : Thread nD τ).loc main_v35_1) (ix2 (krow b k) (hlane p j l)) = ∑ s ∈ Finset.range 4, dkP m c (32 * p.val + 4 * b.val + s) k j l)
      ∧ (∀ p b k l, r.2.mem ((c.tc : Thread nD τ).loc main_v35_2) (ix2 (krow b k) (vlane p l)) = ∑ s ∈ Finset.range 4, dvP m c (32 * p.val + 4 * b.val + s) k l)) := by
  refine (θ_run defs _ _).mono (fun r h c => ?_) (run_quiescent m ρ)
  obtain ⟨after, hL, hA⟩ := RDat.FramePost.exists_exact h.1 c
  exact ⟨fun p b q j l => (congrFun (hA 6) _).trans (array6 (hL 6) p b q j l), fun p b k j l => (congrFun (hA 7) _).trans (array7 (hL 7) p b k j l),
    fun p b k l => (congrFun (hA 8) _).trans (array8 (hL 8) p b k l)⟩

end Cert.FlashBwdIdeal.Hand

end
-- ==== Proof.Attn.lean ====
/-
  The attention gradient as mathematics: the quantities of one head over the extended reals, and, where the arguments are
  reals, the kernel's form of the gradient of the scores equal to the differentiated softmax's.
-/
module

public import Idealize.ShloMosaic.Lib.Pipeline.ValueKit

@[expose] public section

noncomputable section

namespace Attn

open Idealize.ShloMosaic

/-- The scale of the scores, as both programs hold it. -/
abbrev σ : EReal := Ideal.ofBits .f32 0x3DD105EC#32

variable (Q K : Fin 8192 → Fin 8 → Fin 96 → EReal) (W D : Fin 8192 → Fin 8 → Fin 64 → EReal)

def A (h : Fin 8) (q k : Fin 8192) : EReal := (∑ d, Q q h d * K k h d) * σ
def M (h : Fin 8) (q : Fin 8192) : EReal := Finset.univ.fold max (Ideal.ofBits .f32 0xFF800000#32) fun k => A Q K h q k
def E (h : Fin 8) (q k : Fin 8192) : EReal := Ideal.exp (A Q K h q k - M Q K h q)
def L (h : Fin 8) (q : Fin 8192) : EReal := ∑ k, E Q K h q k
def P (h : Fin 8) (q k : Fin 8192) : EReal := Ideal.div (E Q K h q k) (L Q K h q)
/-- The log-sum-exp of a row, in the units of the unscaled scores. -/
def lvl (h : Fin 8) (q : Fin 8192) : EReal := Ideal.div (M Q K h q + Ideal.log (L Q K h q)) σ
def dP (h : Fin 8) (q k : Fin 8192) : EReal := ∑ d, D q h d * W k h d
/-- The row sums of the output's gradient times the output. -/
def delta (h : Fin 8) (q : Fin 8192) : EReal := ∑ d, D q h d * ∑ k, P Q K h q k * W k h d
/-- The gradient of the scores, as the differentiated softmax has it. -/
def dS (h : Fin 8) (q k : Fin 8192) : EReal :=
  (Ideal.div (dP W D h q k) (L Q K h q) + -(∑ k', dP W D h q k' * Ideal.div (Ideal.ofBits .f32 0x3F800000#32) (L Q K h q * L Q K h q) * E Q K h q k')) * E Q K h q k * σ

theorem σ_eq : σ = (((3424635 : ℝ) / 33554432 : ℝ) : EReal) := by
  simp [Ideal.ofBits, Ideal.ieee, -EReal.coe_mul]; norm_num
theorem one_eq : Ideal.ofBits .f32 0x3F800000#32 = (((1 : ℝ)) : EReal) := by
  simp [Ideal.ofBits, Ideal.ieee, -EReal.coe_mul]; norm_num
theorem bot_eq : Ideal.ofBits .f32 0xFF800000#32 = (⊥ : EReal) := by
  simp [Ideal.ofBits, Ideal.ieee, -EReal.coe_mul]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of finitely many reals over a nonempty set is real. -/
theorem fold_max_real {ι : Type} (s : Finset ι) (f : ι → ℝ) : (s = ∅ ∧ s.fold max (⊥ : EReal) (fun i => (f i : EReal)) = ⊥)
    ∨ ∃ r : ℝ, s.fold max (⊥ : EReal) (fun i => (f i : EReal)) = (r : EReal) := by
  classical
  induction s using Finset.induction_on with
  | empty => exact .inl ⟨rfl, rfl⟩
  | insert a s ha ih =>
    refine .inr ?_
    rw [Finset.fold_insert ha]
    rcases ih with ⟨-, e⟩ | ⟨r, e⟩ <;> rw [e]
    · exact ⟨f a, max_eq_left bot_le⟩
    · rcases le_total (f a) r with h | h
      · exact ⟨r, max_eq_right (EReal.coe_le_coe_iff.mpr h)⟩
      · exact ⟨f a, max_eq_left (EReal.coe_le_coe_iff.mpr h)⟩

variable {Q K W D}

section Real

variable {q k : Fin 8192 → Fin 8 → Fin 96 → ℝ} {w d : Fin 8192 → Fin 8 → Fin 64 → ℝ}
  (hQ : Q = fun n h x => (q n h x : EReal)) (hK : K = fun n h x => (k n h x : EReal))
  (hW : W = fun n h x => (w n h x : EReal)) (hD : D = fun n h x => (d n h x : EReal))

include hQ hK

/-- A head's row of scores and its maximum and sum are reals. -/
theorem row_real (h : Fin 8) (i : Fin 8192) : ∃ (a : Fin 8192 → ℝ) (μ l : ℝ), 0 < l ∧ (∀ n, A Q K h i n = (a n : EReal)) ∧ M Q K h i = (μ : EReal)
    ∧ (∀ n, E Q K h i n = (Real.exp (a n - μ) : EReal)) ∧ L Q K h i = (l : EReal) ∧ (∀ n, (∑ x, Q i h x * K n h x) * σ = (a n : EReal)) := by
  subst hQ hK
  have hA : ∀ n, A (fun n h x => (q n h x : EReal)) (fun n h x => (k n h x : EReal)) h i n
      = (((∑ x, q i h x * k n h x) * (3424635 / 33554432) : ℝ) : EReal) := fun n => by
    unfold A; rw [σ_eq, EReal.coe_mul, ← coe_sum]; simp only [EReal.coe_mul]
  obtain ⟨μ, hμ⟩ : ∃ μ : ℝ, M (fun n h x => (q n h x : EReal)) (fun n h x => (k n h x : EReal)) h i = (μ : EReal) := by
    unfold M
    rw [bot_eq]; simp only [hA]
    rcases fold_max_real Finset.univ (fun n => (∑ x, q i h x * k n h x) * (3424635 / 33554432 : ℝ)) with ⟨e, -⟩ | e
    · exact absurd e (Finset.univ_nonempty.ne_empty)
    · exact e
  have hE : ∀ n, E (fun n h x => (q n h x : EReal)) (fun n h x => (k n h x : EReal)) h i n
      = (Real.exp ((∑ x, q i h x * k n h x) * (3424635 / 33554432) - μ) : EReal) := fun n => by
    unfold E; rw [hA, hμ, ← EReal.coe_sub]; rfl
  refine ⟨_, μ, ∑ n, Real.exp ((∑ x, q i h x * k n h x) * (3424635 / 33554432) - μ), Finset.sum_pos (fun _ _ => Real.exp_pos _) Finset.univ_nonempty, hA, hμ, hE, ?_, hA⟩
  unfold L; simp only [hE]; exact coe_sum _ _

/-- The kernel's probability, a power of two of the unscaled score less the row's level, is the softmax's. -/
theorem prob_eq (κ : EReal) (hκ : κ = ((((3424635 : ℝ) / 33554432) * (1 / Real.log 2) : ℝ) : EReal)) (h : Fin 8) (i j : Fin 8192) :
    Ideal.exp2 (((∑ x, Q i h x * K j h x) - lvl Q K h i) * κ) = P Q K h i j := by
  obtain ⟨a, μ, l, hl, hA, hM, hE, hL, hS⟩ := row_real hQ hK h i
  obtain ⟨s, hs⟩ : ∃ s : ℝ, (∑ x, Q i h x * K j h x) = (s : EReal) := by
    subst hQ hK; exact ⟨∑ x, q i h x * k j h x, by rw [← coe_sum]; simp only [EReal.coe_mul]⟩
  have ha : a j = s * (3424635 / 33554432) := by
    have := hS j; rw [hs, σ_eq, ← EReal.coe_mul] at this; exact (EReal.coe_eq_coe_iff.mp this).symm
  have hlog : Ideal.log (l : EReal) = (Real.log l : EReal) := by
    rw [Ideal.log_coe, if_neg hl.not_ge]
  unfold P lvl
  rw [hs, hM, hL, hE, hlog, σ_eq, ← EReal.coe_add, Ideal.div_coe (by norm_num), Ideal.div_coe hl.ne', hκ,
    ← EReal.coe_mul, ← EReal.coe_sub, ← EReal.coe_mul, Ideal.exp2_coe, ← EReal.coe_mul]
  refine congrArg _ ?_
  have h2 : Real.log 2 ≠ 0 := (Real.log_pos (by norm_num)).ne'
  rw [show ∀ x : ℝ, Real.rpow 2 x = (2 : ℝ) ^ x from fun _ => rfl, Real.rpow_def_of_pos (by norm_num), show Real.log 2 * ((s - (μ + Real.log l) * (1 / (3424635 / 33554432))) * (3424635 / 33554432 * (1 / Real.log 2)))
    = (a j - μ) - Real.log l by rw [ha]; field_simp; ring, Real.exp_sub, Real.exp_log hl]
  ring

include hW hD

/-- THE GRADIENT OF THE SCORES: the kernel's `p (dp - delta) σ` is the differentiated softmax's. -/
theorem ds_eq (h : Fin 8) (i j : Fin 8192) : P Q K h i j * (dP W D h i j - delta Q K W D h i) * σ = dS Q K W D h i j := by
  obtain ⟨a, μ, l, hl, hA, hM, hE, hL, hS⟩ := row_real hQ hK h i
  have hP : ∀ n, P Q K h i n = ((Real.exp (a n - μ) * (1 / l) : ℝ) : EReal) := fun n => by
    unfold P; rw [hE, hL, Ideal.div_coe hl.ne', ← EReal.coe_mul]
  have hdP : ∀ n, dP W D h i n = ((∑ x, d i h x * w n h x : ℝ) : EReal) := fun n => by
    unfold dP; subst hW hD; rw [← coe_sum]; simp only [EReal.coe_mul]
  have hdel : delta Q K W D h i = ((∑ n, Real.exp (a n - μ) * (1 / l) * ∑ x, d i h x * w n h x : ℝ) : EReal) := by
    unfold delta; simp only [hP]; subst hW hD
    simp only [← EReal.coe_mul, coe_sum]
    refine congrArg _ ?_
    simp only [Finset.mul_sum]
    rw [Finset.sum_comm]
    exact Finset.sum_congr rfl fun n _ => Finset.sum_congr rfl fun x _ => by ring
  unfold dS
  rw [hdel, hP]
  simp only [hE, hL, hdP]
  rw [one_eq, ← EReal.coe_mul, Ideal.div_coe (mul_pos hl hl).ne', Ideal.div_coe hl.ne', σ_eq]
  simp only [← EReal.coe_mul, coe_sum, ← EReal.coe_sub, ← EReal.coe_neg, ← EReal.coe_add]
  refine congrArg _ ?_
  have e : ∑ n, (∑ x, d i h x * w n h x) * (1 * (1 / (l * l))) * Real.exp (a n - μ)
      = (1 / l) * ∑ n, Real.exp (a n - μ) * (1 / l) * ∑ x, d i h x * w n h x := by
    rw [Finset.mul_sum]; exact Finset.sum_congr rfl fun n _ => by field_simp
  rw [e]; ring

end Real

end Attn

end
-- ==== Proof.FlashEntry.lean ====
/-
  What the attention gradient's kernel finds in its operands: the host's lines before it, read as the quantities of Attn.lean, and each
  point's blocks at coordinates.
-/
module

public import proofs.«01_k».proof.Proof.FlashAcc
public import proofs.«01_k».proof.Proof.Attn

@[expose] public section

set_option maxRecDepth 16384

noncomputable section

namespace Cert.FlashBwdIdeal.Hand

open Cert.FlashBwdIdeal Cert.FlashBwdIdeal.Gen
open Idealize.ShloMosaic Idealize.ShloMosaic.TcCoe Idealize.SL.Sem
open Idealize.ShloMosaic.Pipeline (RDat)

/-! ## The host's lines, one by one -/

section Host

def h7 (x0 x1 : Vec Ideal S8192x8x96 .f32) : Vec Ideal S8x8192x8192 .f32 :=
  mulf (F := Ideal) (φ := .f32) (Host.dotGeneral (F := Ideal) (φ₁ := .f32) (φ₂ := .f32) dot_S8x8192x96_S8x8192x96_S8x8192x8192_2_2_1_1_0_0 none
    (transpose S8x8192x96 [1, 0, 2] x0 transposes_S8192x8x96_S8x8192x96_1_0_2)
    (transpose S8x8192x96 [1, 0, 2] x1 transposes_S8192x8x96_S8x8192x96_1_0_2))
    (broadcastInDim S8x8192x8192 ![] bcast_S_S8x8192x8192 (constant (F := Ideal) S_ .f32 0x3DD105EC#32))
def h8 (y : Vec Ideal S8x8192x8192 .f32) : Vec Ideal S8x8192 .f32 :=
  Host.reduce (FloatOps.maximumf (F := Ideal) (φ := .f32)) y (constant (F := Ideal) S_ .f32 0xFF800000#32) reducesTo_S8x8192x8192_S8x8192_d2 h_S_
def h12 (y : Vec Ideal S8x8192x8192 .f32) (z : Vec Ideal S8x8192 .f32) : Vec Ideal S8x8192x8192 .f32 :=
  Host.exp (F := Ideal) (φ := .f32) (subf (F := Ideal) (φ := .f32) y (broadcastInDim S8x8192x8192 ![0, 1, 2] bcast_S8x8192x1_S8x8192x8192_0_1_2
    (broadcastInDim S8x8192x1 ![0, 1] bcast_S8x8192_S8x8192x1_0_1 z)))
def h13 (y : Vec Ideal S8x8192x8192 .f32) : Vec Ideal S8x8192 .f32 :=
  Host.reduceAdd (F := Ideal) (φ := .f32) y (constant (F := Ideal) S_ .f32 0x00000000#32) reducesTo_S8x8192x8192_S8x8192_d2 h_S_
def h17 (y : Vec Ideal S8x8192x8192 .f32) (z : Vec Ideal S8x8192 .f32) (x2 : Vec Ideal S8192x8x64 .f32) : Vec Ideal S8x8192x64 .f32 :=
  Host.dotGeneral (F := Ideal) (φ₁ := .f32) (φ₂ := .f32) dot_S8x8192x8192_S8x8192x64_S8x8192x64_2_1_1_2_0_0 none
    (Host.divf (F := Ideal) (φ := .f32) y (broadcastInDim S8x8192x8192 ![0, 1, 2] bcast_S8x8192x1_S8x8192x8192_0_1_2
      (broadcastInDim S8x8192x1 ![0, 1] bcast_S8x8192_S8x8192x1_0_1 z)))
    (transpose S8x8192x64 [1, 0, 2] x2 transposes_S8192x8x64_S8x8192x64_1_0_2)
def h22 (y z : Vec Ideal S8x8192 .f32) : Vec Ideal S4x2x8192 .f32 :=
  shapeCast _ (Host.divf (F := Ideal) (φ := .f32) (addf (F := Ideal) (φ := .f32) (broadcastInDim S8x8192x1 ![0, 1] bcast_S8x8192_S8x8192x1_0_1 y)
      (Host.log (F := Ideal) (φ := .f32) (broadcastInDim S8x8192x1 ![0, 1] bcast_S8x8192_S8x8192x1_0_1 z)))
    (broadcastInDim S8x8192x1 ![] bcast_S_S8x8192x1 (constant (F := Ideal) S_ .f32 0x3DD105EC#32))) shapeCasts_S8x8192x1_S4x2x8192
def h25 (x3 : Vec Ideal S8192x512 .f32) (y : Vec Ideal S8x8192x64 .f32) : Vec Ideal S4x2x8192 .f32 :=
  shapeCast _ (Host.reduceAdd (F := Ideal) (φ := .f32) (mulf (F := Ideal) (φ := .f32) (transpose S8x8192x64 [1, 0, 2] (shapeCast S8192x8x64 x3 shapeCasts_S8192x512_S8192x8x64)
    transposes_S8192x8x64_S8x8192x64_1_0_2) y) (constant (F := Ideal) S_ .f32 0x00000000#32) reducesTo_S8x8192x64_S8x8192_d2 h_S_) shapeCasts_S8x8192_S4x2x8192

theorem h7_at (x0 x1 : Vec Ideal S8192x8x96 .f32) (h : Fin 8) (q k : Fin 8192) :
    h7 x0 x1 (ix3 h q k) = (∑ d : Fin 96, x0 (ix3 q h d) * x1 (ix3 k h d)) * Attn.σ := by pointwise [h7]
theorem h8_at (y : Vec Ideal S8x8192x8192 .f32) (h : Fin 8) (q : Fin 8192) :
    h8 y (ix2 h q) = Finset.univ.fold max (Ideal.ofBits .f32 0xFF800000#32) fun k : Fin 8192 => y (ix3 h q k) := by pointwise [h8]
theorem h12_at (y : Vec Ideal S8x8192x8192 .f32) (z : Vec Ideal S8x8192 .f32) (h : Fin 8) (q k : Fin 8192) :
    h12 y z (ix3 h q k) = Ideal.exp (y (ix3 h q k) - z (ix2 h q)) := by pointwise [h12]
theorem h13_at (y : Vec Ideal S8x8192x8192 .f32) (h : Fin 8) (q : Fin 8192) : h13 y (ix2 h q) = ∑ k : Fin 8192, y (ix3 h q k) := by pointwise [h13]
theorem h17_at (y : Vec Ideal S8x8192x8192 .f32) (z : Vec Ideal S8x8192 .f32) (x2 : Vec Ideal S8192x8x64 .f32) (h : Fin 8) (q : Fin 8192) (d : Fin 64) :
    h17 y z x2 (ix3 h q d) = ∑ k : Fin 8192, Ideal.div (y (ix3 h q k)) (z (ix2 h q)) * x2 (ix3 k h d) := by pointwise [h17]
theorem h22_at (y z : Vec Ideal S8x8192 .f32) (p : Fin 4) (j : Fin 2) (q : Fin 8192) :
    h22 y z (ix3 p j q) = Ideal.div (y (ix2 (⟨p.val * 2 + j.val, by omega⟩ : Fin 8) q) + Ideal.log (z (ix2 (⟨p.val * 2 + j.val, by omega⟩ : Fin 8) q))) Attn.σ := by
  pointwise [h22]
theorem h25_at (x3 : Vec Ideal S8192x512 .f32) (y : Vec Ideal S8x8192x64 .f32) (p : Fin 4) (j : Fin 2) (q : Fin 8192) :
    h25 x3 y (ix3 p j q) = ∑ d : Fin 64, x3 (ix2 q (⟨(p.val * 2 + j.val) * 64 + d.val, by omega⟩ : Fin 512)) * y (ix3 (⟨p.val * 2 + j.val, by omega⟩ : Fin 8) q d) := by
  pointwise [h25]

end Host

variable (m : (ℓ : Loc nD τ sig) → Buf (Elt Ideal) ℓ) (c : Dev nD)

/-- The arguments as functions of row, head and lane. -/
abbrev argQ (n : Fin 8192) (h : Fin 8) (d : Fin 96) : EReal := m ((c.tc : Thread nD τ).loc main_arg0) (ix3 n h d)
abbrev argK (n : Fin 8192) (h : Fin 8) (d : Fin 96) : EReal := m ((c.tc : Thread nD τ).loc main_arg1) (ix3 n h d)
abbrev argV (n : Fin 8192) (h : Fin 8) (d : Fin 64) : EReal := m ((c.tc : Thread nD τ).loc main_arg2) (ix3 n h d)
abbrev argD (n : Fin 8192) (h : Fin 8) (d : Fin 64) : EReal := m ((c.tc : Thread nD τ).loc main_arg3) (ix2 n (⟨h.val * 64 + d.val, by omega⟩ : Fin 512))
/-- Head `j` of pair `p`. -/
abbrev head (p : Fin 4) (j : Fin 2) : Fin 8 := ⟨p.val * 2 + j.val, by omega⟩

theorem V29 (n : Fin 8192) (x : Fin 1024) : V m c main_v29 (ix2 n x)
    = if h : x.val % 128 < 96 then argQ m c n ⟨x.val / 128, by omega⟩ ⟨x.val % 128, h⟩ else 0 := by
  entry_read
  pointwise

theorem V32 (n : Fin 8192) (x : Fin 1024) : V m c main_v32 (ix2 n x)
    = if h : x.val % 128 < 96 then argK m c n ⟨x.val / 128, by omega⟩ ⟨x.val % 128, h⟩ else 0 := by
  entry_read
  pointwise

theorem V34 (n : Fin 8192) (x : Fin 512) : V m c main_v34 (ix2 n x) = argV m c n ⟨x.val / 64, by omega⟩ ⟨x.val % 64, by omega⟩ := by
  entry_read
  pointwise

theorem V22_eq : V m c main_v22 = h22 (h8 (h7 (m (c, Proc.tc.devRef main_arg0)) (m (c, Proc.tc.devRef main_arg1))))
    (h13 (h12 (h7 (m (c, Proc.tc.devRef main_arg0)) (m (c, Proc.tc.devRef main_arg1)))
      (h8 (h7 (m (c, Proc.tc.devRef main_arg0)) (m (c, Proc.tc.devRef main_arg1)))))) := by
  entry_read
  unfold h22 h13 h12 h8 h7
  rfl

theorem V25_eq : V m c main_v25 = h25 (m (c, Proc.tc.devRef main_arg3)) (h17 (h12 (h7 (m (c, Proc.tc.devRef main_arg0)) (m (c, Proc.tc.devRef main_arg1)))
      (h8 (h7 (m (c, Proc.tc.devRef main_arg0)) (m (c, Proc.tc.devRef main_arg1)))))
    (h13 (h12 (h7 (m (c, Proc.tc.devRef main_arg0)) (m (c, Proc.tc.devRef main_arg1)))
      (h8 (h7 (m (c, Proc.tc.devRef main_arg0)) (m (c, Proc.tc.devRef main_arg1)))))) (m (c, Proc.tc.devRef main_arg2))) := by
  entry_read
  unfold h25 h17 h13 h12 h8 h7
  rfl

theorem V22 (p : Fin 4) (j : Fin 2) (n : Fin 8192) : V m c main_v22 (ix3 p j n) = Attn.lvl (argQ m c) (argK m c) (head p j) n := by
  rw [V22_eq, h22_at]
  simp only [h8_at, h13_at, h12_at, h7_at]
  rfl

theorem V25 (p : Fin 4) (j : Fin 2) (n : Fin 8192) : V m c main_v25 (ix3 p j n)
    = Attn.delta (argQ m c) (argK m c) (argV m c) (argD m c) (head p j) n := by
  rw [V25_eq, h25_at]
  simp only [h17_at, h8_at, h13_at, h12_at, h7_at]
  rfl

/-! ## The blocks -/

theorem index_in : ∀ t : Fin grid0.N, win0_0.index t = ![t.val % 4, t.val / 32] ∧ win0_1.index t = ![t.val / 4 % 8, t.val / 32]
    ∧ win0_2.index t = ![t.val / 4 % 8, t.val / 32] ∧ win0_3.index t = ![t.val % 4, t.val / 32]
    ∧ win0_4.index t = ![t.val / 32, 0, t.val % 4] ∧ win0_5.index t = ![t.val / 32, 0, t.val % 4] := by decide +kernel

/-- A point by head pair, key block and query block. -/
abbrev pt (p : Fin 4) (b : Fin 8) (e : Fin 4) : Fin cfg0.N := ⟨32 * p.val + 4 * b.val + e.val, by rw [show cfg0.N = 128 from N_0]; omega⟩

theorem pt_index (p : Fin 4) (b : Fin 8) (e : Fin 4) : win0_0.index (pt p b e) = ![e.val, p.val] ∧ win0_1.index (pt p b e) = ![b.val, p.val]
    ∧ win0_2.index (pt p b e) = ![b.val, p.val] ∧ win0_3.index (pt p b e) = ![e.val, p.val]
    ∧ win0_4.index (pt p b e) = ![p.val, 0, e.val] ∧ win0_5.index (pt p b e) = ![p.val, 0, e.val] := by
  obtain ⟨e0, e1, e2, e3, e4, e5⟩ := index_in (pt p b e)
  rw [e0, e1, e2, e3, e4, e5]
  simp only
  rw [show (32 * p.val + 4 * b.val + e.val) % 4 = e.val by omega, show (32 * p.val + 4 * b.val + e.val) / 32 = p.val by omega,
    show (32 * p.val + 4 * b.val + e.val) / 4 % 8 = b.val by omega]
  exact ⟨rfl, rfl, rfl, rfl, rfl, rfl⟩

/-- A row of queries or of keys padded with zeros to 128 lanes. -/
abbrev pad (f : Fin 96 → EReal) (l : Fin 128) : EReal := if h : l.val < 96 then f ⟨l.val, h⟩ else 0

theorem b0 (p : Fin 4) (b : Fin 8) (e : Fin 4) (q : Fin 2048) (j : Fin 2) (l : Fin 128) :
    iblk m c 0 (pt p b e) (ix2 q (lane j l)) = pad (argQ m c (qrow e q) (head p j)) l := by
  have hi := (pt_index p b e).1
  have h : iblk m c 0 (pt p b e) (ix2 q (lane j l)) = V m c main_v29 (ix2 (qrow e q) (hlane p j l)) := by
    blk_ext [iblk, hi]
  have h1 : (256 * p.val + 128 * j.val + l.val) / 128 = p.val * 2 + j.val := by omega
  have h2 : (256 * p.val + 128 * j.val + l.val) % 128 = l.val := by omega
  rw [h, V29]
  simp only [h1, h2]

theorem b1 (p : Fin 4) (b : Fin 8) (e : Fin 4) (k : Fin 1024) (j : Fin 2) (l : Fin 128) :
    iblk m c 1 (pt p b e) (ix2 k (lane j l)) = pad (argK m c (krow b k) (head p j)) l := by
  have hi := (pt_index p b e).2.1
  have h : iblk m c 1 (pt p b e) (ix2 k (lane j l)) = V m c main_v32 (ix2 (krow b k) (hlane p j l)) := by
    blk_ext [iblk, hi]
  have h1 : (256 * p.val + 128 * j.val + l.val) / 128 = p.val * 2 + j.val := by omega
  have h2 : (256 * p.val + 128 * j.val + l.val) % 128 = l.val := by omega
  rw [h, V32]
  simp only [h1, h2]

theorem b2 (p : Fin 4) (b : Fin 8) (e : Fin 4) (k : Fin 1024) (l : Fin 128) :
    iblk m c 2 (pt p b e) (ix2 k l) = argV m c (krow b k) (head p ⟨l.val / 64, by omega⟩) ⟨l.val % 64, by omega⟩ := by
  have hi := (pt_index p b e).2.2.1
  have h : iblk m c 2 (pt p b e) (ix2 k l) = V m c main_v34 (ix2 (krow b k) (vlane p l)) := by
    blk_ext [iblk, hi]
  have h1 : (128 * p.val + l.val) / 64 = p.val * 2 + l.val / 64 := by omega
  have h2 : (128 * p.val + l.val) % 64 = l.val % 64 := by omega
  rw [h, V34]
  simp only [h1, h2]

theorem b3 (p : Fin 4) (b : Fin 8) (e : Fin 4) (q : Fin 2048) (l : Fin 128) :
    iblk m c 3 (pt p b e) (ix2 q l) = argD m c (qrow e q) (head p ⟨l.val / 64, by omega⟩) ⟨l.val % 64, by omega⟩ := by
  have hi := (pt_index p b e).2.2.2.1
  have h : iblk m c 3 (pt p b e) (ix2 q l) = V m c main_arg3 (ix2 (qrow e q) (vlane p l)) := by
    blk_ext [iblk, hi]
  have h1 : 128 * p.val + l.val = (p.val * 2 + l.val / 64) * 64 + l.val % 64 := by omega
  rw [h, V_main_arg3]
  exact congrArg (m ((c.tc : Thread nD τ).loc main_arg3)) (congrArg (ix2 (qrow e q)) (Fin.ext h1))

theorem b4 (p : Fin 4) (b : Fin 8) (e : Fin 4) (q : Fin 2048) (j : Fin 2) :
    iblk m c 4 (pt p b e) (ix3 0 j q) = Attn.lvl (argQ m c) (argK m c) (head p j) (qrow e q) := by
  have hi := (pt_index p b e).2.2.2.2.1
  have h : iblk m c 4 (pt p b e) (ix3 0 j q) = V m c main_v22 (ix3 p j (qrow e q)) := by
    blk_ext [iblk, hi]
  rw [h, V22]

theorem b5 (p : Fin 4) (b : Fin 8) (e : Fin 4) (q : Fin 2048) (j : Fin 2) :
    iblk m c 5 (pt p b e) (ix3 0 j q) = Attn.delta (argQ m c) (argK m c) (argV m c) (argD m c) (head p j) (qrow e q) := by
  have hi := (pt_index p b e).2.2.2.2.2
  have h : iblk m c 5 (pt p b e) (ix3 0 j q) = V m c main_v25 (ix3 p j (qrow e q)) := by
    blk_ext [iblk, hi]
  rw [h, V25]

end Cert.FlashBwdIdeal.Hand

end
-- ==== Proof.AttnRef.lean ====
/-
  The reference's attention gradient, read line by line as the quantities of Attn.lean.
-/
module

public import proofs.«01_k».proof.Proof.Attn
public import proofs.«01_k».proof.Proof.Gen.AttentionGradIdeal.Read

@[expose] public section

set_option maxRecDepth 16384

noncomputable section

namespace Cert.AttentionGradIdeal.Hand

open Cert.AttentionGradIdeal Cert.AttentionGradIdeal.Facts₀ Cert.AttentionGradIdeal.Read
open Idealize.ShloMosaic Idealize.ShloMosaic.TcCoe

variable (x0 x1 : (⟨S8192x8x96, .f32⟩ : BufTy).Contents (Elt Ideal)) (x2 : (⟨S8192x8x64, .f32⟩ : BufTy).Contents (Elt Ideal))
  (x3 : (⟨S8192x512, .f32⟩ : BufTy).Contents (Elt Ideal))

abbrev fQ (n : Fin 8192) (h : Fin 8) (d : Fin 96) : EReal := x0 (ix3 n h d)
abbrev fV (n : Fin 8192) (h : Fin 8) (d : Fin 64) : EReal := x2 (ix3 n h d)
abbrev fD (n : Fin 8192) (h : Fin 8) (d : Fin 64) : EReal := x3 (ix2 n (⟨h.val * 64 + d.val, by omega⟩ : Fin 512))

theorem at5 (h : Fin 8) (q k : Fin 8192) : val_main_v5 (F := Ideal) x0 x1 (ix3 h q k) = Attn.A (fQ x0) (fQ x1) h q k := by
  show _ = (∑ d : Fin 96, x0 (ix3 q h d) * x1 (ix3 k h d)) * Attn.σ
  unfold val_main_v5 val_main_v4 val_main_v3 val_main_v0 val_main_v1 val_main_cst
  pointwise

/-- A row's maximum, of any array. -/
def rowMax (y : Vec Ideal S8x8192x8192 .f32) : Vec Ideal S8x8192 .f32 :=
  Host.reduce (FloatOps.maximumf (F := Ideal) (φ := .f32)) y (constant (F := Ideal) S_ .f32 0xFF800000#32) reducesTo_S8x8192x8192_S8x8192_d2 h_S_
theorem rowMax_at (y : Vec Ideal S8x8192x8192 .f32) (h : Fin 8) (q : Fin 8192) :
    rowMax y (ix2 h q) = Finset.univ.fold max (Ideal.ofBits .f32 0xFF800000#32) fun k : Fin 8192 => y (ix3 h q k) := by pointwise [rowMax]
theorem low_at (h : Fin 8) (q : Fin 8192) : val_main_v12 (F := Ideal) (ix2 h q) = Ideal.ofBits .f32 0xFF800000#32 := by
  pointwise [val_main_v12, val_main_cst_2]

theorem at13 (h : Fin 8) (q : Fin 8192) : val_main_v13 (F := Ideal) x0 x1 (ix2 h q) = Attn.M (fQ x0) (fQ x1) h q := by
  have e : val_main_v6 (F := Ideal) x0 x1 = rowMax (val_main_v5 (F := Ideal) x0 x1) := by
    rfl
  have e' : ∀ a b : EReal, FloatOps.maximumf (F := Ideal) (φ := .f32) a b = max a b := fun _ _ => rfl
  rw [val_main_v13_apply, e, low_at, rowMax_at, Attn.bot_eq]
  refine (e' _ _).trans ((max_eq_right bot_le).trans ?_)
  unfold Attn.M
  rw [Attn.bot_eq]
  simp only [at5]

theorem at26 (h : Fin 8) (q k : Fin 8192) : val_main_v26 (F := Ideal) x0 x1 (ix3 h q k) = Attn.E (fQ x0) (fQ x1) h q k := by
  have h5 := at5 x0 x1
  have h13 := at13 x0 x1
  unfold val_main_v26 val_main_v25 val_main_v24 val_main_v23
  generalize val_main_v5 (F := Ideal) x0 x1 = y at h5 ⊢
  generalize val_main_v13 (F := Ideal) x0 x1 = z at h13 ⊢
  pointwise [Attn.E]
  simp only [h5, h13]

theorem at28 (h : Fin 8) (q : Fin 8192) : val_main_v28 (F := Ideal) x0 x1 (ix3 h q 0) = Attn.L (fQ x0) (fQ x1) h q := by
  have h26 := at26 x0 x1
  unfold val_main_v28 val_main_v27
  generalize val_main_v26 (F := Ideal) x0 x1 = y at h26 ⊢
  pointwise [val_main_cst_8, Attn.L]
  simp only [h26]

theorem at30 (h : Fin 8) (q k : Fin 8192) : val_main_v30 (F := Ideal) x0 x1 (ix3 h q k) = Attn.P (fQ x0) (fQ x1) h q k := by
  have h26 := at26 x0 x1
  have h28 := at28 x0 x1
  unfold val_main_v30 val_main_v29
  generalize val_main_v26 (F := Ideal) x0 x1 = y at h26 ⊢
  generalize val_main_v28 (F := Ideal) x0 x1 = z at h28 ⊢
  pointwise [Attn.P]
  simp only [h26]
  rw [← h28]

theorem at41 (h : Fin 8) (q k : Fin 8192) : val_main_v41 (F := Ideal) x2 x3 (ix3 h q k) = Attn.dP (fV x2) (fD x3) h q k := by
  pointwise [val_main_v41, val_main_v38, val_main_v37, val_main_v2, Attn.dP]

theorem at47 (h : Fin 8) (q : Fin 8192) : val_main_v47 (F := Ideal) x0 x1 x2 x3 (ix3 h q 0)
    = -(∑ k, Attn.dP (fV x2) (fD x3) h q k * Ideal.div (Ideal.ofBits .f32 0x3F800000#32) (Attn.L (fQ x0) (fQ x1) h q * Attn.L (fQ x0) (fQ x1) h q)
        * Attn.E (fQ x0) (fQ x1) h q k) := by
  have h26 := at26 x0 x1
  have h28 := at28 x0 x1
  have h41 := at41 x2 x3
  unfold val_main_v47 val_main_v46 val_main_v45 val_main_v44 val_main_v43 val_main_v42 val_main_v33 val_main_v31
  generalize val_main_v26 (F := Ideal) x0 x1 = y at h26 ⊢
  generalize val_main_v28 (F := Ideal) x0 x1 = z at h28 ⊢
  generalize val_main_v41 (F := Ideal) x2 x3 = w at h41 ⊢
  pointwise [val_main_v32, val_main_cst_9, val_main_cst_10]
  simp only [h26, h41]
  rw [← h28]

theorem at55 (h : Fin 8) (q k : Fin 8192) : val_main_v55 (F := Ideal) x0 x1 x2 x3 (ix3 h q k) = Attn.dS (fQ x0) (fQ x1) (fV x2) (fD x3) h q k := by
  have h26 := at26 x0 x1
  have h28 := at28 x0 x1
  have h41 := at41 x2 x3
  have h47 := at47 x0 x1 x2 x3
  unfold val_main_v55 val_main_v53 val_main_v52 val_main_v51 val_main_v50 val_main_v49 val_main_v48
  generalize val_main_v26 (F := Ideal) x0 x1 = y at h26 ⊢
  generalize val_main_v28 (F := Ideal) x0 x1 = z at h28 ⊢
  generalize val_main_v41 (F := Ideal) x2 x3 = w at h41 ⊢
  generalize val_main_v47 (F := Ideal) x0 x1 x2 x3 = u at h47 ⊢
  pointwise [val_main_v54, val_main_cst_11, val_main_cst_12]
  simp only [h26, h41]
  rw [Fin.sum_univ_one, h47, h28]
  rfl

/-- The three results. -/
theorem at63 (n : Fin 8192) (x : Fin 1024) : val_main_v63 (F := Ideal) x0 x1 x2 x3 (ix2 n x) = if h : x.val % 128 < 96 then
    ∑ k, Attn.dS (fQ x0) (fQ x1) (fV x2) (fD x3) ⟨x.val / 128, by omega⟩ n k * fQ x1 k ⟨x.val / 128, by omega⟩ ⟨x.val % 128, h⟩ else 0 := by
  have h55 := at55 x0 x1 x2 x3
  unfold val_main_v63 val_main_v62 val_main_v60 val_main_v57
  generalize val_main_v55 (F := Ideal) x0 x1 x2 x3 = y at h55 ⊢
  pointwise [val_main_v61, val_main_cst_13, val_main_v1]
  simp only [h55]

theorem at65 (n : Fin 8192) (x : Fin 1024) : val_main_v65 (F := Ideal) x0 x1 x2 x3 (ix2 n x) = if h : x.val % 128 < 96 then
    ∑ q, Attn.dS (fQ x0) (fQ x1) (fV x2) (fD x3) ⟨x.val / 128, by omega⟩ q n * fQ x0 q ⟨x.val / 128, by omega⟩ ⟨x.val % 128, h⟩ else 0 := by
  have h55 := at55 x0 x1 x2 x3
  unfold val_main_v65 val_main_v64 val_main_v59 val_main_v56
  generalize val_main_v55 (F := Ideal) x0 x1 x2 x3 = y at h55 ⊢
  pointwise [val_main_v61, val_main_cst_13, val_main_v0]
  simp only [h55]

theorem at66 (n : Fin 8192) (x : Fin 512) : val_main_v66 (F := Ideal) x0 x1 x3 (ix2 n x)
    = ∑ q, fD x3 q ⟨x.val / 64, by omega⟩ ⟨x.val % 64, by omega⟩ * Attn.P (fQ x0) (fQ x1) ⟨x.val / 64, by omega⟩ q n := by
  have h30 := at30 x0 x1
  unfold val_main_v66 val_main_v58 val_main_v40 val_main_v39
  generalize val_main_v30 (F := Ideal) x0 x1 = y at h30 ⊢
  pointwise [val_main_v38, val_main_v37]
  simp only [h30]
  exact Finset.sum_congr rfl fun q _ => congrArg (· * _) (congrArg x3 (congrArg (ix2 q) (Fin.ext (show x.val = x.val / 64 * 64 + x.val % 64 by omega))))

end Cert.AttentionGradIdeal.Hand

end
-- ==== Proof.FlashTie.lean ====
/-
  The attention gradient's kernel against its reference: each point's terms as the quantities of Attn.lean, the sums over
  blocks as sums over rows, and the three result arrays.
-/
module

public import proofs.«01_k».proof.Proof.FlashEntry
public import proofs.«01_k».proof.Proof.AttnRef
public import proofs.«01_k».proof.Proof.Finite
public import proofs.«01_k».proof.Pre_flash_finite

@[expose] public section

set_option maxRecDepth 16384

noncomputable section

namespace Cert.FlashBwdIdeal.Hand

open Cert.FlashBwdIdeal Cert.FlashBwdIdeal.Gen
open Idealize.ShloMosaic Idealize.ShloMosaic.TcCoe Idealize.SL.Sem

/-! ## The precondition and the constant -/

section Pre

variable [Cert.Pre_flash_finite.Facts]

/-- The precondition says that every element of the four arguments is a real. -/
theorem finite_of (x0 x1 : Vec Ideal S8192x8x96 .f32) (x2 : Vec Ideal S8192x8x64 .f32) (x3 : Vec Ideal S8192x512 .f32)
    (h : Cert.Pre_flash_finite.fn (F := Ideal) x0 x1 x2 x3 = fun _ => 1#1) :
    (∀ i, (((x0 i : EReal).toReal : ℝ) : EReal) = x0 i) ∧ (∀ i, (((x1 i : EReal).toReal : ℝ) : EReal) = x1 i)
      ∧ (∀ i, (((x2 i : EReal).toReal : ℝ) : EReal) = x2 i) ∧ ∀ i, (((x3 i : EReal).toReal : ℝ) : EReal) = x3 i := by
  have h' := congrFun h (fun a => a.elim0)
  unfold Cert.Pre_flash_finite.fn Cert.Pre_flash_finite.fn_part1 at h'
  obtain ⟨h', h3⟩ := IntOp.andi_eq_one.1 h'
  obtain ⟨h', h2⟩ := IntOp.andi_eq_one.1 h'
  obtain ⟨h0, h1⟩ := IntOp.andi_eq_one.1 h'
  exact ⟨Finite.real_of_all _ _ _ _ _ rfl _ h0, Finite.real_of_all _ _ _ _ _ rfl _ h1, Finite.real_of_all _ _ _ _ _ rfl _ h2,
    Finite.real_of_all _ _ _ _ _ rfl _ h3⟩

end Pre

theorem named_eq : Named.named (F := Ideal) κ "scale_log2e" (φ := .f32) 0x3E16C740#32
    = ((((3424635 : ℝ) / 33554432) * (1 / Real.log 2) : ℝ) : EReal) := by
  rw [one_div]; rfl

/-! ## The sums over lanes -/

theorem pad_sum (f g : Fin 96 → EReal) : ∑ l : Fin 128, pad f l * pad g l = ∑ d : Fin 96, f d * g d := by
  refine (Fin.sum_univ_add (a := 96) (b := 32) (fun l : Fin 128 => pad f l * pad g l)).trans ?_
  rw [Finset.sum_eq_zero (s := (Finset.univ : Finset (Fin 32))), add_zero]
  · refine Finset.sum_congr rfl fun d _ => ?_
    have h : (Fin.castAdd 32 d).val < 96 := d.isLt
    unfold pad
    rw [dif_pos h, dif_pos h]
    rfl
  · intro d _
    have h : ¬ (Fin.natAdd 96 d).val < 96 := by simp
    unfold pad
    rw [dif_neg h, zero_mul]

/-- A product summed over both heads' lanes, one factor zero off head `j`'s. -/
theorem half_sum (f g : Fin 2 → Fin 64 → EReal) (j : Fin 2) :
    ∑ l : Fin 128, f ⟨l.val / 64, by omega⟩ ⟨l.val % 64, by omega⟩ * (if l.val / 64 = j.val then g ⟨l.val / 64, by omega⟩ ⟨l.val % 64, by omega⟩ else 0)
      = ∑ d : Fin 64, g j d * f j d := by
  have e : ∀ (s : Fin 2) (d : Fin 64) (l : Fin 128), l.val = s.val * 64 + d.val →
      f ⟨l.val / 64, by omega⟩ ⟨l.val % 64, by omega⟩ * (if l.val / 64 = j.val then g ⟨l.val / 64, by omega⟩ ⟨l.val % 64, by omega⟩ else 0)
        = if s = j then g s d * f s d else 0 := fun s d l hl => by
    have h1 : l.val / 64 = s.val := by omega
    have h2 : l.val % 64 = d.val := by omega
    simp only [h1, h2, Fin.eta, Fin.val_inj]
    split_ifs
    · exact mul_comm _ _
    · exact mul_zero _
  refine (Fin.sum_mul_add_congr (S := 2) (n := 64) fun s d hl => (e s d ⟨_, hl⟩ rfl).symm).symm.trans ?_
  rw [Finset.sum_eq_single j]
  · simp
  · intro s _ hs; simp [hs]
  · simp

/-! ## A point's terms -/

section Point

variable (m : (ℓ : Loc nD τ sig) → Buf (Elt Ideal) ℓ) (c : Dev nD)

/-- Every element of the arguments is a real. -/
structure Reals : Prop where
  q : argQ m c = fun n h x => (((argQ m c n h x).toReal : ℝ) : EReal)
  k : argK m c = fun n h x => (((argK m c n h x).toReal : ℝ) : EReal)
  v : argV m c = fun n h x => (((argV m c n h x).toReal : ℝ) : EReal)
  d : argD m c = fun n h x => (((argD m c n h x).toReal : ℝ) : EReal)

variable {m c} (hr : Reals m c)

include hr

theorem pT_pt (p : Fin 4) (b : Fin 8) (e : Fin 4) (j : Fin 2) (k : Fin 1024) (q : Fin 2048) :
    pT (iblk m c 0 (pt p b e)) (iblk m c 1 (pt p b e)) (iblk m c 4 (pt p b e)) j k q
      = Attn.P (argQ m c) (argK m c) (head p j) (qrow e q) (krow b k) := by
  unfold pT
  simp only [b0, b1, b4]
  rw [pad_sum, Finset.sum_congr rfl (fun x _ => mul_comm (argK m c (krow b k) (head p j) x) (argQ m c (qrow e q) (head p j) x))]
  exact Attn.prob_eq hr.q hr.k _ named_eq (head p j) (qrow e q) (krow b k)

theorem dsT_pt (p : Fin 4) (b : Fin 8) (e : Fin 4) (j : Fin 2) (k : Fin 1024) (q : Fin 2048) :
    dsT (iblk m c 0 (pt p b e)) (iblk m c 1 (pt p b e)) (iblk m c 2 (pt p b e)) (iblk m c 3 (pt p b e)) (iblk m c 4 (pt p b e)) (iblk m c 5 (pt p b e)) j k q
      = Attn.dS (argQ m c) (argK m c) (argV m c) (argD m c) (head p j) (qrow e q) (krow b k) := by
  have h : ∀ (y : Vec Ideal S1024x128 .bf16) (z : Vec Ideal S2048x128 .f32), y = iblk m c 2 (pt p b e) → z = iblk m c 3 (pt p b e) →
      (∑ l : Fin 128, y (ix2 k l) * doT z j q l) = Attn.dP (argV m c) (argD m c) (head p j) (qrow e q) (krow b k) := by
    rintro _ _ rfl rfl
    unfold doT
    simp only [b2, b3]
    exact half_sum (fun s d => argV m c (krow b k) (head p s) d) (fun s d => argD m c (qrow e q) (head p s) d) j
  unfold dsT
  rw [pT_pt hr, h _ _ rfl rfl, b5]
  exact Attn.ds_eq hr.q hr.k hr.v hr.d (head p j) (qrow e q) (krow b k)

theorem dvT_pt (p : Fin 4) (b : Fin 8) (e : Fin 4) (k : Fin 1024) (l : Fin 128) :
    dvT (iblk m c 0 (pt p b e)) (iblk m c 1 (pt p b e)) (iblk m c 3 (pt p b e)) (iblk m c 4 (pt p b e)) k l
      = ∑ q : Fin 2048, argD m c (qrow e q) (head p ⟨l.val / 64, by omega⟩) ⟨l.val % 64, by omega⟩
          * Attn.P (argQ m c) (argK m c) (head p ⟨l.val / 64, by omega⟩) (qrow e q) (krow b k) := by
  unfold dvT doT
  simp only [pT_pt hr, b3]
  rcases (show l.val / 64 = 0 ∨ l.val / 64 = 1 by omega) with h | h
  · simp only [h, Fin.val_zero, Fin.val_one, if_true, zero_ne_one, if_false, mul_zero, Finset.sum_const_zero, add_zero]
    exact Finset.sum_congr rfl fun q _ => mul_comm _ _
  · simp only [h, Fin.val_zero, Fin.val_one, if_true, one_ne_zero, if_false, mul_zero, Finset.sum_const_zero, zero_add]
    exact Finset.sum_congr rfl fun q _ => mul_comm _ _

/-! ## The sums over blocks -/

theorem dq_sum (p b : Fin 4) (q : Fin 2048) (j : Fin 2) (l : Fin 128) :
    (∑ s ∈ Finset.range 8, dqP m c (32 * p.val + 4 * s + b.val) q j l)
      = ∑ k : Fin 8192, Attn.dS (argQ m c) (argK m c) (argV m c) (argD m c) (head p j) (qrow b q) k * pad (argK m c k (head p j)) l := by
  rw [Finset.sum_range]
  refine Eq.trans (Finset.sum_congr rfl fun s _ => (show _ = ∑ k : Fin 1024, Attn.dS (argQ m c) (argK m c) (argV m c) (argD m c) (head p j) (qrow b q) (krow s k)
    * pad (argK m c (krow s k) (head p j)) l from ?_)) (Fin.sum_mul_add_congr (S := 8) (n := 1024) fun s k hl => ?_)
  · refine (dif_pos (pt p s b).isLt).trans ?_
    show dqT (iblk m c 0 (pt p s b)) (iblk m c 1 (pt p s b)) (iblk m c 2 (pt p s b)) (iblk m c 3 (pt p s b)) (iblk m c 4 (pt p s b)) (iblk m c 5 (pt p s b)) q j l = _
    unfold dqT
    simp only [dsT_pt hr, b1]
  · have e : krow s k = ⟨s.val * 1024 + k.val, hl⟩ := Fin.ext (by show 1024 * s.val + k.val = s.val * 1024 + k.val; omega)
    rw [e]

theorem dk_sum (p : Fin 4) (b : Fin 8) (k : Fin 1024) (j : Fin 2) (l : Fin 128) :
    (∑ s ∈ Finset.range 4, dkP m c (32 * p.val + 4 * b.val + s) k j l)
      = ∑ q : Fin 8192, Attn.dS (argQ m c) (argK m c) (argV m c) (argD m c) (head p j) q (krow b k) * pad (argQ m c q (head p j)) l := by
  rw [Finset.sum_range]
  refine Eq.trans (Finset.sum_congr rfl fun s _ => (show _ = ∑ q : Fin 2048, Attn.dS (argQ m c) (argK m c) (argV m c) (argD m c) (head p j) (qrow s q) (krow b k)
    * pad (argQ m c (qrow s q) (head p j)) l from ?_)) (Fin.sum_mul_add_congr (S := 4) (n := 2048) fun s q hl => ?_)
  · refine (dif_pos (pt p b s).isLt).trans ?_
    show dkT (iblk m c 0 (pt p b s)) (iblk m c 1 (pt p b s)) (iblk m c 2 (pt p b s)) (iblk m c 3 (pt p b s)) (iblk m c 4 (pt p b s)) (iblk m c 5 (pt p b s)) k j l = _
    unfold dkT
    simp only [dsT_pt hr, b0]
  · have e : qrow s q = ⟨s.val * 2048 + q.val, hl⟩ := Fin.ext (by show 2048 * s.val + q.val = s.val * 2048 + q.val; omega)
    rw [e]

theorem dv_sum (p : Fin 4) (b : Fin 8) (k : Fin 1024) (l : Fin 128) :
    (∑ s ∈ Finset.range 4, dvP m c (32 * p.val + 4 * b.val + s) k l)
      = ∑ q : Fin 8192, argD m c q (head p ⟨l.val / 64, by omega⟩) ⟨l.val % 64, by omega⟩
          * Attn.P (argQ m c) (argK m c) (head p ⟨l.val / 64, by omega⟩) q (krow b k) := by
  rw [Finset.sum_range]
  refine Eq.trans (Finset.sum_congr rfl fun s _ => (show _ = ∑ q : Fin 2048, argD m c (qrow s q) (head p ⟨l.val / 64, by omega⟩) ⟨l.val % 64, by omega⟩
    * Attn.P (argQ m c) (argK m c) (head p ⟨l.val / 64, by omega⟩) (qrow s q) (krow b k) from ?_)) (Fin.sum_mul_add_congr (S := 4) (n := 2048) fun s q hl => ?_)
  · refine (dif_pos (pt p b s).isLt).trans ?_
    exact dvT_pt hr p b s k l
  · have e : qrow s q = ⟨s.val * 2048 + q.val, hl⟩ := Fin.ext (by show 2048 * s.val + q.val = s.val * 2048 + q.val; omega)
    rw [e]

end Point

/-! ## The results -/

section Results

open Cert.AttentionGradIdeal.Read (val_main_v63 val_main_v65 val_main_v66)

variable (m : (ℓ : Loc nD τ sig) → Buf (Elt Ideal) ℓ) (c : Dev nD) (hr : Reals m c)

abbrev a0 : Vec Ideal S8192x8x96 .f32 := m ((c.tc : Thread nD τ).loc main_arg0)
abbrev a1 : Vec Ideal S8192x8x96 .f32 := m ((c.tc : Thread nD τ).loc main_arg1)
abbrev a2 : Vec Ideal S8192x8x64 .f32 := m ((c.tc : Thread nD τ).loc main_arg2)
abbrev a3 : Vec Ideal S8192x512 .f32 := m ((c.tc : Thread nD τ).loc main_arg3)

variable {m c}
include hr

theorem dq_ref (p b : Fin 4) (q : Fin 2048) (j : Fin 2) (l : Fin 128) :
    (∑ s ∈ Finset.range 8, dqP m c (32 * p.val + 4 * s + b.val) q j l)
      = val_main_v63 (F := Ideal) (a0 m c) (a1 m c) (a2 m c) (a3 m c) (ix2 (qrow b q) (hlane p j l)) := by
  have h1 : (hlane p j l).val / 128 = p.val * 2 + j.val := by show (256 * p.val + 128 * j.val + l.val) / 128 = _; omega
  have h2 : (hlane p j l).val % 128 = l.val := by show (256 * p.val + 128 * j.val + l.val) % 128 = _; omega
  rw [dq_sum hr, Cert.AttentionGradIdeal.Hand.at63]
  simp only [h1, h2]
  by_cases h : l.val < 96
  · simp only [pad, dif_pos h]
  · simp only [pad, dif_neg h, mul_zero, Finset.sum_const_zero]

theorem dk_ref (p : Fin 4) (b : Fin 8) (k : Fin 1024) (j : Fin 2) (l : Fin 128) :
    (∑ s ∈ Finset.range 4, dkP m c (32 * p.val + 4 * b.val + s) k j l)
      = val_main_v65 (F := Ideal) (a0 m c) (a1 m c) (a2 m c) (a3 m c) (ix2 (krow b k) (hlane p j l)) := by
  have h1 : (hlane p j l).val / 128 = p.val * 2 + j.val := by show (256 * p.val + 128 * j.val + l.val) / 128 = _; omega
  have h2 : (hlane p j l).val % 128 = l.val := by show (256 * p.val + 128 * j.val + l.val) % 128 = _; omega
  rw [dk_sum hr, Cert.AttentionGradIdeal.Hand.at65]
  simp only [h1, h2]
  by_cases h : l.val < 96
  · simp only [pad, dif_pos h]
  · simp only [pad, dif_neg h, mul_zero, Finset.sum_const_zero]

theorem dv_ref (p : Fin 4) (b : Fin 8) (k : Fin 1024) (l : Fin 128) :
    (∑ s ∈ Finset.range 4, dvP m c (32 * p.val + 4 * b.val + s) k l)
      = val_main_v66 (F := Ideal) (a0 m c) (a1 m c) (a3 m c) (ix2 (krow b k) (vlane p l)) := by
  have h1 : (vlane p l).val / 64 = p.val * 2 + l.val / 64 := by show (128 * p.val + l.val) / 64 = _; omega
  have h2 : (vlane p l).val % 64 = l.val % 64 := by show (128 * p.val + l.val) % 64 = _; omega
  rw [dv_sum hr, Cert.AttentionGradIdeal.Hand.at66]
  simp only [h1, h2]

end Results

/-- THE RUN: under the precondition the three result arrays are the reference's. -/
theorem run_value (m : (ℓ : Loc nD τ sig) → Buf (Elt Ideal) ℓ) (ρ : Dev nD → PrngReg) (hr : ∀ c, Reals m c) :
    θ_run (defs (F := Ideal)) (onTc (τ := τ) (main (F := Ideal))) ⟨m, fun _ => 0, ρ⟩ (fun r => ∀ c : Dev nD,
      r.2.mem ((c.tc : Thread nD τ).loc main_v35_0) = Cert.AttentionGradIdeal.Read.val_main_v63 (F := Ideal) (a0 m c) (a1 m c) (a2 m c) (a3 m c)
      ∧ r.2.mem ((c.tc : Thread nD τ).loc main_v35_1) = Cert.AttentionGradIdeal.Read.val_main_v65 (F := Ideal) (a0 m c) (a1 m c) (a2 m c) (a3 m c)
      ∧ r.2.mem ((c.tc : Thread nD τ).loc main_v35_2) = Cert.AttentionGradIdeal.Read.val_main_v66 (F := Ideal) (a0 m c) (a1 m c) (a3 m c)) := by
  refine (θ_run (defs (F := Ideal)) _ _).mono (fun r h c => ?_) (run_sums m ρ)
  obtain ⟨h0, h1, h2⟩ := h c
  refine ⟨funext fun i => ?_, funext fun i => ?_, funext fun i => ?_⟩
  · idx_vars i
    have en : i0 = qrow ⟨i0.val / 2048, by omega⟩ ⟨i0.val % 2048, by omega⟩ := Fin.ext (by show i0.val = 2048 * (i0.val / 2048) + i0.val % 2048; omega)
    have ex : i1 = hlane ⟨i1.val / 256, by omega⟩ ⟨i1.val / 128 % 2, by omega⟩ ⟨i1.val % 128, by omega⟩ :=
      Fin.ext (by show i1.val = 256 * (i1.val / 256) + 128 * (i1.val / 128 % 2) + i1.val % 128; omega)
    rw [en, ex]
    exact (h0 _ _ _ _ _).trans (dq_ref (hr c) _ _ _ _ _)
  · idx_vars i
    have en : i0 = krow ⟨i0.val / 1024, by omega⟩ ⟨i0.val % 1024, by omega⟩ := Fin.ext (by show i0.val = 1024 * (i0.val / 1024) + i0.val % 1024; omega)
    have ex : i1 = hlane ⟨i1.val / 256, by omega⟩ ⟨i1.val / 128 % 2, by omega⟩ ⟨i1.val % 128, by omega⟩ :=
      Fin.ext (by show i1.val = 256 * (i1.val / 256) + 128 * (i1.val / 128 % 2) + i1.val % 128; omega)
    rw [en, ex]
    exact (h1 _ _ _ _ _).trans (dk_ref (hr c) _ _ _ _ _)
  · idx_vars i
    have en : i0 = krow ⟨i0.val / 1024, by omega⟩ ⟨i0.val % 1024, by omega⟩ := Fin.ext (by show i0.val = 1024 * (i0.val / 1024) + i0.val % 1024; omega)
    have ex : i1 = vlane ⟨i1.val / 128, by omega⟩ ⟨i1.val % 128, by omega⟩ :=
      Fin.ext (by show i1.val = 128 * (i1.val / 128) + i1.val % 128; omega)
    rw [en, ex]
    exact (h2 _ _ _ _).trans (dv_ref (hr c) _ _ _ _)

end Cert.FlashBwdIdeal.Hand

end
-- ==== Proof.lean ====
/-
  THE CLAIMS, put together: each program's frame, each reference's run, and each kernel's value against its reference. The
  modules under Proof/ prove the parts.
-/
module

public import proofs.«01_k».proof.Defs
public import proofs.«01_k».proof.Proof.Gen.FfnDownBwd.Frame
public import proofs.«01_k».proof.Proof.Gen.FfnDownBwdIdeal.Value
public import proofs.«01_k».proof.Proof.Gen.FfnDownGradIdeal.Run
public import proofs.«01_k».proof.Proof.Gen.FfnDownGradIdeal.Read
public import proofs.«01_k».proof.Proof.Gen.Pre_down_finite
public import proofs.«01_k».proof.Proof.DownTie
public import proofs.«01_k».proof.Proof.Gen.FfnUpBwdX.Frame
public import proofs.«01_k».proof.Proof.Gen.FfnUpBwdXIdeal.Value
public import proofs.«01_k».proof.Proof.Gen.FfnUpGradXIdeal.Run
public import proofs.«01_k».proof.Proof.Gen.FfnUpGradXIdeal.Read
public import proofs.«01_k».proof.Proof.UpXTie
public import proofs.«01_k».proof.Proof.Gen.FfnUpBwdW.Frame
public import proofs.«01_k».proof.Proof.Gen.FfnUpBwdWIdeal.Value
public import proofs.«01_k».proof.Proof.Gen.FfnUpGradWIdeal.Run
public import proofs.«01_k».proof.Proof.Gen.FfnUpGradWIdeal.Read
public import proofs.«01_k».proof.Proof.UpW
public import proofs.«01_k».proof.Proof.Gen.InProjBwd.Frame
public import proofs.«01_k».proof.Proof.Gen.InProjBwdIdeal.Value
public import proofs.«01_k».proof.Proof.Gen.InProjGradIdeal.Run
public import proofs.«01_k».proof.Proof.Gen.InProjGradIdeal.Read
public import proofs.«01_k».proof.Proof.InTie
public import proofs.«01_k».proof.Proof.Gen.FlashBwd.Frame
public import proofs.«01_k».proof.Proof.Gen.FlashBwd.Skeleton
public import proofs.«01_k».proof.Proof.Gen.FlashBwdIdeal.Frame
public import proofs.«01_k».proof.Proof.Gen.FlashBwdIdeal.Skeleton
public import proofs.«01_k».proof.Proof.Gen.AttentionGradIdeal.Run
public import proofs.«01_k».proof.Proof.Gen.AttentionGradIdeal.Read
public import proofs.«01_k».proof.Proof.Gen.Pre_flash_finite
public import proofs.«01_k».proof.Proof.FlashBitsFrame
public import proofs.«01_k».proof.Proof.FlashTie
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

theorem quiescent_FfnDownGradIdeal : quiescent_FfnDownGradIdeal := fun m ρ _ =>
  (θ_run Cert.FfnDownGradIdeal.defs _ _).mono (fun r h => ⟨fun c => (h c).2.2.2.2, sem_eq_zero_of_no_sems (by decide) r.2⟩)
    (Cert.FfnDownGradIdeal.Value.run (F := Ideal) m ρ)

theorem algebraic_FfnDownBwdIdeal_FfnDownGradIdeal [Cert.Pre_down_finite.Facts] : algebraic_FfnDownBwdIdeal_FfnDownGradIdeal_pre_down_finite := by
  intro m ρ m' ρ' hpre hagree
  refine ⟨_, _, _, _, Cert.FfnDownBwdIdeal.Point.run m ρ, ?_⟩
  refine (θ_run Cert.FfnDownGradIdeal.defs _ _).mono (fun _ h c => ⟨?_, ?_, ?_, ?_, (h c).2.2.2.2⟩)
    (Cert.FfnDownGradIdeal.Value.run (F := Ideal) m' ρ')
  · obtain ⟨h0, h1, h2, h3, h4⟩ := Cert.FfnDownBwdIdeal.Point.finite_of _ _ _ _ _ (hpre c)
    rw [(h c).1, Cert.FfnDownGradIdeal.Read.val_main_v80_eq, (hagree c).1, (hagree c).2.1, (hagree c).2.2.1, (hagree c).2.2.2.1, (hagree c).2.2.2.2]
    exact (Cert.FfnDownBwdIdeal.Point.result7 m c h0 h1 h2 h3 h4).symm
  · rw [(h c).2.1, Cert.FfnDownGradIdeal.Read.val_main_v34_eq, (hagree c).1, (hagree c).2.1, (hagree c).2.2.1, (hagree c).2.2.2.2]
    exact (Cert.FfnDownBwdIdeal.Point.result8 m c).symm
  · obtain ⟨h0, h1, h2, h3, h4⟩ := Cert.FfnDownBwdIdeal.Point.finite_of _ _ _ _ _ (hpre c)
    rw [(h c).2.2.1, Cert.FfnDownGradIdeal.Read.val_main_v82_eq, (hagree c).1, (hagree c).2.1, (hagree c).2.2.1, (hagree c).2.2.2.1, (hagree c).2.2.2.2]
    exact (Cert.FfnDownBwdIdeal.Point.result9 m c h0 h1 h2 h3 h4).symm
  · obtain ⟨h0, h1, h2, h3, h4⟩ := Cert.FfnDownBwdIdeal.Point.finite_of _ _ _ _ _ (hpre c)
    rw [(h c).2.2.2.1, Cert.FfnDownGradIdeal.Read.val_main_v83_eq, (hagree c).1, (hagree c).2.1, (hagree c).2.2.1, (hagree c).2.2.2.1, (hagree c).2.2.2.2]
    exact (Cert.FfnDownBwdIdeal.Point.result10 m c h0 h1 h2 h3 h4).symm

theorem quiescent_FfnUpGradXIdeal : quiescent_FfnUpGradXIdeal := fun m ρ _ =>
  (θ_run Cert.FfnUpGradXIdeal.defs _ _).mono (fun r h => ⟨fun c => (h c).2.2.2, sem_eq_zero_of_no_sems (by decide) r.2⟩)
    (Cert.FfnUpGradXIdeal.Value.run (F := Ideal) m ρ)

theorem algebraic_FfnUpBwdXIdeal_FfnUpGradXIdeal : algebraic_FfnUpBwdXIdeal_FfnUpGradXIdeal := by
  intro m ρ m' ρ' _ hagree
  refine ⟨_, _, _, Cert.FfnUpBwdXIdeal.Value.run (F := Ideal) m ρ, ?_⟩
  refine (θ_run Cert.FfnUpGradXIdeal.defs _ _).mono (fun _ h c => ⟨?_, ?_, ?_, (h c).2.2.2⟩) (Cert.FfnUpGradXIdeal.Value.run (F := Ideal) m' ρ')
  · rw [(h c).1, Cert.FfnUpGradXIdeal.Read.val_main_v85_eq, (hagree c).1, (hagree c).2.1]
    exact (Cert.FfnUpBwdXIdeal.Point.result8 m c).symm
  · rw [(h c).2.1, Cert.FfnUpGradXIdeal.Read.val_main_v86_eq, (hagree c).1, (hagree c).2.1, (hagree c).2.2.1, (hagree c).2.2.2.1,
      (hagree c).2.2.2.2.1, (hagree c).2.2.2.2.2]
    exact (Cert.FfnUpBwdXIdeal.Point.result9 m c).symm
  · rw [(h c).2.2.1, Cert.FfnUpGradXIdeal.Read.val_main_v87_eq, (hagree c).1, (hagree c).2.1, (hagree c).2.2.1, (hagree c).2.2.2.1]
    exact (Cert.FfnUpBwdXIdeal.Point.result10 m c).symm

theorem quiescent_FfnUpGradWIdeal : quiescent_FfnUpGradWIdeal := fun m ρ _ =>
  (θ_run Cert.FfnUpGradWIdeal.defs _ _).mono (fun r h => ⟨fun c => (h c).2, sem_eq_zero_of_no_sems (by decide) r.2⟩)
    (Cert.FfnUpGradWIdeal.Value.run (F := Ideal) m ρ)

theorem algebraic_FfnUpBwdWIdeal_FfnUpGradWIdeal : algebraic_FfnUpBwdWIdeal_FfnUpGradWIdeal := by
  intro m ρ m' ρ' _ hagree
  refine ⟨_, Cert.FfnUpBwdWIdeal.Value.run (F := Ideal) m ρ, ?_⟩
  refine (θ_run Cert.FfnUpGradWIdeal.defs _ _).mono (fun _ h c => ⟨?_, (h c).2⟩) (Cert.FfnUpGradWIdeal.Value.run (F := Ideal) m' ρ')
  rw [(h c).1]
  simp only [hagree c]
  rw [Cert.FfnUpGradWIdeal.Read.val_main_v18_eq]
  funext i
  exact (Cert.FfnUpBwdWIdeal.Sum.result m c i).symm

theorem quiescent_InProjGradIdeal : quiescent_InProjGradIdeal := fun m ρ _ =>
  (θ_run Cert.InProjGradIdeal.defs _ _).mono (fun r h => ⟨fun c => (h c).2.2.2, sem_eq_zero_of_no_sems (by decide) r.2⟩)
    (Cert.InProjGradIdeal.Value.run (F := Ideal) m ρ)

theorem algebraic_InProjBwdIdeal_InProjGradIdeal : algebraic_InProjBwdIdeal_InProjGradIdeal := by
  intro m ρ m' ρ' _ hagree
  refine ⟨_, _, _, Cert.InProjBwdIdeal.Point.run m ρ, ?_⟩
  refine (θ_run Cert.InProjGradIdeal.defs _ _).mono (fun _ h c => ⟨?_, ?_, ?_, (h c).2.2.2⟩)
    (Cert.InProjGradIdeal.Value.run (F := Ideal) m' ρ')
  · rw [(h c).1, Cert.InProjGradIdeal.Read.val_main_v49_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.InProjBwdIdeal.Point.result8 m c).symm
  · rw [(h c).2.1, Cert.InProjGradIdeal.Read.val_main_v51_eq, (hagree c).1, (hagree c).2.1, (hagree c).2.2.2.2.1, (hagree c).2.2.2.2.2.1, (hagree c).2.2.2.2.2.2.1, (hagree c).2.2.2.2.2.2.2]
    exact (Cert.InProjBwdIdeal.Point.result9 m c).symm
  · rw [(h c).2.2.1, Cert.InProjGradIdeal.Read.val_main_v52_eq, (hagree c).1, (hagree c).2.2.1, (hagree c).2.2.2.2.1, (hagree c).2.2.2.2.2.1, (hagree c).2.2.2.2.2.2.1, (hagree c).2.2.2.2.2.2.2]
    exact (Cert.InProjBwdIdeal.Point.result10 m c).symm

theorem quiescent_AttentionGradIdeal : quiescent_AttentionGradIdeal := fun m ρ _ =>
  (θ_run Cert.AttentionGradIdeal.defs _ _).mono (fun r h => ⟨fun c => (h c).2.2.2, sem_eq_zero_of_no_sems (by decide) r.2⟩)
    (Cert.AttentionGradIdeal.Value.run (F := Ideal) m ρ)

theorem preserves_FlashBwd_FlashBwdIdeal : preserves_FlashBwd_FlashBwdIdeal :=
  IdealRules.named_const.statement Cert.FlashBwdIdeal.κ "scale_log2e" .f32 0x3E16C740#32 _ rfl

theorem algebraic_FlashBwdIdeal_AttentionGradIdeal [Cert.Pre_flash_finite.Facts] : algebraic_FlashBwdIdeal_AttentionGradIdeal_pre_flash_finite := by
  intro m ρ m' ρ' hpre hagree
  have hr : ∀ c, Cert.FlashBwdIdeal.Hand.Reals m c := fun c => by
    obtain ⟨h0, h1, h2, h3⟩ := Cert.FlashBwdIdeal.Hand.finite_of _ _ _ _ (hpre c)
    exact ⟨funext fun n => funext fun h => funext fun d => (h0 _).symm, funext fun n => funext fun h => funext fun d => (h1 _).symm,
      funext fun n => funext fun h => funext fun d => (h2 _).symm, funext fun n => funext fun h => funext fun d => (h3 _).symm⟩
  refine ⟨fun c => Cert.AttentionGradIdeal.Read.val_main_v63 (F := Ideal) (Cert.FlashBwdIdeal.Hand.a0 m c) (Cert.FlashBwdIdeal.Hand.a1 m c) (Cert.FlashBwdIdeal.Hand.a2 m c) (Cert.FlashBwdIdeal.Hand.a3 m c),
    fun c => Cert.AttentionGradIdeal.Read.val_main_v65 (F := Ideal) (Cert.FlashBwdIdeal.Hand.a0 m c) (Cert.FlashBwdIdeal.Hand.a1 m c) (Cert.FlashBwdIdeal.Hand.a2 m c) (Cert.FlashBwdIdeal.Hand.a3 m c),
    fun c => Cert.AttentionGradIdeal.Read.val_main_v66 (F := Ideal) (Cert.FlashBwdIdeal.Hand.a0 m c) (Cert.FlashBwdIdeal.Hand.a1 m c) (Cert.FlashBwdIdeal.Hand.a3 m c), ?_, ?_⟩
  · refine (θ_run Cert.FlashBwdIdeal.defs _ _).mono (fun r h c => ?_) (θ_run_and (Cert.FlashBwdIdeal.Hand.run_value m ρ hr) (Cert.FlashBwdIdeal.Hand.frame m ρ))
    exact ⟨(h.1 c).1, (h.1 c).2.1, (h.1 c).2.2, h.2.1 c⟩
  · refine (θ_run Cert.AttentionGradIdeal.defs _ _).mono (fun _ h c => ⟨?_, ?_, ?_, (h c).2.2.2⟩) (Cert.AttentionGradIdeal.Value.run (F := Ideal) m' ρ')
    · rw [(h c).1, Cert.AttentionGradIdeal.Read.val_main_v63_eq, (hagree c).1, (hagree c).2.1, (hagree c).2.2.1, (hagree c).2.2.2]
    · rw [(h c).2.1, Cert.AttentionGradIdeal.Read.val_main_v65_eq, (hagree c).1, (hagree c).2.1, (hagree c).2.2.1, (hagree c).2.2.2]
    · rw [(h c).2.2.1, Cert.AttentionGradIdeal.Read.val_main_v66_eq, (hagree c).1, (hagree c).2.1, (hagree c).2.2.2]

theorem claim : Cert.Claim := ⟨Cert.FfnDownBwd.Gen.facts, Cert.FfnDownBwdIdeal.Gen.facts, Cert.FfnDownGradIdeal.Gen.facts, Cert.FfnUpBwdX.Gen.facts, Cert.FfnUpBwdXIdeal.Gen.facts, Cert.FfnUpGradXIdeal.Gen.facts, Cert.FfnUpBwdW.Gen.facts, Cert.FfnUpBwdWIdeal.Gen.facts, Cert.FfnUpGradWIdeal.Gen.facts, Cert.InProjBwd.Gen.facts, Cert.InProjBwdIdeal.Gen.facts, Cert.InProjGradIdeal.Gen.facts, Cert.FlashBwd.Gen.facts, Cert.FlashBwdIdeal.Gen.facts, Cert.AttentionGradIdeal.Gen.facts, Cert.Pre_down_finite.Gen.facts, Cert.Pre_flash_finite.Gen.facts,
  fun m ρ _ => Cert.FfnDownBwd.Gen.frame m ρ,
  fun m ρ _ => Cert.FfnDownBwdIdeal.Gen.frame m ρ,
  fun m ρ _ => Cert.FfnDownBwdIdeal.Gen.frame m ρ,
  quiescent_FfnDownGradIdeal,
  fun m ρ _ => quiescent_FfnDownGradIdeal m ρ trivial,
  fun m ρ _ => Cert.FfnUpBwdX.Gen.frame m ρ,
  fun m ρ _ => Cert.FfnUpBwdXIdeal.Gen.frame m ρ,
  quiescent_FfnUpGradXIdeal,
  fun m ρ _ => Cert.FfnUpBwdW.Gen.frame m ρ,
  fun m ρ _ => Cert.FfnUpBwdWIdeal.Gen.frame m ρ,
  quiescent_FfnUpGradWIdeal,
  fun m ρ _ => Cert.InProjBwd.Gen.frame m ρ,
  fun m ρ _ => Cert.InProjBwdIdeal.Gen.frame m ρ,
  quiescent_InProjGradIdeal,
  fun m ρ _ => Cert.FlashBwd.Hand.frame m ρ,
  fun m ρ _ => Cert.FlashBwdIdeal.Hand.frame m ρ,
  fun m ρ _ => Cert.FlashBwdIdeal.Hand.frame m ρ,
  quiescent_AttentionGradIdeal,
  fun m ρ _ => quiescent_AttentionGradIdeal m ρ trivial,
  (trivial : preserves_FfnDownBwd_FfnDownBwdIdeal),
  algebraic_FfnDownBwdIdeal_FfnDownGradIdeal,
  (trivial : preserves_FfnUpBwdX_FfnUpBwdXIdeal),
  algebraic_FfnUpBwdXIdeal_FfnUpGradXIdeal,
  (trivial : preserves_FfnUpBwdW_FfnUpBwdWIdeal),
  algebraic_FfnUpBwdWIdeal_FfnUpGradWIdeal,
  (trivial : preserves_InProjBwd_InProjBwdIdeal),
  algebraic_InProjBwdIdeal_InProjGradIdeal,
  preserves_FlashBwd_FlashBwdIdeal,
  algebraic_FlashBwdIdeal_AttentionGradIdeal⟩

end Cert.Proof

end
